-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_rows [hPre_finite_rows : Cert.Pre_finite_rows.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_rows [hPre_finite_rows : Cert.Pre_finite_rows.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_rows.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite_rows.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_rows [hKernel11Ideal : Cert.Kernel11Ideal.Facts] [hPre_finite_rows : Cert.Pre_finite_rows.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_rows m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_rows [hReference11Ideal : Cert.Reference11Ideal.Facts] [hPre_finite_rows : Cert.Pre_finite_rows.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_rows m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_on_tokens [hKernelIdeal : Cert.KernelIdeal.Facts] [hReferenceIdeal : Cert.ReferenceIdeal.Facts] [hOn_tokens : Cert.On_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![128, 8, 2048]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v25_0) i = v0 c i)
          ∧ (∀ i : (⟨4, ![128, 8, 128, 256]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v25_1) i = v1 c i)
          ∧ (∀ i : (⟨4, ![128, 8, 1, 128]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v25_2) i = v2 c i)
          ∧ (∀ i : (⟨4, ![128, 8, 1, 128]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v25_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![128, 8, 2048]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v128) i = v0 c i)
          ∧ (∀ i : (⟨4, ![128, 8, 128, 256]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v89) i = v1 c i)
          ∧ (∀ i : (⟨4, ![128, 8, 1, 128]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v129) i = v2 c i)
          ∧ (∀ i : (⟨4, ![128, 8, 1, 128]⟩ : Shape).Idx, (Cert.On_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v131) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "k1" .f32 0xBDD2D3E8#32 (((12003091 / 268435456) * (-((2 * (6693141 / 8388608)) * (Real.log 2)⁻¹)) : ℝ) : EReal)
  ∧ IdealRules.named_const.Statement Cert.Kernel2Ideal.κ "k0" .f32 0xC0135761#32 ((-((2 * (6693141 / 8388608)) * (Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel6_Kernel6Ideal : Prop :=
  IdealRules.named_const.Statement Cert.Kernel6Ideal.κ "k1" .f32 0xBDD2D3E8#32 (((12003091 / 268435456) * (-((2 * (6693141 / 8388608)) * (Real.log 2)⁻¹)) : ℝ) : EReal)
  ∧ IdealRules.named_const.Statement Cert.Kernel6Ideal.κ "k0" .f32 0xC0135761#32 ((-((2 * (6693141 / 8388608)) * (Real.log 2)⁻¹) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v35_0)) (v1 : (c : Dev Cert.Kernel8Ideal.nD) → Buf (Elt Ideal) ((c.tc : Thread Cert.Kernel8Ideal.nD Cert.Kernel8Ideal.τ).loc Cert.Kernel8Ideal.main_v35_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v35_0) = v0 c
          ∧ r.2.mem ((c.tc : Thread Cert.Kernel8Ideal.nD Cert.Kernel8Ideal.τ).loc Cert.Kernel8Ideal.main_v35_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)) (v2 : (c : Dev Cert.Kernel9Ideal.nD) → Buf (Elt Ideal) ((c.tc : Thread Cert.Kernel9Ideal.nD Cert.Kernel9Ideal.τ).loc Cert.Kernel9Ideal.main_v12_2)) (v3 : (c : Dev Cert.Kernel9Ideal.nD) → Buf (Elt Ideal) ((c.tc : Thread Cert.Kernel9Ideal.nD Cert.Kernel9Ideal.τ).loc Cert.Kernel9Ideal.main_v12_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_v12_2) = v2 c
          ∧ r.2.mem ((c.tc : Thread Cert.Kernel9Ideal.nD Cert.Kernel9Ideal.τ).loc Cert.Kernel9Ideal.main_v12_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v127) = v0 c
          ∧ r.2.mem ((c.tc : Thread Cert.Reference9Ideal.nD Cert.Reference9Ideal.τ).loc Cert.Reference9Ideal.main_v89) = v1 c
          ∧ r.2.mem ((c.tc : Thread Cert.Reference9Ideal.nD Cert.Reference9Ideal.τ).loc Cert.Reference9Ideal.main_v128) = v2 c
          ∧ r.2.mem ((c.tc : Thread Cert.Reference9Ideal.nD Cert.Reference9Ideal.τ).loc Cert.Reference9Ideal.main_v130) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v6_0)) (v1 : (c : Dev Cert.Kernel10Ideal.nD) → Buf (Elt Ideal) ((c.tc : Thread Cert.Kernel10Ideal.nD Cert.Kernel10Ideal.τ).loc Cert.Kernel10Ideal.main_v6_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_v6_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_v32) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite_rows [hKernel11Ideal : Cert.Kernel11Ideal.Facts] [hReference11Ideal : Cert.Reference11Ideal.Facts] [hPre_finite_rows : Cert.Pre_finite_rows.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_rows m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel6 : Cert.Kernel6.Facts) (hKernel6Ideal : Cert.Kernel6Ideal.Facts) (hReference6Ideal : Cert.Reference6Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite_rows : Cert.Pre_finite_rows.Facts) (hOn_tokens : Cert.On_tokens.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_rows (hKernel11Ideal := hKernel11Ideal) (hPre_finite_rows := hPre_finite_rows)
    ∧ quiescent_Reference11Ideal (hReference11Ideal := hReference11Ideal)
    ∧ quiescent_Reference11Ideal_pre_finite_rows (hReference11Ideal := hReference11Ideal) (hPre_finite_rows := hPre_finite_rows)
    ∧ preserves_Kernel_KernelIdeal
    ∧ algebraic_KernelIdeal_ReferenceIdeal_on_tokens (hKernelIdeal := hKernelIdeal) (hReferenceIdeal := hReferenceIdeal) (hOn_tokens := hOn_tokens)
    ∧ preserves_Kernel2_Kernel2Ideal
    ∧ algebraic_Kernel2Ideal_Reference2Ideal (hKernel2Ideal := hKernel2Ideal) (hReference2Ideal := hReference2Ideal)
    ∧ preserves_Kernel6_Kernel6Ideal
    ∧ algebraic_Kernel6Ideal_Reference6Ideal (hKernel6Ideal := hKernel6Ideal) (hReference6Ideal := hReference6Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite (hKernel9Ideal := hKernel9Ideal) (hReference9Ideal := hReference9Ideal) (hPre_finite := hPre_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_rows (hKernel11Ideal := hKernel11Ideal) (hReference11Ideal := hReference11Ideal) (hPre_finite_rows := hPre_finite_rows)
-- ==== On_tokens.lean ====
abbrev S8704x6144 : Shape := ⟨2, ![8704, 6144]⟩
abbrev S8704x128 : Shape := ⟨2, ![8704, 128]⟩
abbrev S1x128x8x128x256 : Shape := ⟨5, ![1, 128, 8, 128, 256]⟩
abbrev S1x128x8x128 : Shape := ⟨4, ![1, 128, 8, 128]⟩
abbrev S1x128x8 : Shape := ⟨3, ![1, 128, 8]⟩
abbrev S1x8x256 : Shape := ⟨3, ![1, 8, 256]⟩
abbrev S128x8x2048 : Shape := ⟨3, ![128, 8, 2048]⟩
abbrev S_ : Shape := ⟨0, ![]⟩
abbrev S128x8x128x256 : Shape := ⟨4, ![128, 8, 128, 256]⟩
abbrev S128x8x1x128 : Shape := ⟨4, ![128, 8, 1, 128]⟩

class Facts : Prop where
  bcast_S_S128x8x2048 : S_.BroadcastsInDim S128x8x2048 (![] : Fin 0 → Fin S128x8x2048.rank)
  bcast_S_S128x8x128x256 : S_.BroadcastsInDim S128x8x128x256 (![] : Fin 0 → Fin S128x8x128x256.rank)
  bcast_S_S128x8x1x128 : S_.BroadcastsInDim S128x8x1x128 (![] : Fin 0 → Fin S128x8x1x128.rank)

variable [Facts]

def fn {F : FTy → Type} [FloatOps F] (main_arg0 : FVec F S8704x6144 .f32) (main_arg1 : FVec F S8704x128 .f32) (main_arg2 : FVec F S1x128x8x128x256 .f32) (main_arg3 : FVec F S1x128x8x128 .f32) (main_arg4 : FVec F S1x128x8 .f32) (main_arg5 : FVec F S1x8x256 .f32) : IVec S128x8x2048 1 × IVec S128x8x128x256 1 × IVec S128x8x1x128 1 × IVec S128x8x1x128 1 :=
  let main_v0 : IVec S128x8x2048 32 := iotaInDim S128x8x2048 32 1
  let main_c : IVec S_ 32 := constantI S_ 32 4#32
  let main_v1 : IVec S128x8x2048 32 := broadcastInDim S128x8x2048 ![] bcast_S_S128x8x2048 main_c
  let main_v2 : IVec S128x8x2048 1 := cmpi .slt main_v0 main_v1
  let main_v3 : IVec S128x8x128x256 32 := iotaInDim S128x8x128x256 32 0
  let main_c_0 : IVec S_ 32 := constantI S_ 32 0#32
  let main_v4 : IVec S128x8x128x256 32 := broadcastInDim S128x8x128x256 ![] bcast_S_S128x8x128x256 main_c_0
  let main_v5 : IVec S128x8x128x256 1 := cmpi .sge main_v3 main_v4
  let main_v6 : IVec S128x8x1x128 32 := iotaInDim S128x8x1x128 32 0
  let main_c_1 : IVec S_ 32 := constantI S_ 32 0#32
  let main_v7 : IVec S128x8x1x128 32 := broadcastInDim S128x8x1x128 ![] bcast_S_S128x8x1x128 main_c_1
  let main_v8 : IVec S128x8x1x128 1 := cmpi .sge main_v6 main_v7
  let main_v9 : IVec S128x8x1x128 32 := iotaInDim S128x8x1x128 32 0
  let main_c_2 : IVec S_ 32 := constantI S_ 32 0#32
  let main_v10 : IVec S128x8x1x128 32 := broadcastInDim S128x8x1x128 ![] bcast_S_S128x8x1x128 main_c_2
  let main_v11 : IVec S128x8x1x128 1 := cmpi .sge main_v9 main_v10
  (main_v2, main_v5, main_v8, main_v11)
-- ==== Pre_finite.lean ====
abbrev S8704x6144 : Shape := ⟨2, ![8704, 6144]⟩
abbrev S8704x128 : Shape := ⟨2, ![8704, 128]⟩
abbrev S1x8x256 : Shape := ⟨3, ![1, 8, 256]⟩
abbrev S8192x4096 : Shape := ⟨2, ![8192, 4096]⟩
abbrev S_ : Shape := ⟨0, ![]⟩
abbrev S8192x16 : Shape := ⟨2, ![8192, 16]⟩

class Facts : Prop where
  slices_S8704x6144_S8192x4096_0_0 : S8704x6144.Slices ![0, 0] S8192x4096
  bcast_S_S8192x4096 : S_.BroadcastsInDim S8192x4096 (![] : Fin 0 → Fin S8192x4096.rank)
  slices_S8704x128_S8192x16_0_0 : S8704x128.Slices ![0, 0] S8192x16
  bcast_S_S8192x16 : S_.BroadcastsInDim S8192x16 (![] : Fin 0 → Fin S8192x16.rank)

variable [Facts]

def fn {F : FTy → Type} [FloatOps F] (main_arg0 : FVec F S8704x6144 .f32) (main_arg1 : FVec F S8704x128 .f32) (main_arg2 : FVec F S1x8x256 .f32) : IVec S8192x4096 1 × IVec S8192x16 1 :=
  let main_v0 : FVec F S8192x4096 .f32 := (extractStridedSlice S8192x4096 ![0, 0] · slices_S8704x6144_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8192x16 .f32 := (extractStridedSlice S8192x16 ![0, 0] · slices_S8704x128_S8192x16_0_0) main_arg1
  let main_v5 : FVec F S8192x16 .f32 := Host.absf main_v4
  let main_cst_0 : FVec F S_ .f32 := constant S_ .f32 0x7F800000#32
  let main_v6 : FVec F S8192x16 .f32 := broadcastInDim S8192x16 ![] bcast_S_S8192x16 main_cst_0
  let main_v7 : IVec S8192x16 1 := cmpf .olt main_v5 main_v6
  (main_v3, main_v7)
-- ==== Pre_finite_rows.lean ====
abbrev S8704x2048 : Shape := ⟨2, ![8704, 2048]⟩
abbrev S1x2048x6160 : Shape := ⟨3, ![1, 2048, 6160]⟩
abbrev S1x16 : Shape := ⟨2, ![1, 16]⟩
abbrev S_ : Shape := ⟨0, ![]⟩
abbrev S1x2048x16 : Shape := ⟨3, ![1, 2048, 16]⟩

class Facts : Prop where
  bcast_S_S8704x2048 : S_.BroadcastsInDim S8704x2048 (![] : Fin 0 → Fin S8704x2048.rank)
  slices_S1x2048x6160_S1x2048x16_0_0_6144 : S1x2048x6160.Slices ![0, 0, 6144] S1x2048x16
  bcast_S_S1x2048x16 : S_.BroadcastsInDim S1x2048x16 (![] : Fin 0 → Fin S1x2048x16.rank)

variable [Facts]

def fn {F : FTy → Type} [FloatOps F] (main_arg0 : FVec F S8704x2048 .f32) (main_arg1 : FVec F S1x2048x6160 .f32) (main_arg2 : FVec F S1x16 .f32) : IVec S8704x2048 1 × IVec S1x2048x16 1 :=
  let main_v0 : FVec F S8704x2048 .f32 := Host.absf main_arg0
  let main_cst : FVec F S_ .f32 := constant S_ .f32 0x7F800000#32
  let main_v1 : FVec F S8704x2048 .f32 := broadcastInDim S8704x2048 ![] bcast_S_S8704x2048 main_cst
  let main_v2 : IVec S8704x2048 1 := cmpf .olt main_v0 main_v1
  let main_v3 : FVec F S1x2048x16 .f32 := (extractStridedSlice S1x2048x16 ![0, 0, 6144] · slices_S1x2048x6160_S1x2048x16_0_0_6144) main_arg1
  let main_v4 : FVec F S1x2048x16 .f32 := Host.absf main_v3
  let main_cst_0 : FVec F S_ .f32 := constant S_ .f32 0x7F800000#32
  let main_v5 : FVec F S1x2048x16 .f32 := broadcastInDim S1x2048x16 ![] bcast_S_S1x2048x16 main_cst_0
  let main_v6 : IVec S1x2048x16 1 := cmpf .olt main_v4 main_v5
  (main_v2, main_v6)
-- ==== Kernel.lean ====
abbrev S8704x6144 : Shape := ⟨2, ![8704, 6144]⟩
abbrev S8704x128 : Shape := ⟨2, ![8704, 128]⟩
abbrev S1x128x8x128x256 : Shape := ⟨5, ![1, 128, 8, 128, 256]⟩
abbrev S1x128x8x128 : Shape := ⟨4, ![1, 128, 8, 128]⟩
abbrev S1x128x8 : Shape := ⟨3, ![1, 128, 8]⟩
abbrev S1x8x256 : Shape := ⟨3, ![1, 8, 256]⟩
abbrev S512x6144 : Shape := ⟨2, ![512, 6144]⟩
abbrev S128x4x6144 : Shape := ⟨3, ![128, 4, 6144]⟩
abbrev S_ : Shape := ⟨0, ![]⟩
abbrev S128x8x6144 : Shape := ⟨3, ![128, 8, 6144]⟩
abbrev S128 : Shape := ⟨1, ![128]⟩
abbrev S512x128 : Shape := ⟨2, ![512, 128]⟩
abbrev S128x4x128 : Shape := ⟨3, ![128, 4, 128]⟩
abbrev S128x8x128 : Shape := ⟨3, ![128, 8, 128]⟩
abbrev S128x8x128x256 : Shape := ⟨4, ![128, 8, 128, 256]⟩
abbrev S128x8 : Shape := ⟨2, ![128, 8]⟩
abbrev S8x256 : Shape := ⟨2, ![8, 256]⟩
abbrev S128x8x16 : Shape := ⟨3, ![128, 8, 16]⟩
abbrev S128x16x8 : Shape := ⟨3, ![128, 16, 8]⟩
abbrev S128x8x1x128 : Shape := ⟨4, ![128, 8, 1, 128]⟩
abbrev S128x8x1x1 : Shape := ⟨4, ![128, 8, 1, 1]⟩
abbrev S8x1x256 : Shape := ⟨3, ![8, 1, 256]⟩
abbrev S128x8x2048 : Shape := ⟨3, ![128, 8, 2048]⟩
abbrev S1x8x1024 : Shape := ⟨3, ![1, 8, 1024]⟩
abbrev S1x8x2048 : Shape := ⟨3, ![1, 8, 2048]⟩
abbrev S1x8x128 : Shape := ⟨3, ![1, 8, 128]⟩
abbrev S1x16x8 : Shape := ⟨3, ![1, 16, 8]⟩
abbrev S1x8x128x256 : Shape := ⟨4, ![1, 8, 128, 256]⟩
abbrev S1x8x1x128 : Shape := ⟨4, ![1, 8, 1, 128]⟩
abbrev S8x8 : Shape := ⟨2, ![8, 8]⟩
abbrev S8x128 : Shape := ⟨2, ![8, 128]⟩
abbrev S16x8 : Shape := ⟨2, ![16, 8]⟩
abbrev S8x1 : Shape := ⟨2, ![8, 1]⟩
abbrev S1x8 : Shape := ⟨2, ![1, 8]⟩
abbrev S1x1x1x128 : Shape := ⟨4, ![1, 1, 1, 128]⟩
abbrev S1x128 : Shape := ⟨2, ![1, 128]⟩
abbrev S1x1 : Shape := ⟨2, ![1, 1]⟩
abbrev S8 : Shape := ⟨1, ![8]⟩
abbrev S1 : Shape := ⟨1, ![1]⟩
abbrev S1x1x128x256 : Shape := ⟨4, ![1, 1, 128, 256]⟩
abbrev S128x256 : Shape := ⟨2, ![128, 256]⟩
abbrev S1x1x256 : Shape := ⟨3, ![1, 1, 256]⟩
abbrev S1x256 : Shape := ⟨2, ![1, 256]⟩

abbrev nBuf : Space → Nat
  | .hbm => 45
  | .vmem => 27
  | .smem => 0
  | _ => 0

abbrev bufTy : (tb : Table) → Fin (tcTables nBuf tb) → BufTy
  | .hbm, ⟨0, _⟩ => ⟨S8704x6144, .f32⟩
  | .hbm, ⟨1, _⟩ => ⟨S8704x128, .f32⟩
  | .hbm, ⟨2, _⟩ => ⟨S1x128x8x128x256, .f32⟩
  | .hbm, ⟨3, _⟩ => ⟨S1x128x8x128, .f32⟩
  | .hbm, ⟨4, _⟩ => ⟨S1x128x8, .f32⟩
  | .hbm, ⟨5, _⟩ => ⟨S1x8x256, .f32⟩
  | .hbm, ⟨6, _⟩ => ⟨S512x6144, .f32⟩
  | .hbm, ⟨7, _⟩ => ⟨S128x4x6144, .f32⟩
  | .hbm, ⟨8, _⟩ => ⟨S_, .i32⟩
  | .hbm, ⟨9, _⟩ => ⟨S_, .f32⟩
  | .hbm, ⟨10, _⟩ => ⟨S128x8x6144, .f32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S512x128, .f32⟩
  | .hbm, ⟨27, _⟩ => ⟨S128x4x128, .f32⟩
  | .hbm, ⟨28, _⟩ => ⟨S128, .f32⟩
  | .hbm, ⟨29, _⟩ => ⟨S128x4x128, .f32⟩
  | .hbm, ⟨30, _⟩ => ⟨S128x8x128, .f32⟩
  | .hbm, ⟨31, _⟩ => ⟨S128x8x128x256, .f32⟩
  | .hbm, ⟨32, _⟩ => ⟨S128x8x128, .f32⟩
  | .hbm, ⟨33, _⟩ => ⟨S128x8, .f32⟩
  | .hbm, ⟨34, _⟩ => ⟨S8x256, .f32⟩
  | .hbm, ⟨35, _⟩ => ⟨S128x8x16, .f32⟩
  | .hbm, ⟨36, _⟩ => ⟨S128x16x8, .f32⟩
  | .hbm, ⟨37, _⟩ => ⟨S128x8x1x128, .f32⟩
  | .hbm, ⟨38, _⟩ => ⟨S128x8x1x1, .f32⟩
  | .hbm, ⟨39, _⟩ => ⟨S128x8x1x128, .f32⟩
  | .hbm, ⟨40, _⟩ => ⟨S8x1x256, .f32⟩
  | .hbm, ⟨41, _⟩ => ⟨S128x8x2048, .bf16⟩
  | .hbm, ⟨42, _⟩ => ⟨S128x8x128x256, .f32⟩
  | .hbm, ⟨43, _⟩ => ⟨S128x8x1x128, .f32⟩
  | .hbm, ⟨44, _⟩ => ⟨S128x8x1x128, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x8x128, .f32⟩
  | .local _ .vmem, ⟨9, _⟩ => ⟨S1x8x128, .f32⟩
  | .local _ .vmem, ⟨10, _⟩ => ⟨S1x16x8, .f32⟩
  | .local _ .vmem, ⟨11, _⟩ => ⟨S1x16x8, .f32⟩
  | .local _ .vmem, ⟨12, _⟩ => ⟨S1x8x128x256, .f32⟩
  | .local _ .vmem, ⟨13, _⟩ => ⟨S1x8x128x256, .f32⟩
  | .local _ .vmem, ⟨14, _⟩ => ⟨S1x8x1x128, .f32⟩
  | .local _ .vmem, ⟨15, _⟩ => ⟨S1x8x1x128, .f32⟩
  | .local _ .vmem, ⟨16, _⟩ => ⟨S1x8x1x128, .f32⟩
  | .local _ .vmem, ⟨17, _⟩ => ⟨S1x8x1x128, .f32⟩
  | .local _ .vmem, ⟨18, _⟩ => ⟨S8x1x256, .f32⟩
  | .local _ .vmem, ⟨19, _⟩ => ⟨S1x8x2048, .bf16⟩
  | .local _ .vmem, ⟨20, _⟩ => ⟨S1x8x2048, .bf16⟩
  | .local _ .vmem, ⟨21, _⟩ => ⟨S1x8x128x256, .f32⟩
  | .local _ .vmem, ⟨22, _⟩ => ⟨S1x8x128x256, .f32⟩
  | .local _ .vmem, ⟨23, _⟩ => ⟨S1x8x1x128, .f32⟩
  | .local _ .vmem, ⟨24, _⟩ => ⟨S1x8x1x128, .f32⟩
  | .local _ .vmem, ⟨25, _⟩ => ⟨S1x8x1x128, .f32⟩
  | .local _ .vmem, ⟨26, _⟩ => ⟨S1x8x1x128, .f32⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_3 : Ref sig .tc := ⟨.hbm, 23, rfl⟩
abbrev main_call2_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![128, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8704x6144 : Shape := ⟨2, ![8704, 6144]⟩
abbrev S8704x128 : Shape := ⟨2, ![8704, 128]⟩
abbrev S1x128x8x128x256 : Shape := ⟨5, ![1, 128, 8, 128, 256]⟩
abbrev S1x128x8x128 : Shape := ⟨4, ![1, 128, 8, 128]⟩
abbrev S1x128x8 : Shape := ⟨3, ![1, 128, 8]⟩
abbrev S1x8x256 : Shape := ⟨3, ![1, 8, 256]⟩
abbrev S512x6144 : Shape := ⟨2, ![512, 6144]⟩
abbrev S128x4x6144 : Shape := ⟨3, ![128, 4, 6144]⟩
abbrev S128x4x1024 : Shape := ⟨3, ![128, 4, 1024]⟩
abbrev S128x4x8x128 : Shape := ⟨4, ![128, 4, 8, 128]⟩
abbrev S_ : Shape := ⟨0, ![]⟩
abbrev S128x4x2048 : Shape := ⟨3, ![128, 4, 2048]⟩
abbrev S128x4x8x256 : Shape := ⟨4, ![128, 4, 8, 256]⟩
abbrev S512x128 : Shape := ⟨2, ![512, 128]⟩
abbrev S128x4x128 : Shape := ⟨3, ![128, 4, 128]⟩
abbrev S128x4x8 : Shape := ⟨3, ![128, 4, 8]⟩
abbrev S128x8x128x256 : Shape := ⟨4, ![128, 8, 128, 256]⟩
abbrev S128x8x128 : Shape := ⟨3, ![128, 8, 128]⟩
abbrev S128x8 : Shape := ⟨2, ![128, 8]⟩
abbrev S128x8x4x128 : Shape := ⟨4, ![128, 8, 4, 128]⟩
abbrev S128x8x4x256 : Shape := ⟨4, ![128, 8, 4, 256]⟩
abbrev S128x8x4 : Shape := ⟨3, ![128, 8, 4]⟩
abbrev S4x4 : Shape := ⟨2, ![4, 4]⟩
abbrev S128x8x4x1 : Shape := ⟨4, ![128, 8, 4, 1]⟩
abbrev S128x8x1x4 : Shape := ⟨4, ![128, 8, 1, 4]⟩
abbrev S128x8x4x4 : Shape := ⟨4, ![128, 8, 4, 4]⟩
abbrev S128x8x1 : Shape := ⟨3, ![128, 8, 1]⟩
abbrev S128x8x1x1 : Shape := ⟨4, ![128, 8, 1, 1]⟩
abbrev S128x4x8x1 : Shape := ⟨4, ![128, 4, 8, 1]⟩
abbrev S8x256 : Shape := ⟨2, ![8, 256]⟩
abbrev S1x1x8x256 : Shape := ⟨4, ![1, 1, 8, 256]⟩
abbrev S128x8x2048 : Shape := ⟨3, ![128, 8, 2048]⟩
abbrev S128x8x1x128 : Shape := ⟨4, ![128, 8, 1, 128]⟩

abbrev nBuf : Space → Nat
  | .hbm => 181
  | .vmem => 0
  | .smem => 0
  | _ => 0

abbrev hbmTy0_0 (i : Nat) : BufTy := match i % 128 with
  | 0 => ⟨S8704x6144, .f32⟩
  | 1 => ⟨S8704x128, .f32⟩
  | 2 => ⟨S1x128x8x128x256, .f32⟩
  | 3 => ⟨S1x128x8x128, .f32⟩
  | 4 => ⟨S1x128x8, .f32⟩
  | 5 => ⟨S1x8x256, .f32⟩
  | 6 => ⟨S512x6144, .f32⟩
  | 7 => ⟨S128x4x6144, .f32⟩
  | 8 => ⟨S128x4x1024, .f32⟩
  | 9 => ⟨S128x4x8x128, .f32⟩
  | 10 => ⟨S128x4x1024, .f32⟩
  | 11 => ⟨S128x4x8x128, .f32⟩
  | 12 => ⟨S_, .f32⟩
  | 13 => ⟨S128x4x8x128, .f32⟩
  | 14 => ⟨S128x4x8x128, .f32⟩
  | 15 => ⟨S128x4x2048, .f32⟩
  | 16 => ⟨S128x4x8x256, .f32⟩
  | 17 => ⟨S128x4x2048, .f32⟩
  | 18 => ⟨S512x128, .f32⟩
  | 19 => ⟨S128x4x128, .f32⟩
  | 20 => ⟨S128x4x8, .f32⟩
  | 21 => ⟨S128x4x8, .f32⟩
  | 22 => ⟨S128x4x8, .f32⟩
  | 23 => ⟨S_, .f32⟩
  | 24 => ⟨S128x4x8, .f32⟩
  | 25 => ⟨S128x4x8, .f32⟩
  | 26 => ⟨S128x4x8, .f32⟩
  | 27 => ⟨S128x4x8, .f32⟩
  | 28 => ⟨S128x4x8, .i1⟩
  | 29 => ⟨S128x4x8, .f32⟩
  | 30 => ⟨S128x4x8, .f32⟩
  | 31 => ⟨S128x4x8, .f32⟩
  | 32 => ⟨S128x4x8, .f32⟩
  | 33 => ⟨S128x4x8, .f32⟩
  | 34 => ⟨S128x4x8, .f32⟩
  | 35 => ⟨S128x4x8, .f32⟩
  | 36 => ⟨S128x4x8, .f32⟩
  | 37 => ⟨S128x4x8, .f32⟩
  | 38 => ⟨S128x8x128x256, .f32⟩
  | 39 => ⟨S128x8x128, .f32⟩
  | 40 => ⟨S128x8, .f32⟩
  | 41 => ⟨S128x8x4x128, .f32⟩
  | 42 => ⟨S128x8x4x128, .f32⟩
  | 43 => ⟨S128x8x4x256, .f32⟩
  | 44 => ⟨S128x8x4, .f32⟩
  | 45 => ⟨S128x8x4, .f32⟩
  | 46 => ⟨S_, .i1⟩
  | 47 => ⟨S4x4, .i1⟩
  | 48 => ⟨S4x4, .i32⟩
  | 49 => ⟨S_, .i32⟩
  | 50 => ⟨S4x4, .i32⟩
  | 51 => ⟨S4x4, .i32⟩
  | 52 => ⟨S4x4, .i32⟩
  | 53 => ⟨S4x4, .i1⟩
  | 54 => ⟨S_, .i1⟩
  | 55 => ⟨S4x4, .i1⟩
  | 56 => ⟨S4x4, .i1⟩
  | 57 => ⟨S_, .f32⟩
  | 58 => ⟨S_, .f32⟩
  | 59 => ⟨S128x8x4, .f32⟩
  | 60 => ⟨S128x8x4x1, .f32⟩
  | 61 => ⟨S128x8x1x4, .f32⟩
  | 62 => ⟨S128x8x4x4, .f32⟩
  | 63 => ⟨S128x8x4x4, .f32⟩
  | 64 => ⟨S128x8x4x4, .f32⟩
  | 65 => ⟨S128x8x1x4, .f32⟩
  | 66 => ⟨S128x8x4x4, .f32⟩
  | 67 => ⟨S128x8x4x4, .f32⟩
  | 68 => ⟨S_, .f32⟩
  | 69 => ⟨S_, .f32⟩
  | 70 => ⟨S128x8x4x4, .i1⟩
  | 71 => ⟨S128x8x4x4, .f32⟩
  | 72 => ⟨S128x8x4x4, .f32⟩
  | 73 => ⟨S128x8x1, .f32⟩
  | 74 => ⟨S128x8x4, .f32⟩
  | 75 => ⟨S128x8x4, .f32⟩
  | 76 => ⟨S_, .f32⟩
  | 77 => ⟨S128x8x4, .f32⟩
  | 78 => ⟨S128x8x4, .f32⟩
  | 79 => ⟨S128x8x4x4, .f32⟩
  | 80 => ⟨S128x8x4x1, .f32⟩
  | 81 => ⟨S128x8x4x4, .f32⟩
  | 82 => ⟨S128x8x4x4, .f32⟩
  | 83 => ⟨S128x8x4x4, .f32⟩
  | 84 => ⟨S128x8x4x4, .f32⟩
  | 85 => ⟨S128x8x4, .f32⟩
  | 86 => ⟨S128x8x4, .f32⟩
  | 87 => ⟨S128x8x4x256, .f32⟩
  | 88 => ⟨S128x8x4x1, .f32⟩
  | 89 => ⟨S128x8x4x256, .f32⟩
  | 90 => ⟨S128x8x4x256, .f32⟩
  | 91 => ⟨S128x8x4x256, .f32⟩
  | 92 => ⟨S128x8x4x256, .f32⟩
  | 93 => ⟨S_, .f32⟩
  | 94 => ⟨S128x8x4, .f32⟩
  | 95 => ⟨S128x8x4, .f32⟩
  | 96 => ⟨S128x8x4, .f32⟩
  | 97 => ⟨S128x8x4, .f32⟩
  | 98 => ⟨S128x8x4, .f32⟩
  | 99 => ⟨S128x8x4, .f32⟩
  | 100 => ⟨S128x8x4, .f32⟩
  | 101 => ⟨S128x8x4, .f32⟩
  | 102 => ⟨S128x8x4x1, .f32⟩
  | 103 => ⟨S128x8x4x256, .f32⟩
  | 104 => ⟨S128x8x4x256, .f32⟩
  | 105 => ⟨S128x8x1, .f32⟩
  | 106 => ⟨S128x8, .f32⟩
  | 107 => ⟨S128x8x1, .f32⟩
  | 108 => ⟨S128x8x4, .f32⟩
  | 109 => ⟨S128x8x4, .f32⟩
  | 110 => ⟨S128x8x4, .f32⟩
  | 111 => ⟨S128x8, .f32⟩
  | 112 => ⟨S_, .f32⟩
  | 113 => ⟨S128x8, .f32⟩
  | 114 => ⟨S128x8, .f32⟩
  | 115 => ⟨S128x8x1, .f32⟩
  | 116 => ⟨S128x8x4, .f32⟩
  | 117 => ⟨S128x8x4, .f32⟩
  | 118 => ⟨S128x8x4, .f32⟩
  | 119 => ⟨S128x8, .f32⟩
  | 120 => ⟨S128x8, .f32⟩
  | 121 => ⟨S128x8, .f32⟩
  | 122 => ⟨S128x8x1x1, .f32⟩
  | 123 => ⟨S128x8x128x256, .f32⟩
  | 124 => ⟨S128x8x128x256, .f32⟩
  | 125 => ⟨S128x8x4x1, .f32⟩
  | 126 => ⟨S128x8x4x128, .f32⟩
  | 127 => ⟨S128x8x4x128, .f32⟩
  | _ => ⟨S8704x6144, .f32⟩

abbrev hbmTy0_1 (i : Nat) : BufTy := match i % 128 with
  | 0 => ⟨S128x8x128x256, .f32⟩
  | 1 => ⟨S128x8x128x256, .f32⟩
  | 2 => ⟨S128x8x1, .f32⟩
  | 3 => ⟨S128x8x128, .f32⟩
  | 4 => ⟨S128x8x128, .f32⟩
  | 5 => ⟨S128x8x128, .f32⟩
  | 6 => ⟨S128x8x128, .f32⟩
  | 7 => ⟨S128x4x8x256, .f32⟩
  | 8 => ⟨S128x4x2048, .f32⟩
  | 9 => ⟨S128x4x2048, .f32⟩
  | 10 => ⟨S_, .f32⟩
  | 11 => ⟨S128x4x2048, .f32⟩
  | 12 => ⟨S128x4x2048, .f32⟩
  | 13 => ⟨S_, .f32⟩
  | 14 => ⟨S128x4x2048, .f32⟩
  | 15 => ⟨S128x4x2048, .f32⟩
  | 16 => ⟨S128x4x8x256, .f32⟩
  | 17 => ⟨S128x4x8x256, .f32⟩
  | 18 => ⟨S_, .f32⟩
  | 19 => ⟨S128x4x8, .f32⟩
  | 20 => ⟨S128x4x8x1, .f32⟩
  | 21 => ⟨S_, .f32⟩
  | 22 => ⟨S128x4x8x1, .f32⟩
  | 23 => ⟨S128x4x8x1, .f32⟩
  | 24 => ⟨S128x4x8x256, .f32⟩
  | 25 => ⟨S128x4x8x256, .f32⟩
  | 26 => ⟨S128x4x8x256, .f32⟩
  | 27 => ⟨S_, .f32⟩
  | 28 => ⟨S128x4x8, .f32⟩
  | 29 => ⟨S128x4x8x1, .f32⟩
  | 30 => ⟨S_, .f32⟩
  | 31 => ⟨S128x4x8x1, .f32⟩
  | 32 => ⟨S128x4x8x1, .f32⟩
  | 33 => ⟨S128x4x8x256, .f32⟩
  | 34 => ⟨S128x4x8x256, .f32⟩
  | 35 => ⟨S_, .f32⟩
  | 36 => ⟨S128x4x8x1, .f32⟩
  | 37 => ⟨S128x4x8x1, .f32⟩
  | 38 => ⟨S128x4x8x1, .f32⟩
  | 39 => ⟨S128x4x8x256, .f32⟩
  | 40 => ⟨S128x4x8x256, .f32⟩
  | 41 => ⟨S8x256, .f32⟩
  | 42 => ⟨S1x1x8x256, .f32⟩
  | 43 => ⟨S128x4x8x256, .f32⟩
  | 44 => ⟨S128x4x8x256, .f32⟩
  | 45 => ⟨S128x4x2048, .f32⟩
  | 46 => ⟨S_, .i32⟩
  | 47 => ⟨S_, .f32⟩
  | 48 => ⟨S128x8x2048, .f32⟩
  | 49 => ⟨S128x8x2048, .bf16⟩
  | 50 => ⟨S128x8x1x128, .f32⟩
  | 51 => ⟨S128x8x1x1, .f32⟩
  | 52 => ⟨S128x8x1x128, .f32⟩
  | _ => ⟨S8704x6144, .f32⟩

abbrev hbmTy (i : Nat) : BufTy := match i / 128 with
  | 0 => hbmTy0_0 i
  | 1 => hbmTy0_1 i
  | _ => ⟨S8704x6144, .f32⟩

abbrev bufTy : (tb : Table) → Fin (tcTables nBuf tb) → BufTy
  | .hbm, ⟨i, _⟩ => hbmTy i
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v25 : Ref sig .tc := ⟨.hbm, 56, rfl⟩
abbrev main_call2_call0_cst : Ref sig .tc := ⟨.hbm, 57, rfl⟩
abbrev main_call2_call0_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_0 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_1 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_2 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_3 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_4 : Ref sig .tc := ⟨.hbm, 138, rfl⟩
abbrev main_v98 : Ref sig .tc := ⟨.hbm, 139, rfl⟩
abbrev main_v99 : Ref sig .tc := ⟨.hbm, 140, rfl⟩
abbrev main_cst_5 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_6 : Ref sig .tc := ⟨.hbm, 146, rfl⟩
abbrev main_v104 : Ref sig .tc := ⟨.hbm, 147, rfl⟩
abbrev main_v105 : Ref sig .tc := ⟨.hbm, 148, rfl⟩
abbrev main_cst_7 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_8 : Ref sig .tc := ⟨.hbm, 155, rfl⟩
abbrev main_v111 : Ref sig .tc := ⟨.hbm, 156, rfl⟩
abbrev main_v112 : Ref sig .tc := ⟨.hbm, 157, rfl⟩
abbrev main_cst_9 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_10 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_c_11 : Ref sig .tc := ⟨.hbm, 174, rfl⟩
abbrev main_call4_v0 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩

abbrev nD : Nat := 1
abbrev τ : Topo := Topo.v7x

variable {F : FTy → Type} [FloatOps F]
-- ==== Kernel2.lean ====
abbrev S8704x2048 : Shape := ⟨2, ![8704, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8704x6144 : Shape := ⟨2, ![8704, 6144]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S1x2048x12288, .f32⟩
  | .hbm, ⟨2, _⟩ => ⟨S1x12288, .f32⟩
  | .hbm, ⟨3, _⟩ => ⟨S8704x2048, .bf16⟩
  | .hbm, ⟨4, _⟩ => ⟨S2048x12288, .f32⟩
  | .hbm, ⟨5, _⟩ => ⟨S2048x12288, .bf16⟩
  | .hbm, ⟨6, _⟩ => ⟨S12288, .f32⟩
  | .hbm, ⟨7, _⟩ => ⟨S1x12288, .f32⟩
  | .hbm, ⟨8, _⟩ => ⟨S8704x6144, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2Ideal.lean ====
variable {F : FTy → Type} [FloatOps F] [Named F]
def κ : String → Option EReal := fun
  | "k0" => some ((-((2 * (6693141 / 8388608)) * (Real.log 2)⁻¹) : ℝ) : EReal)
  | "k1" => some (((12003091 / 268435456) * (-((2 * (6693141 / 8388608)) * (Real.log 2)⁻¹)) : ℝ) : EReal)
  | _ => none
-- ==== Reference2Ideal.lean ====
abbrev S8704x2048 : Shape := ⟨2, ![8704, 2048]⟩
abbrev S1x2048x12288 : Shape := ⟨3, ![1, 2048, 12288]⟩
abbrev S1x12288 : Shape := ⟨2, ![1, 12288]⟩
abbrev S2048x12288 : Shape := ⟨2, ![2048, 12288]⟩
abbrev S8704x12288 : Shape := ⟨2, ![8704, 12288]⟩
abbrev S12288 : Shape := ⟨1, ![12288]⟩
abbrev S_ : Shape := ⟨0, ![]⟩
abbrev S8704x6144 : Shape := ⟨2, ![8704, 6144]⟩

abbrev nBuf : Space → Nat
  | .hbm => 28
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S8704x12288, .f32⟩
  | .hbm, ⟨5, _⟩ => ⟨S12288, .f32⟩
  | .hbm, ⟨6, _⟩ => ⟨S1x12288, .f32⟩
  | .hbm, ⟨7, _⟩ => ⟨S8704x12288, .f32⟩
  | .hbm, ⟨8, _⟩ => ⟨S8704x12288, .f32⟩
  | .hbm, ⟨9, _⟩ => ⟨S8704x12288, .f32⟩
  | .hbm, ⟨10, _⟩ => ⟨S8704x12288, .f32⟩
  | .hbm, ⟨11, _⟩ => ⟨S_, .f32⟩
  | .hbm, ⟨12, _⟩ => ⟨S8704x12288, .f32⟩
  | .hbm, ⟨13, _⟩ => ⟨S8704x12288, .f32⟩
  | .hbm, ⟨14, _⟩ => ⟨S8704x12288, .f32⟩
  | .hbm, ⟨15, _⟩ => ⟨S_, .f32⟩
  | .hbm, ⟨16, _⟩ => ⟨S8704x12288, .f32⟩
  | .hbm, ⟨17, _⟩ => ⟨S8704x12288, .f32⟩
  | .hbm, ⟨18, _⟩ => ⟨S8704x12288, .f32⟩
  | .hbm, ⟨19, _⟩ => ⟨S_, .f32⟩
  | .hbm, ⟨20, _⟩ => ⟨S8704x12288, .f32⟩
  | .hbm, ⟨21, _⟩ => ⟨S8704x12288, .f32⟩
  | .hbm, ⟨22, _⟩ => ⟨S_, .f32⟩
  | .hbm, ⟨23, _⟩ => ⟨S8704x12288, .f32⟩
  | .hbm, ⟨24, _⟩ => ⟨S8704x12288, .f32⟩
  | .hbm, ⟨25, _⟩ => ⟨S8704x12288, .f32⟩
  | .hbm, ⟨26, _⟩ => ⟨S8704x6144, .f32⟩
  | .hbm, ⟨27, _⟩ => ⟨S8704x6144, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S8704x2048 : Shape := ⟨2, ![8704, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8704x6144 : Shape := ⟨2, ![8704, 6144]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S1x2048x12288, .f32⟩
  | .hbm, ⟨2, _⟩ => ⟨S1x12288, .f32⟩
  | .hbm, ⟨3, _⟩ => ⟨S8704x2048, .bf16⟩
  | .hbm, ⟨4, _⟩ => ⟨S2048x12288, .f32⟩
  | .hbm, ⟨5, _⟩ => ⟨S2048x12288, .bf16⟩
  | .hbm, ⟨6, _⟩ => ⟨S12288, .f32⟩
  | .hbm, ⟨7, _⟩ => ⟨S1x12288, .f32⟩
  | .hbm, ⟨8, _⟩ => ⟨S8704x6144, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel6Ideal.lean ====
variable {F : FTy → Type} [FloatOps F] [Named F]
def κ : String → Option EReal := fun
  | "k0" => some ((-((2 * (6693141 / 8388608)) * (Real.log 2)⁻¹) : ℝ) : EReal)
  | "k1" => some (((12003091 / 268435456) * (-((2 * (6693141 / 8388608)) * (Real.log 2)⁻¹)) : ℝ) : EReal)
  | _ => none
-- ==== Reference6Ideal.lean ====
abbrev S8704x2048 : Shape := ⟨2, ![8704, 2048]⟩
abbrev S1x2048x12288 : Shape := ⟨3, ![1, 2048, 12288]⟩
abbrev S1x12288 : Shape := ⟨2, ![1, 12288]⟩
abbrev S2048x12288 : Shape := ⟨2, ![2048, 12288]⟩
abbrev S8704x12288 : Shape := ⟨2, ![8704, 12288]⟩
abbrev S12288 : Shape := ⟨1, ![12288]⟩
abbrev S_ : Shape := ⟨0, ![]⟩
abbrev S8704x6144 : Shape := ⟨2, ![8704, 6144]⟩

abbrev nBuf : Space → Nat
  | .hbm => 27
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S8704x12288, .f32⟩
  | .hbm, ⟨5, _⟩ => ⟨S12288, .f32⟩
  | .hbm, ⟨6, _⟩ => ⟨S1x12288, .f32⟩
  | .hbm, ⟨7, _⟩ => ⟨S8704x12288, .f32⟩
  | .hbm, ⟨8, _⟩ => ⟨S8704x12288, .f32⟩
  | .hbm, ⟨9, _⟩ => ⟨S8704x12288, .f32⟩
  | .hbm, ⟨10, _⟩ => ⟨S8704x12288, .f32⟩
  | .hbm, ⟨11, _⟩ => ⟨S_, .f32⟩
  | .hbm, ⟨12, _⟩ => ⟨S8704x12288, .f32⟩
  | .hbm, ⟨13, _⟩ => ⟨S8704x12288, .f32⟩
  | .hbm, ⟨14, _⟩ => ⟨S8704x12288, .f32⟩
  | .hbm, ⟨15, _⟩ => ⟨S_, .f32⟩
  | .hbm, ⟨16, _⟩ => ⟨S8704x12288, .f32⟩
  | .hbm, ⟨17, _⟩ => ⟨S8704x12288, .f32⟩
  | .hbm, ⟨18, _⟩ => ⟨S8704x12288, .f32⟩
  | .hbm, ⟨19, _⟩ => ⟨S_, .f32⟩
  | .hbm, ⟨20, _⟩ => ⟨S8704x12288, .f32⟩
  | .hbm, ⟨21, _⟩ => ⟨S8704x12288, .f32⟩
  | .hbm, ⟨22, _⟩ => ⟨S_, .f32⟩
  | .hbm, ⟨23, _⟩ => ⟨S8704x12288, .f32⟩
  | .hbm, ⟨24, _⟩ => ⟨S8704x12288, .f32⟩
  | .hbm, ⟨25, _⟩ => ⟨S8704x12288, .f32⟩
  | .hbm, ⟨26, _⟩ => ⟨S8704x6144, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S8704x2048 : Shape := ⟨2, ![8704, 2048]⟩
abbrev S1x2048x6160 : Shape := ⟨3, ![1, 2048, 6160]⟩
abbrev S2048x6160 : Shape := ⟨2, ![2048, 6160]⟩
abbrev S_ : Shape := ⟨0, ![]⟩
abbrev S6160 : Shape := ⟨1, ![6160]⟩
abbrev S1x6160 : Shape := ⟨2, ![1, 6160]⟩
abbrev S8704x6144 : Shape := ⟨2, ![8704, 6144]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S1x2048x6160, .f32⟩
  | .hbm, ⟨2, _⟩ => ⟨S8704x2048, .bf16⟩
  | .hbm, ⟨3, _⟩ => ⟨S2048x6160, .f32⟩
  | .hbm, ⟨4, _⟩ => ⟨S2048x6160, .bf16⟩
  | .hbm, ⟨5, _⟩ => ⟨S_, .f32⟩
  | .hbm, ⟨6, _⟩ => ⟨S6160, .f32⟩
  | .hbm, ⟨7, _⟩ => ⟨S1x6160, .f32⟩
  | .hbm, ⟨8, _⟩ => ⟨S8704x6144, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8704x2048 : Shape := ⟨2, ![8704, 2048]⟩
abbrev S1x2048x6160 : Shape := ⟨3, ![1, 2048, 6160]⟩
abbrev S2048x6160 : Shape := ⟨2, ![2048, 6160]⟩
abbrev S8704x6160 : Shape := ⟨2, ![8704, 6160]⟩
abbrev S8704x6144 : Shape := ⟨2, ![8704, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x6160, .f32⟩
  | .hbm, ⟨2, _⟩ => ⟨S2048x6160, .f32⟩
  | .hbm, ⟨3, _⟩ => ⟨S8704x6160, .f32⟩
  | .hbm, ⟨4, _⟩ => ⟨S8704x6144, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8704x2048 : Shape := ⟨2, ![8704, 2048]⟩
abbrev S1x2048x2048 : Shape := ⟨3, ![1, 2048, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S2048x8704 : Shape := ⟨2, ![2048, 8704]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S1x2048x2048, .f32⟩
  | .hbm, ⟨2, _⟩ => ⟨S8704x2048, .f32⟩
  | .hbm, ⟨3, _⟩ => ⟨S2x2048, .f32⟩
  | .hbm, ⟨4, _⟩ => ⟨S2x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S8704x2048, .f32⟩
  | .hbm, ⟨14, _⟩ => ⟨S2048x8704, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S2048x256, .bf16⟩
  | .local _ .vmem, ⟨10, _⟩ => ⟨S2048x256, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8704x2048 : Shape := ⟨2, ![8704, 2048]⟩
abbrev S1x2048x2048 : Shape := ⟨3, ![1, 2048, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S2048x2048 : Shape := ⟨2, ![2048, 2048]⟩
abbrev S8704 : Shape := ⟨1, ![8704]⟩
abbrev S8704x1 : Shape := ⟨2, ![8704, 1]⟩
abbrev S2048x8704 : Shape := ⟨2, ![2048, 8704]⟩

abbrev nBuf : Space → Nat
  | .hbm => 47
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x2048, .f32⟩
  | .hbm, ⟨2, _⟩ => ⟨S8704x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S_, .f32⟩
  | .hbm, ⟨10, _⟩ => ⟨S8704x2048, .f32⟩
  | .hbm, ⟨11, _⟩ => ⟨S8704x2048, .f32⟩
  | .hbm, ⟨12, _⟩ => ⟨S8704x2048, .f32⟩
  | .hbm, ⟨13, _⟩ => ⟨S2048x2048, .f32⟩
  | .hbm, ⟨14, _⟩ => ⟨S8704x2048, .f32⟩
  | .hbm, ⟨15, _⟩ => ⟨S8704x2048, .f32⟩
  | .hbm, ⟨16, _⟩ => ⟨S_, .f32⟩
  | .hbm, ⟨17, _⟩ => ⟨S8704, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x2048, .f32⟩
  | .hbm, ⟨23, _⟩ => ⟨S8704x2048, .f32⟩
  | .hbm, ⟨24, _⟩ => ⟨S8704x2048, .f32⟩
  | .hbm, ⟨25, _⟩ => ⟨S_, .f32⟩
  | .hbm, ⟨26, _⟩ => ⟨S8704, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x2048, .f32⟩
  | .hbm, ⟨32, _⟩ => ⟨S8704x2048, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x1, .f32⟩
  | .hbm, ⟨37, _⟩ => ⟨S8704x2048, .f32⟩
  | .hbm, ⟨38, _⟩ => ⟨S8704x2048, .f32⟩
  | .hbm, ⟨39, _⟩ => ⟨S1x2048, .f32⟩
  | .hbm, ⟨40, _⟩ => ⟨S8704x2048, .f32⟩
  | .hbm, ⟨41, _⟩ => ⟨S8704x2048, .f32⟩
  | .hbm, ⟨42, _⟩ => ⟨S1x2048, .f32⟩
  | .hbm, ⟨43, _⟩ => ⟨S8704x2048, .f32⟩
  | .hbm, ⟨44, _⟩ => ⟨S8704x2048, .f32⟩
  | .hbm, ⟨45, _⟩ => ⟨S2048x8704, .f32⟩
  | .hbm, ⟨46, _⟩ => ⟨S2048x8704, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S8704x6144 : Shape := ⟨2, ![8704, 6144]⟩
abbrev S1x6144x2048 : Shape := ⟨3, ![1, 6144, 2048]⟩
abbrev S8704x2048 : Shape := ⟨2, ![8704, 2048]⟩
abbrev S2x2048 : Shape := ⟨2, ![2, 2048]⟩
abbrev S6144x2048 : Shape := ⟨2, ![6144, 2048]⟩
abbrev S1x2048 : Shape := ⟨2, ![1, 2048]⟩
abbrev S2048 : Shape := ⟨1, ![2048]⟩
abbrev S2048x8704 : Shape := ⟨2, ![2048, 8704]⟩
abbrev S256x6144 : Shape := ⟨2, ![256, 6144]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S8704x6144, .bf16⟩
  | .hbm, ⟨1, _⟩ => ⟨S1x6144x2048, .f32⟩
  | .hbm, ⟨2, _⟩ => ⟨S8704x2048, .f32⟩
  | .hbm, ⟨3, _⟩ => ⟨S2x2048, .f32⟩
  | .hbm, ⟨4, _⟩ => ⟨S2x2048, .f32⟩
  | .hbm, ⟨5, _⟩ => ⟨S6144x2048, .f32⟩
  | .hbm, ⟨6, _⟩ => ⟨S6144x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S8704x2048, .f32⟩
  | .hbm, ⟨14, _⟩ => ⟨S2048x8704, .bf16⟩
  | .local _ .vmem, ⟨0, _⟩ => ⟨S256x6144, .bf16⟩
  | .local _ .vmem, ⟨1, _⟩ => ⟨S256x6144, .bf16⟩
  | .local _ .vmem, ⟨2, _⟩ => ⟨S6144x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S2048x256, .bf16⟩
  | .local _ .vmem, ⟨10, _⟩ => ⟨S2048x256, .bf16⟩
  | _, _ => ⟨S8704x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8704x6144 : Shape := ⟨2, ![8704, 6144]⟩
abbrev S1x6144x2048 : Shape := ⟨3, ![1, 6144, 2048]⟩
abbrev S8704x2048 : Shape := ⟨2, ![8704, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S6144x2048 : Shape := ⟨2, ![6144, 2048]⟩
abbrev S8704 : Shape := ⟨1, ![8704]⟩
abbrev S8704x1 : Shape := ⟨2, ![8704, 1]⟩
abbrev S2048x8704 : Shape := ⟨2, ![2048, 8704]⟩

abbrev nBuf : Space → Nat
  | .hbm => 47
  | .vmem => 0
  | .smem => 0
  | _ => 0

abbrev bufTy : (tb : Table) → Fin (tcTables nBuf tb) → BufTy
  | .hbm, ⟨0, _⟩ => ⟨S8704x6144, .bf16⟩
  | .hbm, ⟨1, _⟩ => ⟨S1x6144x2048, .f32⟩
  | .hbm, ⟨2, _⟩ => ⟨S8704x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S_, .f32⟩
  | .hbm, ⟨10, _⟩ => ⟨S8704x2048, .f32⟩
  | .hbm, ⟨11, _⟩ => ⟨S8704x2048, .f32⟩
  | .hbm, ⟨12, _⟩ => ⟨S8704x6144, .f32⟩
  | .hbm, ⟨13, _⟩ => ⟨S6144x2048, .f32⟩
  | .hbm, ⟨14, _⟩ => ⟨S8704x2048, .f32⟩
  | .hbm, ⟨15, _⟩ => ⟨S8704x2048, .f32⟩
  | .hbm, ⟨16, _⟩ => ⟨S_, .f32⟩
  | .hbm, ⟨17, _⟩ => ⟨S8704, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S8704x2048, .f32⟩
  | .hbm, ⟨23, _⟩ => ⟨S8704x2048, .f32⟩
  | .hbm, ⟨24, _⟩ => ⟨S8704x2048, .f32⟩
  | .hbm, ⟨25, _⟩ => ⟨S_, .f32⟩
  | .hbm, ⟨26, _⟩ => ⟨S8704, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x2048, .f32⟩
  | .hbm, ⟨32, _⟩ => ⟨S8704x2048, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x1, .f32⟩
  | .hbm, ⟨37, _⟩ => ⟨S8704x2048, .f32⟩
  | .hbm, ⟨38, _⟩ => ⟨S8704x2048, .f32⟩
  | .hbm, ⟨39, _⟩ => ⟨S1x2048, .f32⟩
  | .hbm, ⟨40, _⟩ => ⟨S8704x2048, .f32⟩
  | .hbm, ⟨41, _⟩ => ⟨S8704x2048, .f32⟩
  | .hbm, ⟨42, _⟩ => ⟨S1x2048, .f32⟩
  | .hbm, ⟨43, _⟩ => ⟨S8704x2048, .f32⟩
  | .hbm, ⟨44, _⟩ => ⟨S8704x2048, .f32⟩
  | .hbm, ⟨45, _⟩ => ⟨S2048x8704, .f32⟩
  | .hbm, ⟨46, _⟩ => ⟨S2048x8704, .bf16⟩
  | _, _ => ⟨S8704x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel7.lean ====
abbrev S8704x2048 : Shape := ⟨2, ![8704, 2048]⟩
abbrev S2048x8704 : Shape := ⟨2, ![2048, 8704]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S2048x8704, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8704x2048, .f32⟩
  | .hbm, ⟨11, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8704x2048 : Shape := ⟨2, ![8704, 2048]⟩
abbrev S2048x8704 : Shape := ⟨2, ![2048, 8704]⟩
abbrev S2x2048 : Shape := ⟨2, ![2, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩

abbrev nBuf : Space → Nat
  | .hbm => 43
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x8704, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S_, .f32⟩
  | .hbm, ⟨10, _⟩ => ⟨S8704, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S_, .f32⟩
  | .hbm, ⟨19, _⟩ => ⟨S8704, .f32⟩
  | .hbm, ⟨20, _⟩ => ⟨S8704x1, .f32⟩
  | .hbm, ⟨21, _⟩ => ⟨S_, .f32⟩
  | .hbm, ⟨22, _⟩ => ⟨S8704x1, .f32⟩
  | .hbm, ⟨23, _⟩ => ⟨S8704x1, .f32⟩
  | .hbm, ⟨24, _⟩ => ⟨S8704x2048, .f32⟩
  | .hbm, ⟨25, _⟩ => ⟨S8704x2048, .f32⟩
  | .hbm, ⟨26, _⟩ => ⟨S_, .f32⟩
  | .hbm, ⟨27, _⟩ => ⟨S8704x1, .f32⟩
  | .hbm, ⟨28, _⟩ => ⟨S8704x1, .f32⟩
  | .hbm, ⟨29, _⟩ => ⟨S8704x1, .f32⟩
  | .hbm, ⟨30, _⟩ => ⟨S8704x2048, .f32⟩
  | .hbm, ⟨31, _⟩ => ⟨S8704x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S8704x2048, .f32⟩
  | .hbm, ⟨41, _⟩ => ⟨S8704x2048, .f32⟩
  | .hbm, ⟨42, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel8.lean ====
abbrev S8704x6144 : Shape := ⟨2, ![8704, 6144]⟩
abbrev S1x8x128x128 : Shape := ⟨4, ![1, 8, 128, 128]⟩
abbrev S1x8x128 : Shape := ⟨3, ![1, 8, 128]⟩
abbrev S1x6144 : Shape := ⟨2, ![1, 6144]⟩
abbrev S_ : Shape := ⟨0, ![]⟩
abbrev S128x128 : Shape := ⟨2, ![128, 128]⟩
abbrev S8x128x128 : Shape := ⟨3, ![8, 128, 128]⟩
abbrev S32x32 : Shape := ⟨2, ![32, 32]⟩
abbrev S1x32x1x32x1 : Shape := ⟨5, ![1, 32, 1, 32, 1]⟩
abbrev S8x4x4 : Shape := ⟨3, ![8, 4, 4]⟩
abbrev S8x1x4x1x4 : Shape := ⟨5, ![8, 1, 4, 1, 4]⟩
abbrev S8x32x4x32x4 : Shape := ⟨5, ![8, 32, 4, 32, 4]⟩
abbrev S2x8x128x128 : Shape := ⟨4, ![2, 8, 128, 128]⟩
abbrev S8x128 : Shape := ⟨2, ![8, 128]⟩
abbrev S128x8 : Shape := ⟨2, ![128, 8]⟩
abbrev S8x4 : Shape := ⟨2, ![8, 4]⟩
abbrev S4x8 : Shape := ⟨2, ![4, 8]⟩
abbrev S1x4x1x8 : Shape := ⟨4, ![1, 4, 1, 8]⟩
abbrev S32x4x1x8 : Shape := ⟨4, ![32, 4, 1, 8]⟩
abbrev S1x128x8 : Shape := ⟨3, ![1, 128, 8]⟩
abbrev S2x128x8 : Shape := ⟨3, ![2, 128, 8]⟩
abbrev S6144 : Shape := ⟨1, ![6144]⟩
abbrev S512x6144 : Shape := ⟨2, ![512, 6144]⟩
abbrev S128x6144 : Shape := ⟨2, ![128, 6144]⟩
abbrev S128 : Shape := ⟨1, ![128]⟩
abbrev S128x1 : Shape := ⟨2, ![128, 1]⟩
abbrev S1x1x128x128 : Shape := ⟨4, ![1, 1, 128, 128]⟩
abbrev S128x768 : Shape := ⟨2, ![128, 768]⟩
abbrev S1x128x1 : Shape := ⟨3, ![1, 128, 1]⟩

abbrev nBuf : Space → Nat
  | .hbm => 57
  | .vmem => 14
  | .smem => 0
  | _ => 0

abbrev bufTy : (tb : Table) → Fin (tcTables nBuf tb) → BufTy
  | .hbm, ⟨0, _⟩ => ⟨S8704x6144, .bf16⟩
  | .hbm, ⟨1, _⟩ => ⟨S8704x6144, .f32⟩
  | .hbm, ⟨2, _⟩ => ⟨S1x8x128x128, .f32⟩
  | .hbm, ⟨3, _⟩ => ⟨S1x8x128, .f32⟩
  | .hbm, ⟨4, _⟩ => ⟨S1x6144, .f32⟩
  | .hbm, ⟨5, _⟩ => ⟨S1x6144, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S8x128x128, .f32⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S32x32, .i32⟩
  | .hbm, ⟨24, _⟩ => ⟨S32x32, .i32⟩
  | .hbm, ⟨25, _⟩ => ⟨S_, .i32⟩
  | .hbm, ⟨26, _⟩ => ⟨S32x32, .i32⟩
  | .hbm, ⟨27, _⟩ => ⟨S32x32, .i32⟩
  | .hbm, ⟨28, _⟩ => ⟨S32x32, .i1⟩
  | .hbm, ⟨29, _⟩ => ⟨S32x32, .f32⟩
  | .hbm, ⟨30, _⟩ => ⟨S1x32x1x32x1, .f32⟩
  | .hbm, ⟨31, _⟩ => ⟨S8x4x4, .f32⟩
  | .hbm, ⟨32, _⟩ => ⟨S8x1x4x1x4, .f32⟩
  | .hbm, ⟨33, _⟩ => ⟨S8x32x4x32x4, .f32⟩
  | .hbm, ⟨34, _⟩ => ⟨S8x32x4x32x4, .f32⟩
  | .hbm, ⟨35, _⟩ => ⟨S8x32x4x32x4, .f32⟩
  | .hbm, ⟨36, _⟩ => ⟨S8x128x128, .f32⟩
  | .hbm, ⟨37, _⟩ => ⟨S1x8x128x128, .f32⟩
  | .hbm, ⟨38, _⟩ => ⟨S1x8x128x128, .f32⟩
  | .hbm, ⟨39, _⟩ => ⟨S2x8x128x128, .f32⟩
  | .hbm, ⟨40, _⟩ => ⟨S8x128, .f32⟩
  | .hbm, ⟨41, _⟩ => ⟨S128x8, .f32⟩
  | .hbm, ⟨42, _⟩ => ⟨S8x128, .f32⟩
  | .hbm, ⟨43, _⟩ => ⟨S8x4, .f32⟩
  | .hbm, ⟨44, _⟩ => ⟨S4x8, .f32⟩
  | .hbm, ⟨45, _⟩ => ⟨S1x4x1x8, .f32⟩
  | .hbm, ⟨46, _⟩ => ⟨S32x4x1x8, .f32⟩
  | .hbm, ⟨47, _⟩ => ⟨S128x8, .f32⟩
  | .hbm, ⟨48, _⟩ => ⟨S1x128x8, .f32⟩
  | .hbm, ⟨49, _⟩ => ⟨S1x128x8, .f32⟩
  | .hbm, ⟨50, _⟩ => ⟨S2x128x8, .f32⟩
  | .hbm, ⟨51, _⟩ => ⟨S6144, .f32⟩
  | .hbm, ⟨52, _⟩ => ⟨S6144, .f32⟩
  | .hbm, ⟨53, _⟩ => ⟨S1x6144, .f32⟩
  | .hbm, ⟨54, _⟩ => ⟨S1x6144, .f32⟩
  | .hbm, ⟨55, _⟩ => ⟨S8704x6144, .bf16⟩
  | .hbm, ⟨56, _⟩ => ⟨S512x6144, .f32⟩
  | .local _ .vmem, ⟨0, _⟩ => ⟨S128x6144, .bf16⟩
  | .local _ .vmem, ⟨1, _⟩ => ⟨S128x6144, .bf16⟩
  | .local _ .vmem, ⟨2, _⟩ => ⟨S128x6144, .f32⟩
  | .local _ .vmem, ⟨3, _⟩ => ⟨S128x6144, .f32⟩
  | .local _ .vmem, ⟨4, _⟩ => ⟨S1x8x128x128, .f32⟩
  | .local _ .vmem, ⟨5, _⟩ => ⟨S1x8x128x128, .f32⟩
  | .local _ .vmem, ⟨6, _⟩ => ⟨S1x128x8, .f32⟩
  | .local _ .vmem, ⟨7, _⟩ => ⟨S1x128x8, .f32⟩
  | .local _ .vmem, ⟨8, _⟩ => ⟨S1x6144, .f32⟩
  | .local _ .vmem, ⟨9, _⟩ => ⟨S1x6144, .f32⟩
  | .local _ .vmem, ⟨10, _⟩ => ⟨S128x6144, .bf16⟩
  | .local _ .vmem, ⟨11, _⟩ => ⟨S128x6144, .bf16⟩
  | .local _ .vmem, ⟨12, _⟩ => ⟨S128x6144, .f32⟩
  | .local _ .vmem, ⟨13, _⟩ => ⟨S128x6144, .f32⟩
  | _, _ => ⟨S8704x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 3 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8704x6144 : Shape := ⟨2, ![8704, 6144]⟩
abbrev S1x8x128x128 : Shape := ⟨4, ![1, 8, 128, 128]⟩
abbrev S1x8x128 : Shape := ⟨3, ![1, 8, 128]⟩
abbrev S1x6144 : Shape := ⟨2, ![1, 6144]⟩
abbrev S_ : Shape := ⟨0, ![]⟩
abbrev S8704 : Shape := ⟨1, ![8704]⟩
abbrev S8704x1 : Shape := ⟨2, ![8704, 1]⟩
abbrev S6144 : Shape := ⟨1, ![6144]⟩
abbrev S128x128 : Shape := ⟨2, ![128, 128]⟩
abbrev S8x128x128 : Shape := ⟨3, ![8, 128, 128]⟩
abbrev S8192x6144 : Shape := ⟨2, ![8192, 6144]⟩
abbrev S4x2048x6144 : Shape := ⟨3, ![4, 2048, 6144]⟩
abbrev S4x16x128x8x768 : Shape := ⟨5, ![4, 16, 128, 8, 768]⟩
abbrev S8x4x16x768x128 : Shape := ⟨5, ![8, 4, 16, 768, 128]⟩
abbrev S8x128 : Shape := ⟨2, ![8, 128]⟩
abbrev S128x8 : Shape := ⟨2, ![128, 8]⟩
abbrev S1x1x128x8x1 : Shape := ⟨5, ![1, 1, 128, 8, 1]⟩
abbrev S512x6144 : Shape := ⟨2, ![512, 6144]⟩
abbrev S128x4x6144 : Shape := ⟨3, ![128, 4, 6144]⟩
abbrev S128x128x6144 : Shape := ⟨3, ![128, 128, 6144]⟩
abbrev S128x1x128x8x768 : Shape := ⟨5, ![128, 1, 128, 8, 768]⟩
abbrev S8x128x1x768x128 : Shape := ⟨5, ![8, 128, 1, 768, 128]⟩

abbrev nBuf : Space → Nat
  | .hbm => 90
  | .vmem => 0
  | .smem => 0
  | _ => 0

abbrev bufTy : (tb : Table) → Fin (tcTables nBuf tb) → BufTy
  | .hbm, ⟨0, _⟩ => ⟨S8704x6144, .bf16⟩
  | .hbm, ⟨1, _⟩ => ⟨S8704x6144, .f32⟩
  | .hbm, ⟨2, _⟩ => ⟨S1x8x128x128, .f32⟩
  | .hbm, ⟨3, _⟩ => ⟨S1x8x128, .f32⟩
  | .hbm, ⟨4, _⟩ => ⟨S1x6144, .f32⟩
  | .hbm, ⟨5, _⟩ => ⟨S1x6144, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x6144, .f32⟩
  | .hbm, ⟨13, _⟩ => ⟨S8704x6144, .f32⟩
  | .hbm, ⟨14, _⟩ => ⟨S8704x6144, .f32⟩
  | .hbm, ⟨15, _⟩ => ⟨S_, .f32⟩
  | .hbm, ⟨16, _⟩ => ⟨S8704, .f32⟩
  | .hbm, ⟨17, _⟩ => ⟨S8704x1, .f32⟩
  | .hbm, ⟨18, _⟩ => ⟨S_, .f32⟩
  | .hbm, ⟨19, _⟩ => ⟨S8704x1, .f32⟩
  | .hbm, ⟨20, _⟩ => ⟨S8704x1, .f32⟩
  | .hbm, ⟨21, _⟩ => ⟨S8704x6144, .f32⟩
  | .hbm, ⟨22, _⟩ => ⟨S8704x6144, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x1, .f32⟩
  | .hbm, ⟨27, _⟩ => ⟨S8704x6144, .f32⟩
  | .hbm, ⟨28, _⟩ => ⟨S8704x6144, .f32⟩
  | .hbm, ⟨29, _⟩ => ⟨S6144, .f32⟩
  | .hbm, ⟨30, _⟩ => ⟨S1x6144, .f32⟩
  | .hbm, ⟨31, _⟩ => ⟨S8704x6144, .f32⟩
  | .hbm, ⟨32, _⟩ => ⟨S8704x6144, .f32⟩
  | .hbm, ⟨33, _⟩ => ⟨S6144, .f32⟩
  | .hbm, ⟨34, _⟩ => ⟨S1x6144, .f32⟩
  | .hbm, ⟨35, _⟩ => ⟨S8704x6144, .f32⟩
  | .hbm, ⟨36, _⟩ => ⟨S8704x6144, .f32⟩
  | .hbm, ⟨37, _⟩ => ⟨S_, .i1⟩
  | .hbm, ⟨38, _⟩ => ⟨S128x128, .i1⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S_, .i1⟩
  | .hbm, ⟨46, _⟩ => ⟨S128x128, .i1⟩
  | .hbm, ⟨47, _⟩ => ⟨S128x128, .i1⟩
  | .hbm, ⟨48, _⟩ => ⟨S8x128x128, .f32⟩
  | .hbm, ⟨49, _⟩ => ⟨S8x128x128, .f32⟩
  | .hbm, ⟨50, _⟩ => ⟨S_, .f32⟩
  | .hbm, ⟨51, _⟩ => ⟨S8x128x128, .f32⟩
  | .hbm, ⟨52, _⟩ => ⟨S8x128x128, .i1⟩
  | .hbm, ⟨53, _⟩ => ⟨S8x128x128, .f32⟩
  | .hbm, ⟨54, _⟩ => ⟨S8192x6144, .f32⟩
  | .hbm, ⟨55, _⟩ => ⟨S4x2048x6144, .f32⟩
  | .hbm, ⟨56, _⟩ => ⟨S_, .i32⟩
  | .hbm, ⟨57, _⟩ => ⟨S_, .f32⟩
  | .hbm, ⟨58, _⟩ => ⟨S4x2048x6144, .f32⟩
  | .hbm, ⟨59, _⟩ => ⟨S4x16x128x8x768, .f32⟩
  | .hbm, ⟨60, _⟩ => ⟨S8x4x16x768x128, .f32⟩
  | .hbm, ⟨61, _⟩ => ⟨S4x16x128x8x768, .f32⟩
  | .hbm, ⟨62, _⟩ => ⟨S8x128, .f32⟩
  | .hbm, ⟨63, _⟩ => ⟨S128x8, .f32⟩
  | .hbm, ⟨64, _⟩ => ⟨S1x1x128x8x1, .f32⟩
  | .hbm, ⟨65, _⟩ => ⟨S4x16x128x8x768, .f32⟩
  | .hbm, ⟨66, _⟩ => ⟨S4x16x128x8x768, .f32⟩
  | .hbm, ⟨67, _⟩ => ⟨S4x2048x6144, .f32⟩
  | .hbm, ⟨68, _⟩ => ⟨S8192x6144, .f32⟩
  | .hbm, ⟨69, _⟩ => ⟨S512x6144, .f32⟩
  | .hbm, ⟨70, _⟩ => ⟨S128x4x6144, .f32⟩
  | .hbm, ⟨71, _⟩ => ⟨S_, .i32⟩
  | .hbm, ⟨72, _⟩ => ⟨S_, .f32⟩
  | .hbm, ⟨73, _⟩ => ⟨S128x128x6144, .f32⟩
  | .hbm, ⟨74, _⟩ => ⟨S128x1x128x8x768, .f32⟩
  | .hbm, ⟨75, _⟩ => ⟨S8x128x1x768x128, .f32⟩
  | .hbm, ⟨76, _⟩ => ⟨S128x1x128x8x768, .f32⟩
  | .hbm, ⟨77, _⟩ => ⟨S8x128, .f32⟩
  | .hbm, ⟨78, _⟩ => ⟨S128x8, .f32⟩
  | .hbm, ⟨79, _⟩ => ⟨S1x1x128x8x1, .f32⟩
  | .hbm, ⟨80, _⟩ => ⟨S128x1x128x8x768, .f32⟩
  | .hbm, ⟨81, _⟩ => ⟨S128x1x128x8x768, .f32⟩
  | .hbm, ⟨82, _⟩ => ⟨S128x128x6144, .f32⟩
  | .hbm, ⟨83, _⟩ => ⟨S128x4x6144, .f32⟩
  | .hbm, ⟨84, _⟩ => ⟨S512x6144, .f32⟩
  | .hbm, ⟨85, _⟩ => ⟨S8704x6144, .f32⟩
  | .hbm, ⟨86, _⟩ => ⟨S8704x6144, .f32⟩
  | .hbm, ⟨87, _⟩ => ⟨S8704x6144, .f32⟩
  | .hbm, ⟨88, _⟩ => ⟨S8704x6144, .bf16⟩
  | .hbm, ⟨89, _⟩ => ⟨S512x6144, .f32⟩
  | _, _ => ⟨S8704x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_call2_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_call3_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel9.lean ====
abbrev S8704x6144 : Shape := ⟨2, ![8704, 6144]⟩
abbrev S8704x128 : Shape := ⟨2, ![8704, 128]⟩
abbrev S1x8x256 : Shape := ⟨3, ![1, 8, 256]⟩
abbrev S_ : Shape := ⟨0, ![]⟩
abbrev S4x8x128x256 : Shape := ⟨4, ![4, 8, 128, 256]⟩
abbrev S1x8704x6144 : Shape := ⟨3, ![1, 8704, 6144]⟩
abbrev S1x8704x128 : Shape := ⟨3, ![1, 8704, 128]⟩
abbrev S4x8x128 : Shape := ⟨3, ![4, 8, 128]⟩
abbrev S4x8 : Shape := ⟨2, ![4, 8]⟩
abbrev S8x256 : Shape := ⟨2, ![8, 256]⟩
abbrev S1x8704x16 : Shape := ⟨3, ![1, 8704, 16]⟩
abbrev S1x16x8704 : Shape := ⟨3, ![1, 16, 8704]⟩
abbrev S4x8x1x128 : Shape := ⟨4, ![4, 8, 1, 128]⟩
abbrev S4x8x1x1 : Shape := ⟨4, ![4, 8, 1, 1]⟩
abbrev S8x1x256 : Shape := ⟨3, ![8, 1, 256]⟩
abbrev S1x8192x2048 : Shape := ⟨3, ![1, 8192, 2048]⟩
abbrev S1x256x1024 : Shape := ⟨3, ![1, 256, 1024]⟩
abbrev S1x256x2048 : Shape := ⟨3, ![1, 256, 2048]⟩
abbrev S1x256x128 : Shape := ⟨3, ![1, 256, 128]⟩
abbrev S1x16x256 : Shape := ⟨3, ![1, 16, 256]⟩
abbrev S1x8x128x256 : Shape := ⟨4, ![1, 8, 128, 256]⟩
abbrev S1x8x1x128 : Shape := ⟨4, ![1, 8, 1, 128]⟩
abbrev S256x256 : Shape := ⟨2, ![256, 256]⟩
abbrev S256x128 : Shape := ⟨2, ![256, 128]⟩
abbrev S16x256 : Shape := ⟨2, ![16, 256]⟩
abbrev S1x256x256 : Shape := ⟨3, ![1, 256, 256]⟩
abbrev S256x1 : Shape := ⟨2, ![256, 1]⟩
abbrev S1x256 : Shape := ⟨2, ![1, 256]⟩
abbrev S1x1x1x128 : Shape := ⟨4, ![1, 1, 1, 128]⟩
abbrev S1x128 : Shape := ⟨2, ![1, 128]⟩
abbrev S1x1 : Shape := ⟨2, ![1, 1]⟩
abbrev S256 : Shape := ⟨1, ![256]⟩
abbrev S1 : Shape := ⟨1, ![1]⟩
abbrev S1x1x128x256 : Shape := ⟨4, ![1, 1, 128, 256]⟩
abbrev S128x256 : Shape := ⟨2, ![128, 256]⟩
abbrev S128 : Shape := ⟨1, ![128]⟩
abbrev S1x1x256 : Shape := ⟨3, ![1, 1, 256]⟩

abbrev nBuf : Space → Nat
  | .hbm => 22
  | .vmem => 27
  | .smem => 0
  | _ => 0

abbrev bufTy : (tb : Table) → Fin (tcTables nBuf tb) → BufTy
  | .hbm, ⟨0, _⟩ => ⟨S8704x6144, .f32⟩
  | .hbm, ⟨1, _⟩ => ⟨S8704x128, .f32⟩
  | .hbm, ⟨2, _⟩ => ⟨S1x8x256, .f32⟩
  | .hbm, ⟨3, _⟩ => ⟨S_, .f32⟩
  | .hbm, ⟨4, _⟩ => ⟨S4x8x128x256, .f32⟩
  | .hbm, ⟨5, _⟩ => ⟨S1x8704x6144, .f32⟩
  | .hbm, ⟨6, _⟩ => ⟨S1x8704x128, .f32⟩
  | .hbm, ⟨7, _⟩ => ⟨S_, .f32⟩
  | .hbm, ⟨8, _⟩ => ⟨S4x8x128, .f32⟩
  | .hbm, ⟨9, _⟩ => ⟨S_, .f32⟩
  | .hbm, ⟨10, _⟩ => ⟨S4x8, .f32⟩
  | .hbm, ⟨11, _⟩ => ⟨S8x256, .f32⟩
  | .hbm, ⟨12, _⟩ => ⟨S1x8704x16, .f32⟩
  | .hbm, ⟨13, _⟩ => ⟨S1x16x8704, .f32⟩
  | .hbm, ⟨14, _⟩ => ⟨S4x8x1x128, .f32⟩
  | .hbm, ⟨15, _⟩ => ⟨S4x8x1x1, .f32⟩
  | .hbm, ⟨16, _⟩ => ⟨S4x8x1x128, .f32⟩
  | .hbm, ⟨17, _⟩ => ⟨S8x1x256, .f32⟩
  | .hbm, ⟨18, _⟩ => ⟨S1x8192x2048, .bf16⟩
  | .hbm, ⟨19, _⟩ => ⟨S4x8x128x256, .f32⟩
  | .hbm, ⟨20, _⟩ => ⟨S4x8x1x128, .f32⟩
  | .hbm, ⟨21, _⟩ => ⟨S4x8x1x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x128, .f32⟩
  | .local _ .vmem, ⟨9, _⟩ => ⟨S1x256x128, .f32⟩
  | .local _ .vmem, ⟨10, _⟩ => ⟨S1x16x256, .f32⟩
  | .local _ .vmem, ⟨11, _⟩ => ⟨S1x16x256, .f32⟩
  | .local _ .vmem, ⟨12, _⟩ => ⟨S1x8x128x256, .f32⟩
  | .local _ .vmem, ⟨13, _⟩ => ⟨S1x8x128x256, .f32⟩
  | .local _ .vmem, ⟨14, _⟩ => ⟨S1x8x1x128, .f32⟩
  | .local _ .vmem, ⟨15, _⟩ => ⟨S1x8x1x128, .f32⟩
  | .local _ .vmem, ⟨16, _⟩ => ⟨S1x8x1x128, .f32⟩
  | .local _ .vmem, ⟨17, _⟩ => ⟨S1x8x1x128, .f32⟩
  | .local _ .vmem, ⟨18, _⟩ => ⟨S8x1x256, .f32⟩
  | .local _ .vmem, ⟨19, _⟩ => ⟨S1x256x2048, .bf16⟩
  | .local _ .vmem, ⟨20, _⟩ => ⟨S1x256x2048, .bf16⟩
  | .local _ .vmem, ⟨21, _⟩ => ⟨S1x8x128x256, .f32⟩
  | .local _ .vmem, ⟨22, _⟩ => ⟨S1x8x128x256, .f32⟩
  | .local _ .vmem, ⟨23, _⟩ => ⟨S1x8x1x128, .f32⟩
  | .local _ .vmem, ⟨24, _⟩ => ⟨S1x8x1x128, .f32⟩
  | .local _ .vmem, ⟨25, _⟩ => ⟨S1x8x1x128, .f32⟩
  | .local _ .vmem, ⟨26, _⟩ => ⟨S1x8x1x128, .f32⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c1_i32 : BitVec 32 := 1#32
  let c0_i32_0 : BitVec 32 := 0#32
  ![c0_i32.toNat, v1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c1_i32 : BitVec 32 := 1#32
  let c0_i32_0 : BitVec 32 := 0#32
  ![c0_i32.toNat, v1.toNat, c1_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c2_i32 : BitVec 32 := 2#32
  let c0_i32_0 : BitVec 32 := 0#32
  ![c0_i32.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli arg0 c8_i32_0
  let v3 : BitVec 32 := Scalar.addi v2 arg1
  let c0_i32 : BitVec 32 := 0#32
  let c0_i32_1 : BitVec 32 := 0#32
  let c0_i32_2 : BitVec 32 := 0#32
  ![c0_i32.toNat, c0_i32_1.toNat, v3.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference9Ideal.lean ====
abbrev S8704x6144 : Shape := ⟨2, ![8704, 6144]⟩
abbrev S8704x128 : Shape := ⟨2, ![8704, 128]⟩
abbrev S1x8x256 : Shape := ⟨3, ![1, 8, 256]⟩
abbrev S8192x6144 : Shape := ⟨2, ![8192, 6144]⟩
abbrev S4x2048x6144 : Shape := ⟨3, ![4, 2048, 6144]⟩
abbrev S4x2048x1024 : Shape := ⟨3, ![4, 2048, 1024]⟩
abbrev S4x2048x8x128 : Shape := ⟨4, ![4, 2048, 8, 128]⟩
abbrev S_ : Shape := ⟨0, ![]⟩
abbrev S4x2048x2048 : Shape := ⟨3, ![4, 2048, 2048]⟩
abbrev S4x2048x8x256 : Shape := ⟨4, ![4, 2048, 8, 256]⟩
abbrev S8192x128 : Shape := ⟨2, ![8192, 128]⟩
abbrev S4x2048x128 : Shape := ⟨3, ![4, 2048, 128]⟩
abbrev S4x2048x8 : Shape := ⟨3, ![4, 2048, 8]⟩
abbrev S4x8x128x256 : Shape := ⟨4, ![4, 8, 128, 256]⟩
abbrev S4x8x128 : Shape := ⟨3, ![4, 8, 128]⟩
abbrev S4x8 : Shape := ⟨2, ![4, 8]⟩
abbrev S4x8x2048x128 : Shape := ⟨4, ![4, 8, 2048, 128]⟩
abbrev S4x8x2048x256 : Shape := ⟨4, ![4, 8, 2048, 256]⟩
abbrev S4x8x2048 : Shape := ⟨3, ![4, 8, 2048]⟩
abbrev S2048x2048 : Shape := ⟨2, ![2048, 2048]⟩
abbrev S4x8x2048x1 : Shape := ⟨4, ![4, 8, 2048, 1]⟩
abbrev S4x8x1x2048 : Shape := ⟨4, ![4, 8, 1, 2048]⟩
abbrev S4x8x2048x2048 : Shape := ⟨4, ![4, 8, 2048, 2048]⟩
abbrev S4x8x1 : Shape := ⟨3, ![4, 8, 1]⟩
abbrev S4x8x1x1 : Shape := ⟨4, ![4, 8, 1, 1]⟩
abbrev S4x2048x8x1 : Shape := ⟨4, ![4, 2048, 8, 1]⟩
abbrev S8x256 : Shape := ⟨2, ![8, 256]⟩
abbrev S1x1x8x256 : Shape := ⟨4, ![1, 1, 8, 256]⟩
abbrev S1x8192x2048 : Shape := ⟨3, ![1, 8192, 2048]⟩
abbrev S4x8x1x128 : Shape := ⟨4, ![4, 8, 1, 128]⟩

abbrev nBuf : Space → Nat
  | .hbm => 178
  | .vmem => 0
  | .smem => 0
  | _ => 0

abbrev hbmTy0_0 (i : Nat) : BufTy := match i % 128 with
  | 0 => ⟨S8704x6144, .f32⟩
  | 1 => ⟨S8704x128, .f32⟩
  | 2 => ⟨S1x8x256, .f32⟩
  | 3 => ⟨S8192x6144, .f32⟩
  | 4 => ⟨S4x2048x6144, .f32⟩
  | 5 => ⟨S4x2048x1024, .f32⟩
  | 6 => ⟨S4x2048x8x128, .f32⟩
  | 7 => ⟨S4x2048x1024, .f32⟩
  | 8 => ⟨S4x2048x8x128, .f32⟩
  | 9 => ⟨S_, .f32⟩
  | 10 => ⟨S4x2048x8x128, .f32⟩
  | 11 => ⟨S4x2048x8x128, .f32⟩
  | 12 => ⟨S4x2048x2048, .f32⟩
  | 13 => ⟨S4x2048x8x256, .f32⟩
  | 14 => ⟨S4x2048x2048, .f32⟩
  | 15 => ⟨S8192x128, .f32⟩
  | 16 => ⟨S4x2048x128, .f32⟩
  | 17 => ⟨S4x2048x8, .f32⟩
  | 18 => ⟨S4x2048x8, .f32⟩
  | 19 => ⟨S4x2048x8, .f32⟩
  | 20 => ⟨S_, .f32⟩
  | 21 => ⟨S4x2048x8, .f32⟩
  | 22 => ⟨S4x2048x8, .f32⟩
  | 23 => ⟨S4x2048x8, .f32⟩
  | 24 => ⟨S4x2048x8, .f32⟩
  | 25 => ⟨S4x2048x8, .i1⟩
  | 26 => ⟨S4x2048x8, .f32⟩
  | 27 => ⟨S4x2048x8, .f32⟩
  | 28 => ⟨S4x2048x8, .f32⟩
  | 29 => ⟨S4x2048x8, .f32⟩
  | 30 => ⟨S4x2048x8, .f32⟩
  | 31 => ⟨S4x2048x8, .f32⟩
  | 32 => ⟨S4x2048x8, .f32⟩
  | 33 => ⟨S4x2048x8, .f32⟩
  | 34 => ⟨S4x2048x8, .f32⟩
  | 35 => ⟨S_, .f32⟩
  | 36 => ⟨S4x8x128x256, .f32⟩
  | 37 => ⟨S_, .f32⟩
  | 38 => ⟨S4x8x128, .f32⟩
  | 39 => ⟨S_, .f32⟩
  | 40 => ⟨S4x8, .f32⟩
  | 41 => ⟨S4x8x2048x128, .f32⟩
  | 42 => ⟨S4x8x2048x128, .f32⟩
  | 43 => ⟨S4x8x2048x256, .f32⟩
  | 44 => ⟨S4x8x2048, .f32⟩
  | 45 => ⟨S4x8x2048, .f32⟩
  | 46 => ⟨S_, .i1⟩
  | 47 => ⟨S2048x2048, .i1⟩
  | 48 => ⟨S2048x2048, .i32⟩
  | 49 => ⟨S_, .i32⟩
  | 50 => ⟨S2048x2048, .i32⟩
  | 51 => ⟨S2048x2048, .i32⟩
  | 52 => ⟨S2048x2048, .i32⟩
  | 53 => ⟨S2048x2048, .i1⟩
  | 54 => ⟨S_, .i1⟩
  | 55 => ⟨S2048x2048, .i1⟩
  | 56 => ⟨S2048x2048, .i1⟩
  | 57 => ⟨S_, .f32⟩
  | 58 => ⟨S_, .f32⟩
  | 59 => ⟨S4x8x2048, .f32⟩
  | 60 => ⟨S4x8x2048x1, .f32⟩
  | 61 => ⟨S4x8x1x2048, .f32⟩
  | 62 => ⟨S4x8x2048x2048, .f32⟩
  | 63 => ⟨S4x8x2048x2048, .f32⟩
  | 64 => ⟨S4x8x2048x2048, .f32⟩
  | 65 => ⟨S4x8x1x2048, .f32⟩
  | 66 => ⟨S4x8x2048x2048, .f32⟩
  | 67 => ⟨S4x8x2048x2048, .f32⟩
  | 68 => ⟨S_, .f32⟩
  | 69 => ⟨S_, .f32⟩
  | 70 => ⟨S4x8x2048x2048, .i1⟩
  | 71 => ⟨S4x8x2048x2048, .f32⟩
  | 72 => ⟨S4x8x2048x2048, .f32⟩
  | 73 => ⟨S4x8x1, .f32⟩
  | 74 => ⟨S4x8x2048, .f32⟩
  | 75 => ⟨S4x8x2048, .f32⟩
  | 76 => ⟨S_, .f32⟩
  | 77 => ⟨S4x8x2048, .f32⟩
  | 78 => ⟨S4x8x2048, .f32⟩
  | 79 => ⟨S4x8x2048x2048, .f32⟩
  | 80 => ⟨S4x8x2048x1, .f32⟩
  | 81 => ⟨S4x8x2048x2048, .f32⟩
  | 82 => ⟨S4x8x2048x2048, .f32⟩
  | 83 => ⟨S4x8x2048x2048, .f32⟩
  | 84 => ⟨S4x8x2048x2048, .f32⟩
  | 85 => ⟨S4x8x2048, .f32⟩
  | 86 => ⟨S4x8x2048, .f32⟩
  | 87 => ⟨S4x8x2048x256, .f32⟩
  | 88 => ⟨S4x8x2048x1, .f32⟩
  | 89 => ⟨S4x8x2048x256, .f32⟩
  | 90 => ⟨S4x8x2048x256, .f32⟩
  | 91 => ⟨S4x8x2048x256, .f32⟩
  | 92 => ⟨S4x8x2048x256, .f32⟩
  | 93 => ⟨S_, .f32⟩
  | 94 => ⟨S4x8x2048, .f32⟩
  | 95 => ⟨S4x8x2048, .f32⟩
  | 96 => ⟨S4x8x2048, .f32⟩
  | 97 => ⟨S4x8x2048, .f32⟩
  | 98 => ⟨S4x8x2048, .f32⟩
  | 99 => ⟨S4x8x2048, .f32⟩
  | 100 => ⟨S4x8x2048, .f32⟩
  | 101 => ⟨S4x8x2048, .f32⟩
  | 102 => ⟨S4x8x2048x1, .f32⟩
  | 103 => ⟨S4x8x2048x256, .f32⟩
  | 104 => ⟨S4x8x2048x256, .f32⟩
  | 105 => ⟨S4x8x1, .f32⟩
  | 106 => ⟨S4x8, .f32⟩
  | 107 => ⟨S4x8x1, .f32⟩
  | 108 => ⟨S4x8x2048, .f32⟩
  | 109 => ⟨S4x8x2048, .f32⟩
  | 110 => ⟨S4x8x2048, .f32⟩
  | 111 => ⟨S4x8, .f32⟩
  | 112 => ⟨S_, .f32⟩
  | 113 => ⟨S4x8, .f32⟩
  | 114 => ⟨S4x8, .f32⟩
  | 115 => ⟨S4x8x1, .f32⟩
  | 116 => ⟨S4x8x2048, .f32⟩
  | 117 => ⟨S4x8x2048, .f32⟩
  | 118 => ⟨S4x8x2048, .f32⟩
  | 119 => ⟨S4x8, .f32⟩
  | 120 => ⟨S4x8, .f32⟩
  | 121 => ⟨S4x8, .f32⟩
  | 122 => ⟨S4x8x1x1, .f32⟩
  | 123 => ⟨S4x8x128x256, .f32⟩
  | 124 => ⟨S4x8x128x256, .f32⟩
  | 125 => ⟨S4x8x2048x1, .f32⟩
  | 126 => ⟨S4x8x2048x128, .f32⟩
  | 127 => ⟨S4x8x2048x128, .f32⟩
  | _ => ⟨S8704x6144, .f32⟩

abbrev hbmTy0_1 (i : Nat) : BufTy := match i % 128 with
  | 0 => ⟨S4x8x128x256, .f32⟩
  | 1 => ⟨S4x8x128x256, .f32⟩
  | 2 => ⟨S4x8x1, .f32⟩
  | 3 => ⟨S4x8x128, .f32⟩
  | 4 => ⟨S4x8x128, .f32⟩
  | 5 => ⟨S4x8x128, .f32⟩
  | 6 => ⟨S4x8x128, .f32⟩
  | 7 => ⟨S4x2048x8x256, .f32⟩
  | 8 => ⟨S4x2048x2048, .f32⟩
  | 9 => ⟨S4x2048x2048, .f32⟩
  | 10 => ⟨S_, .f32⟩
  | 11 => ⟨S4x2048x2048, .f32⟩
  | 12 => ⟨S4x2048x2048, .f32⟩
  | 13 => ⟨S_, .f32⟩
  | 14 => ⟨S4x2048x2048, .f32⟩
  | 15 => ⟨S4x2048x2048, .f32⟩
  | 16 => ⟨S4x2048x8x256, .f32⟩
  | 17 => ⟨S4x2048x8x256, .f32⟩
  | 18 => ⟨S_, .f32⟩
  | 19 => ⟨S4x2048x8, .f32⟩
  | 20 => ⟨S4x2048x8x1, .f32⟩
  | 21 => ⟨S_, .f32⟩
  | 22 => ⟨S4x2048x8x1, .f32⟩
  | 23 => ⟨S4x2048x8x1, .f32⟩
  | 24 => ⟨S4x2048x8x256, .f32⟩
  | 25 => ⟨S4x2048x8x256, .f32⟩
  | 26 => ⟨S4x2048x8x256, .f32⟩
  | 27 => ⟨S_, .f32⟩
  | 28 => ⟨S4x2048x8, .f32⟩
  | 29 => ⟨S4x2048x8x1, .f32⟩
  | 30 => ⟨S_, .f32⟩
  | 31 => ⟨S4x2048x8x1, .f32⟩
  | 32 => ⟨S4x2048x8x1, .f32⟩
  | 33 => ⟨S4x2048x8x256, .f32⟩
  | 34 => ⟨S4x2048x8x256, .f32⟩
  | 35 => ⟨S_, .f32⟩
  | 36 => ⟨S4x2048x8x1, .f32⟩
  | 37 => ⟨S4x2048x8x1, .f32⟩
  | 38 => ⟨S4x2048x8x1, .f32⟩
  | 39 => ⟨S4x2048x8x256, .f32⟩
  | 40 => ⟨S4x2048x8x256, .f32⟩
  | 41 => ⟨S8x256, .f32⟩
  | 42 => ⟨S1x1x8x256, .f32⟩
  | 43 => ⟨S4x2048x8x256, .f32⟩
  | 44 => ⟨S4x2048x8x256, .f32⟩
  | 45 => ⟨S1x8192x2048, .f32⟩
  | 46 => ⟨S1x8192x2048, .bf16⟩
  | 47 => ⟨S4x8x1x128, .f32⟩
  | 48 => ⟨S4x8x1x1, .f32⟩
  | 49 => ⟨S4x8x1x128, .f32⟩
  | _ => ⟨S8704x6144, .f32⟩

abbrev hbmTy (i : Nat) : BufTy := match i / 128 with
  | 0 => hbmTy0_0 i
  | 1 => hbmTy0_1 i
  | _ => ⟨S8704x6144, .f32⟩

abbrev bufTy : (tb : Table) → Fin (tcTables nBuf tb) → BufTy
  | .hbm, ⟨i, _⟩ => hbmTy i
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v25 : Ref sig .tc := ⟨.hbm, 56, rfl⟩
abbrev main_call2_call0_cst : Ref sig .tc := ⟨.hbm, 57, rfl⟩
abbrev main_call2_call0_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_3 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_4 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_5 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_6 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_7 : Ref sig .tc := ⟨.hbm, 138, rfl⟩
abbrev main_v98 : Ref sig .tc := ⟨.hbm, 139, rfl⟩
abbrev main_v99 : Ref sig .tc := ⟨.hbm, 140, rfl⟩
abbrev main_cst_8 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_9 : Ref sig .tc := ⟨.hbm, 146, rfl⟩
abbrev main_v104 : Ref sig .tc := ⟨.hbm, 147, rfl⟩
abbrev main_v105 : Ref sig .tc := ⟨.hbm, 148, rfl⟩
abbrev main_cst_10 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_11 : Ref sig .tc := ⟨.hbm, 155, rfl⟩
abbrev main_v111 : Ref sig .tc := ⟨.hbm, 156, rfl⟩
abbrev main_v112 : Ref sig .tc := ⟨.hbm, 157, rfl⟩
abbrev main_cst_12 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_13 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩

abbrev nD : Nat := 1
abbrev τ : Topo := Topo.v7x

variable {F : FTy → Type} [FloatOps F]
-- ==== Kernel10.lean ====
abbrev S8704x2048 : Shape := ⟨2, ![8704, 2048]⟩
abbrev S2048x8704 : Shape := ⟨2, ![2048, 8704]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S2048x8704, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8704x2048, .f32⟩
  | .hbm, ⟨11, _⟩ => ⟨S8704x2048, .bf16⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8704x2048 : Shape := ⟨2, ![8704, 2048]⟩
abbrev S2048x8704 : Shape := ⟨2, ![2048, 8704]⟩
abbrev S2x2048 : Shape := ⟨2, ![2, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048 : Shape := ⟨1, ![2048]⟩

abbrev nBuf : Space → Nat
  | .hbm => 43
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x8704, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S_, .f32⟩
  | .hbm, ⟨10, _⟩ => ⟨S8704, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x2048, .f32⟩
  | .hbm, ⟨16, _⟩ => ⟨S8704x2048, .f32⟩
  | .hbm, ⟨17, _⟩ => ⟨S8704x2048, .f32⟩
  | .hbm, ⟨18, _⟩ => ⟨S_, .f32⟩
  | .hbm, ⟨19, _⟩ => ⟨S8704, .f32⟩
  | .hbm, ⟨20, _⟩ => ⟨S8704x1, .f32⟩
  | .hbm, ⟨21, _⟩ => ⟨S_, .f32⟩
  | .hbm, ⟨22, _⟩ => ⟨S8704x1, .f32⟩
  | .hbm, ⟨23, _⟩ => ⟨S8704x1, .f32⟩
  | .hbm, ⟨24, _⟩ => ⟨S8704x2048, .f32⟩
  | .hbm, ⟨25, _⟩ => ⟨S8704x2048, .f32⟩
  | .hbm, ⟨26, _⟩ => ⟨S_, .f32⟩
  | .hbm, ⟨27, _⟩ => ⟨S8704x1, .f32⟩
  | .hbm, ⟨28, _⟩ => ⟨S8704x1, .f32⟩
  | .hbm, ⟨29, _⟩ => ⟨S8704x1, .f32⟩
  | .hbm, ⟨30, _⟩ => ⟨S8704x2048, .f32⟩
  | .hbm, ⟨31, _⟩ => ⟨S8704x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8704x2048, .f32⟩
  | .hbm, ⟨36, _⟩ => ⟨S8704x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S8704x2048, .f32⟩
  | .hbm, ⟨41, _⟩ => ⟨S8704x2048, .f32⟩
  | .hbm, ⟨42, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel11.lean ====
abbrev S8704x2048 : Shape := ⟨2, ![8704, 2048]⟩
abbrev S1x2048x6160 : Shape := ⟨3, ![1, 2048, 6160]⟩
abbrev S1x16 : Shape := ⟨2, ![1, 16]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S16 : Shape := ⟨1, ![16]⟩
abbrev S128 : Shape := ⟨1, ![128]⟩
abbrev S1x128 : Shape := ⟨2, ![1, 128]⟩
abbrev S8704x128 : Shape := ⟨2, ![8704, 128]⟩
abbrev S512x2048 : Shape := ⟨2, ![512, 2048]⟩
abbrev S512x128 : Shape := ⟨2, ![512, 128]⟩

abbrev nBuf : Space → Nat
  | .hbm => 14
  | .vmem => 6
  | .smem => 0
  | _ => 0

abbrev bufTy : (tb : Table) → Fin (tcTables nBuf tb) → BufTy
  | .hbm, ⟨0, _⟩ => ⟨S8704x2048, .f32⟩
  | .hbm, ⟨1, _⟩ => ⟨S1x2048x6160, .f32⟩
  | .hbm, ⟨2, _⟩ => ⟨S1x16, .f32⟩
  | .hbm, ⟨3, _⟩ => ⟨S2048x6160, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S16, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S8704x128, .f32⟩
  | .local _ .vmem, ⟨0, _⟩ => ⟨S512x2048, .f32⟩
  | .local _ .vmem, ⟨1, _⟩ => ⟨S512x2048, .f32⟩
  | .local _ .vmem, ⟨2, _⟩ => ⟨S2048x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8704x2048 : Shape := ⟨2, ![8704, 2048]⟩
abbrev S1x2048x6160 : Shape := ⟨3, ![1, 2048, 6160]⟩
abbrev S1x16 : Shape := ⟨2, ![1, 16]⟩
abbrev S2048x6160 : Shape := ⟨2, ![2048, 6160]⟩
abbrev S8704x6160 : Shape := ⟨2, ![8704, 6160]⟩
abbrev S8704x16 : Shape := ⟨2, ![8704, 16]⟩
abbrev S16 : Shape := ⟨1, ![16]⟩
abbrev S_ : Shape := ⟨0, ![]⟩
abbrev S8704x128 : Shape := ⟨2, ![8704, 128]⟩

abbrev nBuf : Space → Nat
  | .hbm => 13
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S1x2048x6160, .f32⟩
  | .hbm, ⟨2, _⟩ => ⟨S1x16, .f32⟩
  | .hbm, ⟨3, _⟩ => ⟨S2048x6160, .f32⟩
  | .hbm, ⟨4, _⟩ => ⟨S8704x6160, .f32⟩
  | .hbm, ⟨5, _⟩ => ⟨S8704x16, .f32⟩
  | .hbm, ⟨6, _⟩ => ⟨S16, .f32⟩
  | .hbm, ⟨7, _⟩ => ⟨S1x16, .f32⟩
  | .hbm, ⟨8, _⟩ => ⟨S8704x16, .f32⟩
  | .hbm, ⟨9, _⟩ => ⟨S8704x16, .f32⟩
  | .hbm, ⟨10, _⟩ => ⟨S_, .i32⟩
  | .hbm, ⟨11, _⟩ => ⟨S_, .f32⟩
  | .hbm, ⟨12, _⟩ => ⟨S8704x128, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Heads.lean ====
module

public import proofs.«01_k».proof.Proof.Gen.KernelIdeal.Value
public import Idealize.ShloMosaic.Lib.Tactic
public import Idealize.ShloMosaic.Lib.Pipeline.ReadBack
public import Idealize.ShloMosaic.Lib.Pointwise
public import Mathlib.Tactic.IntervalCases

@[expose] public section

set_option maxRecDepth 65536

noncomputable section

namespace Cert.KernelIdeal.Heads

open Cert.KernelIdeal Cert.KernelIdeal.Gen Idealize.ShloMosaic Idealize.ShloMosaic.TcCoe Idealize.SL.Sem

variable {F : FTy → Type} [FloatOps F]

variable (x0 : Vec F S1x8x1024 .f32) (x1 : Vec F S1x8x1024 .f32) (x2 : Vec F S1x8x2048 .f32) (x3 : Vec F S1x8x2048 .f32)
  (x4 : Vec F S1x8x128 .f32) (x5 : Vec F S1x16x8 .f32) (x6 : Vec F S1x8x128x256 .f32) (x7 : Vec F S1x8x1x128 .f32)
  (x8 : Vec F S1x8x1x128 .f32) (x9 : Vec F S8x1x256 .f32)
/-! ## What head `h` reads of the blocks -/

theorem inbK (h : ℕ) (hh : h < 8) : ∀ a, (![0, 0, h * 128] : Fin 3 → ℕ) a + (![1, 8, 128] : Fin 3 → ℕ) a ≤ S1x8x1024.size a := by
  intro a; fin_cases a <;> simp [S1x8x1024]; omega

theorem inbV (h : ℕ) (hh : h < 8) : ∀ a, (![0, 0, h * 256] : Fin 3 → ℕ) a + (![1, 8, 256] : Fin 3 → ℕ) a ≤ S1x8x2048.size a := by
  intro a; fin_cases a <;> simp [S1x8x2048]; omega

theorem inbC (h : ℕ) (hh : h < 8) : ∀ a, (![0, h, 0, 0] : Fin 4 → ℕ) a + (![1, 1, 128, 256] : Fin 4 → ℕ) a ≤ S1x8x128x256.size a := by
  intro a; fin_cases a <;> simp [S1x8x128x256]; omega

theorem inbN (h : ℕ) (hh : h < 8) : ∀ a, (![0, h, 0, 0] : Fin 4 → ℕ) a + (![1, 1, 1, 128] : Fin 4 → ℕ) a ≤ S1x8x1x128.size a := by
  intro a; fin_cases a <;> simp [S1x8x1x128]; omega

theorem inbG (h : ℕ) (hh : h < 8) : ∀ a, (![h, 0, 0] : Fin 3 → ℕ) a + (![1, 1, 256] : Fin 3 → ℕ) a ≤ S8x1x256.size a := by
  intro a; fin_cases a <;> simp [S8x1x256]; omega

theorem sl0 (h : ℕ) (hh : h < 8) : S8x128.Slices ![0, 8 + h] S8x1 := by interval_cases h <;> decide
theorem sl1 (h : ℕ) (hh : h < 8) : S16x8.Slices ![8 + h, 0] S1x8 := by interval_cases h <;> decide
theorem sl2 (h : ℕ) (hh : h < 8) : S8x128.Slices ![0, h] S8x1 := by interval_cases h <;> decide
theorem sl3 (h : ℕ) (hh : h < 8) : S16x8.Slices ![h, 0] S1x8 := by interval_cases h <;> decide
variable (h : ℕ) (hh : h < 8)

/-- The head's queries. -/
def qH : FVec F S8x128 .f32 := k0_pay10 (View.ld x0 (Rect.unit ![0, 0, h * 128] ![1, 8, 128] (inbK h hh)))

/-- The head's keys, scaled. -/
def kH : FVec F S8x128 .f32 := k0_pay12 (k0_pay11 (View.ld x1 (Rect.unit ![0, 0, h * 128] ![1, 8, 128] (inbK h hh))))

/-- The head's values. -/
def vH : FVec F S8x256 .bf16 := k0_pay13 (View.ld x2 (Rect.unit ![0, 0, h * 256] ![1, 8, 256] (inbV h hh)))

/-- The running sums of the head's forget gate, a column. -/
def bCol : FVec F S8x1 .f32 :=
  extractStridedSlice S8x1 ![0, 8 + h]
    (k0_pay8 (View.ld x4 (Rect.unit ![0, 0, 0] ![1, 8, 128] inb_S1x8x128_S1x8x128_0_0_0))) (sl0 h hh)

/-- The running sums of the head's forget gate, a row. -/
def bRow : FVec F S1x8 .f32 :=
  extractStridedSlice S1x8 ![8 + h, 0]
    (k0_pay9 (View.ld x5 (Rect.unit ![0, 0, 0] ![1, 16, 8] inb_S1x16x8_S1x16x8_0_0_0))) (sl1 h hh)

/-- The head's input gate, a column. -/
def iCol : FVec F S8x1 .f32 :=
  extractStridedSlice S8x1 ![0, h]
    (k0_pay6 (View.ld x4 (Rect.unit ![0, 0, 0] ![1, 8, 128] inb_S1x8x128_S1x8x128_0_0_0))) (sl2 h hh)

/-- The head's input gate, a row. -/
def iRow : FVec F S1x8 .f32 :=
  extractStridedSlice S1x8 ![h, 0]
    (k0_pay7 (View.ld x5 (Rect.unit ![0, 0, 0] ![1, 16, 8] inb_S1x16x8_S1x16x8_0_0_0))) (sl3 h hh)

/-- The head's state before the chunk: the matrix, the vector and the level. -/
def cH : Vec F S1x1x128x256 .f32 :=
  View.ld (Val := Elt F) (e' := .f32) (S := S1x8x128x256) (k0_pay2 (View.ld x6 (Rect.unit ![0, 0, 0, 0] ![1, 8, 128, 256] inb_S1x8x128x256_S1x8x128x256_0_0_0_0)))
    (Rect.unit ![0, h, 0, 0] ![1, 1, 128, 256] (inbC h hh))
def nH : Vec F S1x1x1x128 .f32 :=
  View.ld (Val := Elt F) (e' := .f32) (S := S1x8x1x128) (k0_pay3 (View.ld x7 (Rect.unit ![0, 0, 0, 0] ![1, 8, 1, 128] inb_S1x8x1x128_S1x8x1x128_0_0_0_0)))
    (Rect.unit ![0, h, 0, 0] ![1, 1, 1, 128] (inbN h hh))
def mH : Vec F S1x1x1x128 .f32 :=
  View.ld (Val := Elt F) (e' := .f32) (S := S1x8x1x128) (k0_pay4 (View.ld x8 (Rect.unit ![0, 0, 0, 0] ![1, 8, 1, 128] inb_S1x8x1x128_S1x8x1x128_0_0_0_0)))
    (Rect.unit ![0, h, 0, 0] ![1, 1, 1, 128] (inbN h hh))

/-! ## What head `h` stores -/

/-- The new level. -/
def outM : FVec F S1x1x1x128 .f32 :=
  k0_pay190 (k0_pay52 (bCol (F := F) x4 h hh) (bRow (F := F) x5 h hh) (iRow (F := F) x5 h hh) (mH (F := F) x8 h hh))

/-- The keys, each weighted by what is left of it at the end of the chunk. -/
def kwH : FVec F S8x128 .f32 :=
  k0_pay186 (kH (F := F) x1 h hh) (k0_pay56 (bCol (F := F) x4 h hh) (bRow (F := F) x5 h hh) (iCol (F := F) x4 h hh) (iRow (F := F) x5 h hh) (mH (F := F) x8 h hh))

/-- The new vector. -/
def outN : FVec F S1x1x1x128 .f32 :=
  k0_pay189 (k0_pay57 (bCol (F := F) x4 h hh) (bRow (F := F) x5 h hh) (iRow (F := F) x5 h hh) (mH (F := F) x8 h hh)) (kwH (F := F) x1 x4 x5 x8 h hh) (nH (F := F) x7 h hh)

/-- The new matrix. -/
def outC : FVec F S1x1x128x256 .f32 :=
  k0_pay188 (k0_pay187 (kH (F := F) x1 h hh) (vH (F := F) x2 h hh)
    (k0_pay56 (bCol (F := F) x4 h hh) (bRow (F := F) x5 h hh) (iCol (F := F) x4 h hh) (iRow (F := F) x5 h hh) (mH (F := F) x8 h hh))
    (k0_pay57 (bCol (F := F) x4 h hh) (bRow (F := F) x5 h hh) (iRow (F := F) x5 h hh) (mH (F := F) x8 h hh)) (cH (F := F) x6 h hh))

/-- What the head reads out of its state and its tokens. -/
def hvalH : FVec F S8x256 .f32 :=
  k0_pay166 (qH (F := F) x0 h hh) (vH (F := F) x2 h hh) (k0_pay35 (qH (F := F) x0 h hh) (kH (F := F) x1 h hh))
    (k0_pay53 k0_pay5 (bCol (F := F) x4 h hh) (bRow (F := F) x5 h hh) (iRow (F := F) x5 h hh) (mH (F := F) x8 h hh))
    (k0_pay54 k0_pay5 (bCol (F := F) x4 h hh) (bRow (F := F) x5 h hh) (iRow (F := F) x5 h hh) (mH (F := F) x8 h hh))
    (k0_pay55 k0_pay5 (bCol (F := F) x4 h hh) (bRow (F := F) x5 h hh) (iRow (F := F) x5 h hh) (mH (F := F) x8 h hh))
    (k0_pay165 (cH (F := F) x6 h hh)) (nH (F := F) x7 h hh)

/-- The read-out after its gate and its norm. -/
def outH : FVec F S1x8x256 .bf16 :=
  k0_pay225 (k0_pay223 (hvalH (F := F) x0 x1 x2 x4 x5 x6 x7 x8 h hh) (View.ld x3 (Rect.unit ![0, 0, h * 256] ![1, 8, 256] (inbV h hh))))
    (k0_pay224 (hvalH (F := F) x0 x1 x2 x4 x5 x6 x7 x8 h hh) (View.ld x3 (Rect.unit ![0, 0, h * 256] ![1, 8, 256] (inbV h hh))))
    (View.ld x9 (Rect.unit ![h, 0, 0] ![1, 1, 256] (inbG h hh)))

/-! ## The stores of one point, last first -/

def pieceM (k : Fin 8) : View.Piece (Elt F) S1x8x1x128 .f32 :=
  ⟨Rect.unit ![0, k.val, 0, 0] ![1, 1, 1, 128] (inbN k.val k.isLt), outM x4 x5 x8 k.val k.isLt⟩
def pieceN (k : Fin 8) : View.Piece (Elt F) S1x8x1x128 .f32 :=
  ⟨Rect.unit ![0, k.val, 0, 0] ![1, 1, 1, 128] (inbN k.val k.isLt), outN x1 x4 x5 x7 x8 k.val k.isLt⟩
def pieceC (k : Fin 8) : View.Piece (Elt F) S1x8x128x256 .f32 :=
  ⟨Rect.unit ![0, k.val, 0, 0] ![1, 1, 128, 256] (inbC k.val k.isLt), outC x1 x2 x4 x5 x6 x8 k.val k.isLt⟩
def pieceH (k : Fin 8) : View.Piece (Elt F) S1x8x2048 .bf16 :=
  ⟨Rect.unit ![0, 0, k.val * 256] ![1, 8, 256] (inbV k.val k.isLt), outH x0 x1 x2 x3 x4 x5 x6 x7 x8 x9 k.val k.isLt⟩

/-- The eight heads, last first. -/
def lastFirst {α : Type*} (p : Fin 8 → α) : List α := [p 7, p 6, p 5, p 4, p 3, p 2, p 1, p 0]

section Stores

variable (c : Dev nD) (i : grid0.Coords) (arg2 : Memref sig .tc .vmem S1x8x1024 .f32) (harg2 : arg2.IsWhole) (arg3 : Memref sig .tc .vmem S1x8x1024 .f32) (harg3 : arg3.IsWhole) (arg4 : Memref sig .tc .vmem S1x8x2048 .f32) (harg4 : arg4.IsWhole) (arg5 : Memref sig .tc .vmem S1x8x2048 .f32) (harg5 : arg5.IsWhole) (arg6 : Memref sig .tc .vmem S1x8x128 .f32) (harg6 : arg6.IsWhole) (arg7 : Memref sig .tc .vmem S1x16x8 .f32) (harg7 : arg7.IsWhole) (arg8 : Memref sig .tc .vmem S1x8x128x256 .f32) (harg8 : arg8.IsWhole) (arg9 : Memref sig .tc .vmem S1x8x1x128 .f32) (harg9 : arg9.IsWhole) (arg10 : Memref sig .tc .vmem S1x8x1x128 .f32) (harg10 : arg10.IsWhole) (arg11 : Memref sig .tc .vmem S8x1x256 .f32) (harg11 : arg11.IsWhole) (arg12 : Memref sig .tc .vmem S1x8x2048 .bf16) (harg12 : arg12.IsWhole) (arg13 : Memref sig .tc .vmem S1x8x128x256 .f32) (harg13 : arg13.IsWhole) (arg14 : Memref sig .tc .vmem S1x8x1x128 .f32) (harg14 : arg14.IsWhole) (arg15 : Memref sig .tc .vmem S1x8x1x128 .f32) (harg15 : arg15.IsWhole) (hc0 : cond0_0 i)

theorem storesM : out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceM x4 x5 x8) ++ [⟨Rect.unit ![0, 0, 0, 0] ![1, 8, 1, 128] inb_S1x8x1x128_S1x8x1x128_0_0_0_0, k0_pay4 (View.ld x8 (Rect.unit ![0, 0, 0, 0] ![1, 8, 1, 128] inb_S1x8x1x128_S1x8x1x128_0_0_0_0))⟩]) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

theorem storesN : out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceN x1 x4 x5 x7 x8) ++ [⟨Rect.unit ![0, 0, 0, 0] ![1, 8, 1, 128] inb_S1x8x1x128_S1x8x1x128_0_0_0_0, k0_pay3 (View.ld x7 (Rect.unit ![0, 0, 0, 0] ![1, 8, 1, 128] inb_S1x8x1x128_S1x8x1x128_0_0_0_0))⟩]) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

theorem storesC : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceC x1 x2 x4 x5 x6 x8) ++ [⟨Rect.unit ![0, 0, 0, 0] ![1, 8, 128, 256] inb_S1x8x128x256_S1x8x128x256_0_0_0_0, k0_pay2 (View.ld x6 (Rect.unit ![0, 0, 0, 0] ![1, 8, 128, 256] inb_S1x8x128x256_S1x8x128x256_0_0_0_0))⟩]) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

theorem storesH : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceH x0 x1 x2 x3 x4 x5 x6 x7 x8 x9) ++ []) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

end Stores

end Cert.KernelIdeal.Heads
-- ==== Proof.Chunk.lean ====
/-  One head of one sequence over one chunk of tokens, on the extended reals: the running sums of the forget gate, the
    levels that keep the exponentials small, the read-out and the new state. A chunk of eight tokens whose last four are
    padding (input gate at −∞, forget gate's logarithm 0) has the read-out of its first four tokens and their new state. -/
module

public import Idealize.ShloMosaic.PureOps.Ideal
public import Idealize.ShloMosaic.PureOps.Ideal.Laws

@[expose] public section

noncomputable section

namespace Chunk

open Idealize.ShloMosaic

/-- The logarithm of the logistic function. -/
def lsig (x : EReal) : EReal := min x 0 - Ideal.log1p (Ideal.exp (0 - max x (-x)))

theorem lsig_top : lsig ⊤ = 0 := by
  have h : (0 : EReal) - max ⊤ (-⊤) = ⊥ := by simp
  have h' : Ideal.exp ⊥ = 0 := rfl
  have h1 : Ideal.log ((1 : ℝ) : EReal) = 0 := by
    show (if (1 : ℝ) ≤ 0 then (⊥ : EReal) else (Real.log 1 : EReal)) = 0
    rw [if_neg (by norm_num), Real.log_one]; rfl
  rw [lsig, h, h', Ideal.log1p, add_zero]
  exact (congrArg (fun x => min ⊤ 0 - x) h1).trans (by simp)

theorem bits_bot : Ideal.ofBits .f32 4286578688#32 = ⊥ := by
  unfold Ideal.ofBits Ideal.ieee
  simp

theorem log1p_exp_ne_bot (x : EReal) : Ideal.log1p (Ideal.exp x) ≠ ⊥ := by
  have h : ∀ r : ℝ, 0 ≤ r → Ideal.log1p (r : EReal) ≠ ⊥ := fun r hr => by
    have e : (1 : EReal) + (r : EReal) = ((1 + r : ℝ) : EReal) := by push_cast; rfl
    rw [Ideal.log1p, e]
    show (if 1 + r ≤ 0 then (⊥ : EReal) else (Real.log (1 + r) : EReal)) ≠ ⊥
    rw [if_neg (by linarith)]
    exact EReal.coe_ne_bot _
  induction x with
  | bot => exact h 0 le_rfl
  | top =>
    have e : (1 : EReal) + ⊤ = ⊤ := EReal.add_top_of_ne_bot (by decide)
    show Ideal.log (1 + ⊤) ≠ ⊥
    rw [e]
    exact top_ne_bot
  | coe r => exact h _ (Real.exp_nonneg r)

/-- The logarithm of the logistic function as the negated softplus of the negated argument. -/
theorem lsig_eq (x : EReal) :
    -(max (-x) 0 + Ideal.log1p (Ideal.exp (-max (-x) (-(-x))))) = lsig x := by
  rw [neg_neg, EReal.neg_add (Or.inl fun h => ?_) (Or.inr (log1p_exp_ne_bot _))]
  · unfold lsig
    have e : -max (-x) 0 = min x 0 := by
      rcases le_total x 0 with hx | hx
      · rw [min_eq_left hx, max_eq_left (EReal.neg_le_neg_iff.1 (by simpa using hx)), neg_neg]
      · rw [min_eq_right hx, max_eq_right (EReal.neg_le_neg_iff.1 (by simpa using hx)), neg_zero]
    rw [max_comm (-x) x, zero_sub, e]
  · exact absurd (h ▸ le_max_right (-x) 0) (by simp)

section Terms

variable {L D E : ℕ} (f i : Fin L → EReal) (m : EReal) (e : Fin L)

/-- The running sum of the forget gate's logarithms. -/
def cum (t : Fin L) : EReal := ∑ s, if s ≤ t then f s else 0

/-- The logarithm of what token `s` weighs at token `t`. -/
def gap (t s : Fin L) : EReal := if s ≤ t then cum f t - cum f s + i s else ⊥

/-- The level at token `t`. -/
def level (t : Fin L) : EReal := max (cum f t + m) (Finset.univ.fold max ⊥ (gap f i t))

/-- What is left of the state before the chunk at token `t`. -/
def carry (t : Fin L) : EReal := Ideal.exp (cum f t + m - level f i m t)

/-- The logarithm of what is left of token `s` at the end of the chunk. -/
def left (s : Fin L) : EReal := cum f e - cum f s + i s

/-- The level at the end of the chunk. -/
def levelNew : EReal := max (cum f e + m) (Finset.univ.fold max ⊥ (left f i e))

/-- What is left of token `s` at the end of the chunk. -/
def weight (s : Fin L) : EReal := Ideal.exp (left f i e s - levelNew f i m e)

/-- What is left of the state before the chunk at its end. -/
def decay : EReal := Ideal.exp (cum f e + m - levelNew f i m e)

variable (q k : Fin L → Fin D → EReal) (v : Fin L → Fin E → EReal) (C : Fin D → Fin E → EReal) (n : Fin D → EReal)

/-- Token `t`'s query against token `s`'s key, weighted. -/
def score (t s : Fin L) : EReal := (∑ d, q t d * k s d) * Ideal.exp (gap f i t s - level f i m t)

/-- The read-out's numerator. -/
def num (t : Fin L) (j : Fin E) : EReal :=
  ∑ s, score f i m q k t s * v s j + carry f i m t * ∑ d, q t d * C d j

/-- The read-out's denominator. -/
def den (t : Fin L) : EReal := ∑ s, score f i m q k t s + carry f i m t * ∑ d, q t d * n d

/-- The read-out. -/
def read (t : Fin L) (j : Fin E) : EReal :=
  Ideal.div (num f i m q k v C t j)
    (max (max (den f i m q k n t) (-den f i m q k n t)) (Ideal.exp (0 - level f i m t)))

/-- The new matrix. -/
def matNew (d : Fin D) (j : Fin E) : EReal := decay f i m e * C d j + ∑ s, k s d * weight f i m e s * v s j

/-- The new vector. -/
def vecNew (d : Fin D) : EReal := decay f i m e * n d + ∑ s, k s d * weight f i m e s

end Terms

/-- A row gated by the logistic of `o`. -/
def gated (x o : Fin 256 → EReal) (j : Fin 256) : EReal := x j * Ideal.logistic (o j)

/-- The mean of a row. -/
def mean (x : Fin 256 → EReal) : EReal := Ideal.div (∑ j, x j) (Ideal.ofBits .f32 0x43800000#32)

/-- A row less its mean. -/
def centred (x : Fin 256 → EReal) (j : Fin 256) : EReal := x j - mean x

/-- A row normed to mean 0 and variance 1, times a gain. -/
def normed (x g : Fin 256 → EReal) (j : Fin 256) : EReal :=
  centred x j * Ideal.rsqrt (mean (fun l => centred x l * centred x l) + Ideal.ofBits .f32 0x3727C5AC#32) * g j

/-! ## The padded chunk -/

/-- A token of the chunk as a token of the padded chunk. -/
def emb (t : Fin 4) : Fin 8 := t.castLE (by decide)

theorem emb_le (s t : Fin 4) : emb s ≤ emb t ↔ s ≤ t := Iff.rfl

theorem exists_emb {s : Fin 8} (h : s.val < 4) : ∃ t, s = emb t := ⟨⟨s.val, h⟩, rfl⟩

theorem sum_pad (g : Fin 8 → EReal) (h : ∀ s : Fin 8, 4 ≤ s.val → g s = 0) : ∑ s, g s = ∑ s, g (emb s) := by
  rw [Fin.sum_univ_eight, Fin.sum_univ_four, h 4 (by decide), h 5 (by decide), h 6 (by decide), h 7 (by decide)]
  simp only [add_zero]; rfl

theorem fold_pad (g : Fin 8 → EReal) (h : ∀ s : Fin 8, 4 ≤ s.val → g s = ⊥) :
    Finset.univ.fold max ⊥ g = Finset.univ.fold max ⊥ fun s => g (emb s) := by
  show Finset.univ.sup g = Finset.univ.sup fun s => g (emb s)
  apply le_antisymm
  · refine Finset.sup_le fun s _ => ?_
    by_cases hs : s.val < 4
    · obtain ⟨t, rfl⟩ := exists_emb hs
      exact Finset.le_sup (f := fun s => g (emb s)) (Finset.mem_univ t)
    · rw [h s (by omega)]; exact bot_le
  · exact Finset.sup_le fun s _ => Finset.le_sup (Finset.mem_univ _)

section Padded

variable {D E : ℕ} {f i : Fin 4 → EReal} {F I : Fin 8 → EReal} (m : EReal)
  (hf : ∀ t, F (emb t) = f t) (hf0 : ∀ s : Fin 8, 4 ≤ s.val → F s = 0)
  (hi : ∀ t, I (emb t) = i t) (hi0 : ∀ s : Fin 8, 4 ≤ s.val → I s = ⊥)

include hf in
theorem cum_pad (t : Fin 4) : cum F (emb t) = cum f t := by
  unfold cum
  rw [sum_pad _ fun s hs => if_neg fun h => ?_]
  · simp only [emb_le, hf]
  · have h' : s.val ≤ t.val := h
    omega

include hf hf0 in
theorem cum_end : cum F 7 = cum f 3 := by
  unfold cum
  rw [sum_pad _ fun s hs => by rw [hf0 s hs, ite_self]]
  refine Finset.sum_congr rfl fun s _ => ?_
  rw [if_pos (show emb s ≤ 7 from Nat.le_of_lt_succ (emb s).isLt), if_pos (show s ≤ 3 from Nat.le_of_lt_succ s.isLt), hf]

include hf hi in
theorem gap_pad (t s : Fin 4) : gap F I (emb t) (emb s) = gap f i t s := by
  simp only [gap, emb_le, cum_pad hf, hi]

theorem gap_late (t : Fin 4) (s : Fin 8) (hs : 4 ≤ s.val) : gap F I (emb t) s = ⊥ :=
  if_neg fun h => by
    have h' : s.val ≤ t.val := h
    omega

include hf hi in
theorem level_pad (t : Fin 4) : level F I m (emb t) = level f i m t := by
  unfold level
  rw [fold_pad _ (gap_late t), cum_pad hf]
  simp only [gap_pad hf hi]

include hf hi in
theorem carry_pad (t : Fin 4) : carry F I m (emb t) = carry f i m t := by
  simp only [carry, level_pad m hf hi, cum_pad hf]

include hi0 in
theorem left_late (s : Fin 8) (hs : 4 ≤ s.val) : left F I 7 s = ⊥ := by
  rw [left, hi0 s hs, EReal.add_bot]

include hf hf0 hi in
theorem left_pad (s : Fin 4) : left F I 7 (emb s) = left f i 3 s := by
  simp only [left, cum_end hf hf0, cum_pad hf, hi]

include hf hf0 hi hi0 in
theorem levelNew_pad : levelNew F I m 7 = levelNew f i m 3 := by
  unfold levelNew
  rw [fold_pad _ (left_late hi0), cum_end hf hf0]
  simp only [left_pad hf hf0 hi]

include hf hf0 hi hi0 in
theorem weight_pad (s : Fin 4) : weight F I m 7 (emb s) = weight f i m 3 s := by
  simp only [weight, levelNew_pad m hf hf0 hi hi0, left_pad hf hf0 hi]

include hi0 in
theorem weight_late (s : Fin 8) (hs : 4 ≤ s.val) : weight F I m 7 s = 0 := by
  rw [weight, left_late hi0 s hs, sub_eq_add_neg, EReal.bot_add]; rfl

include hf hf0 hi hi0 in
theorem decay_pad : decay F I m 7 = decay f i m 3 := by
  simp only [decay, levelNew_pad m hf hf0 hi hi0, cum_end hf hf0]

variable {q k : Fin 4 → Fin D → EReal} {v : Fin 4 → Fin E → EReal} {Q K : Fin 8 → Fin D → EReal} {V : Fin 8 → Fin E → EReal}
  (C : Fin D → Fin E → EReal) (n : Fin D → EReal)
  (hq : ∀ t d, Q (emb t) d = q t d) (hk : ∀ t d, K (emb t) d = k t d) (hv : ∀ t j, V (emb t) j = v t j)

include hf hi hq hk in
theorem score_pad (t s : Fin 4) : score F I m Q K (emb t) (emb s) = score f i m q k t s := by
  simp only [score, hq, hk, gap_pad hf hi, level_pad m hf hi]

theorem score_late (t : Fin 4) (s : Fin 8) (hs : 4 ≤ s.val) : score F I m Q K (emb t) s = 0 := by
  rw [score, gap_late t s hs, sub_eq_add_neg, EReal.bot_add]; exact mul_zero _

include hf hi hq hk hv in
theorem read_pad (t : Fin 4) (j : Fin E) : read F I m Q K V C n (emb t) j = read f i m q k v C n t j := by
  have hnum : num F I m Q K V C (emb t) j = num f i m q k v C t j := by
    unfold num
    rw [sum_pad _ fun s hs => by rw [score_late m t s hs, zero_mul]]
    simp only [score_pad m hf hi hq hk, carry_pad m hf hi, hq, hv]
  have hden : den F I m Q K n (emb t) = den f i m q k n t := by
    unfold den
    rw [sum_pad _ (score_late m t)]
    simp only [score_pad m hf hi hq hk, carry_pad m hf hi, hq]
  rw [read, hnum, hden, level_pad m hf hi]; rfl

include hf hf0 hi hi0 hk hv in
theorem matNew_pad (d : Fin D) (j : Fin E) : matNew F I m 7 K V C d j = matNew f i m 3 k v C d j := by
  unfold matNew
  rw [sum_pad _ fun s hs => by rw [weight_late m hi0 s hs, mul_zero, zero_mul]]
  simp only [decay_pad m hf hf0 hi hi0, weight_pad m hf hf0 hi hi0, hk, hv]

include hf hf0 hi hi0 hk in
theorem vecNew_pad (d : Fin D) : vecNew F I m 7 K n d = vecNew f i m 3 k n d := by
  unfold vecNew
  rw [sum_pad _ fun s hs => by rw [weight_late m hi0 s hs, mul_zero]]
  simp only [decay_pad m hf hf0 hi hi0, weight_pad m hf hf0 hi hi0, hk]

end Padded

end Chunk
-- ==== Proof.Block.lean ====
module

public import proofs.«01_k».proof.Proof.Heads
public import proofs.«01_k».proof.Proof.Chunk

@[expose] public section

set_option maxRecDepth 65536

noncomputable section

namespace Cert.KernelIdeal.Heads

open Cert.KernelIdeal Cert.KernelIdeal.Gen Idealize.ShloMosaic Idealize.ShloMosaic.TcCoe Idealize.SL.Sem Chunk

theorem sge_eq : ∀ a x : Fin 8, BitVec.setWidth 32 (IntOp.cmpi .sge (BitVec.ofNat 32 a.val) (BitVec.ofNat 32 x.val)) =
    if x ≤ a then 1#32 else 0#32 := by decide

theorem sle_eq : ∀ a x : Fin 8, BitVec.setWidth 32 (IntOp.cmpi .sle (BitVec.ofNat 32 x.val) (BitVec.ofNat 32 a.val)) =
    if x ≤ a then 1#32 else 0#32 := by decide

theorem mask_eq (p : Prop) [Decidable p] :
    (FloatOps.sitofp FTy.f32 (if p then 1#32 else 0#32) : Ideal FTy.f32) = if p then (1 : EReal) else (0 : EReal) := by
  split <;> show (((_ : ℤ) : ℝ) : EReal) = _ <;> simp

variable (x0 : Vec Ideal S1x8x1024 .f32) (x1 : Vec Ideal S1x8x1024 .f32) (x2 : Vec Ideal S1x8x2048 .f32) (x3 : Vec Ideal S1x8x2048 .f32)
  (x4 : Vec Ideal S1x8x128 .f32) (x5 : Vec Ideal S1x16x8 .f32) (x6 : Vec Ideal S1x8x128x256 .f32) (x7 : Vec Ideal S1x8x1x128 .f32)
  (x8 : Vec Ideal S1x8x1x128 .f32) (x9 : Vec Ideal S8x1x256 .f32)
  (h : ℕ) (hh : h < 8)

def fB (t : Fin 8) : EReal := lsig (x4 (ix3 0 t ⟨8 + h, by omega⟩))
def iB (t : Fin 8) : EReal := x4 (ix3 0 t ⟨h, by omega⟩)

theorem bCol_apply (t : Fin 8) : (bCol x4 h hh (ix2 t 0) : EReal) = cum (fB x4 h hh) t := by
  unfold bCol
  pointwise [k0_pay8, k0_pay6, k0_pay5]
  unfold cum fB lsig
  refine Finset.sum_congr rfl fun s _ => ?_
  rw [sge_eq, mask_eq, ite_mul, one_mul, zero_mul]
  rfl

/-- The second copy of the gates is the first one's first sixteen lanes, transposed. -/
def Transposed : Prop := ∀ (l : Fin 16) (t : Fin 8), x5 (ix3 0 l t) = x4 (ix3 0 t (l.castLE (by decide)))

variable (hx : Transposed x4 x5)
include hx

theorem bRow_apply (t : Fin 8) : (bRow x5 h hh (ix2 0 t) : EReal) = cum (fB x4 h hh) t := by
  unfold bRow
  pointwise [k0_pay9, k0_pay7, k0_pay5]
  unfold cum fB lsig
  refine Finset.sum_congr rfl fun s _ => ?_
  rw [sle_eq, mask_eq, mul_ite, mul_one, mul_zero]
  simp only [hx _ _]
  rfl

omit hx in
theorem iCol_apply (t : Fin 8) : (iCol x4 h hh (ix2 t 0) : EReal) = iB x4 h hh t := by
  unfold iCol
  pointwise [k0_pay6]
  rfl

theorem iRow_apply (t : Fin 8) : (iRow x5 h hh (ix2 0 t) : EReal) = iB x4 h hh t := by
  unfold iRow
  pointwise [k0_pay7]
  exact hx ⟨h, by omega⟩ t

def mB : EReal := x8 (ix4 0 ⟨h, hh⟩ 0 0)
def nB (d : Fin 128) : EReal := x7 (ix4 0 ⟨h, hh⟩ 0 d)
def cB (d : Fin 128) (j : Fin 256) : EReal := x6 (ix4 0 ⟨h, hh⟩ d j)
def qB (t : Fin 8) (d : Fin 128) : EReal := x0 (ix3 0 t ⟨h * 128 + d.val, by omega⟩)
def kB (t : Fin 8) (d : Fin 128) : EReal := x1 (ix3 0 t ⟨h * 128 + d.val, by omega⟩) * Ideal.ofBits .f32 0x3DB504F3#32
def vB (t : Fin 8) (j : Fin 256) : EReal := x2 (ix3 0 t ⟨h * 256 + j.val, by omega⟩)
def oB (t : Fin 8) (j : Fin 256) : EReal := x3 (ix3 0 t ⟨h * 256 + j.val, by omega⟩)
def gB (j : Fin 256) : EReal := x9 (ix3 ⟨h, hh⟩ 0 j)

omit hx in
theorem mH_apply : (mH x8 h hh (ix4 0 0 0 0) : EReal) = mB x8 h hh := by
  unfold mH
  pointwise [k0_pay4]
  rfl

omit hx in
theorem cmp_eq : ∀ a x : Fin 8, IntOp.cmpi .sge (BitVec.ofNat 32 a.val) (BitVec.ofNat 32 x.val) =
    if x ≤ a then 1#1 else 0#1 := by decide

omit hx in
theorem carry_log (t : Fin 8) : (k0_pay49 (bCol (F := Ideal) x4 h hh) (mH (F := Ideal) x8 h hh) (ix2 t 0) : EReal) =
    cum (fB x4 h hh) t + mB x8 h hh := by
  pointwise [k0_pay49, k0_pay47]
  rw [mH_apply, bCol_apply]

theorem gap_apply (t s : Fin 8) : (k0_pay48 k0_pay5 (bCol (F := Ideal) x4 h hh) (bRow (F := Ideal) x5 h hh) (iRow (F := Ideal) x5 h hh) (ix2 t s) : EReal) =
    gap (fB x4 h hh) (iB x4 h hh) t s := by
  pointwise [k0_pay48, k0_pay5]
  rw [iRow_apply x4 x5 h hh hx, bRow_apply x4 x5 h hh hx, bCol_apply, cmp_eq, bits_bot]
  unfold gap Scalar.select
  split <;> rfl

theorem level_apply (t : Fin 8) : (k0_pay50 k0_pay5 (bCol (F := Ideal) x4 h hh) (bRow (F := Ideal) x5 h hh) (iRow (F := Ideal) x5 h hh) (mH (F := Ideal) x8 h hh) (ix2 t 0) : EReal) =
    level (fB x4 h hh) (iB x4 h hh) (mB x8 h hh) t := by
  pointwise [k0_pay50]
  simp only [gap_apply x4 x5 h hh hx]
  rw [carry_log, bits_bot]
  rfl

omit hx in
theorem end_apply : (k0_pay51 (bCol (F := Ideal) x4 h hh) (ix2 0 0) : EReal) = cum (fB x4 h hh) 7 := by
  pointwise [k0_pay51]
  exact bCol_apply ..

theorem levelNew_apply : (k0_pay52 (bCol (F := Ideal) x4 h hh) (bRow (F := Ideal) x5 h hh) (iRow (F := Ideal) x5 h hh) (mH (F := Ideal) x8 h hh) (ix2 0 0) : EReal) =
    levelNew (fB x4 h hh) (iB x4 h hh) (mB x8 h hh) 7 := by
  pointwise [k0_pay52,k0_pay51,k0_pay47]
  rw [bits_bot, mH_apply]
  simp only [iRow_apply x4 x5 h hh hx, bRow_apply x4 x5 h hh hx]
  rw [bCol_apply]
  rfl

theorem outM_apply (j : Fin 128) : (outM x4 x5 x8 h hh (ix4 0 0 0 j) : EReal) = levelNew (fB x4 h hh) (iB x4 h hh) (mB x8 h hh) 7 := by
  unfold outM
  pointwise [k0_pay190]
  exact levelNew_apply x4 x5 x8 h hh hx

theorem weight_apply (s : Fin 8) : (k0_pay56 (bCol (F := Ideal) x4 h hh) (bRow (F := Ideal) x5 h hh) (iCol (F := Ideal) x4 h hh) (iRow (F := Ideal) x5 h hh) (mH (F := Ideal) x8 h hh) (ix2 s 0) : EReal) =
    weight (fB x4 h hh) (iB x4 h hh) (mB x8 h hh) 7 s := by
  pointwise [k0_pay56]
  rw [levelNew_apply x4 x5 x8 h hh hx, end_apply, bCol_apply, iCol_apply]
  rfl

theorem decay_apply : (k0_pay57 (bCol (F := Ideal) x4 h hh) (bRow (F := Ideal) x5 h hh) (iRow (F := Ideal) x5 h hh) (mH (F := Ideal) x8 h hh) (ix2 0 0) : EReal) =
    decay (fB x4 h hh) (iB x4 h hh) (mB x8 h hh) 7 := by
  pointwise [k0_pay57, k0_pay47]
  rw [levelNew_apply x4 x5 x8 h hh hx, end_apply, mH_apply]
  rfl

omit hx in
theorem kH_apply (t : Fin 8) (d : Fin 128) : (kH x1 h hh (ix2 t d) : EReal) = kB x1 h hh t d := by
  unfold kH
  pointwise [k0_pay11, k0_pay12]
  rfl

omit hx in
theorem qH_apply (t : Fin 8) (d : Fin 128) : (qH x0 h hh (ix2 t d) : EReal) = qB x0 h hh t d := by
  unfold qH
  pointwise [k0_pay10]
  rfl

omit hx in
theorem vH_apply (t : Fin 8) (d : Fin 256) : (vH x2 h hh (ix2 t d) : EReal) = vB x2 h hh t d := by
  unfold vH
  pointwise [k0_pay13]
  rfl

omit hx in
theorem nH_apply (d : Fin 128) : (nH x7 h hh (ix4 0 0 0 d) : EReal) = nB x7 h hh d := by
  unfold nH
  pointwise [k0_pay3]
  rfl

omit hx in
theorem cH_apply (d : Fin 128) (j : Fin 256) : (cH x6 h hh (ix4 0 0 d j) : EReal) = cB x6 h hh d j := by
  unfold cH
  pointwise [k0_pay2]
  rfl

theorem outN_apply (d : Fin 128) : (outN x1 x4 x5 x7 x8 h hh (ix4 0 0 0 d) : EReal) =
    vecNew (fB x4 h hh) (iB x4 h hh) (mB x8 h hh) 7 (kB x1 h hh) (nB x7 h hh) d := by
  unfold outN kwH
  pointwise [k0_pay189, k0_pay186]
  rw [decay_apply x4 x5 x8 h hh hx, nH_apply]
  simp only [weight_apply x4 x5 x8 h hh hx, kH_apply]
  rfl

theorem outC_apply (d : Fin 128) (j : Fin 256) : (outC x1 x2 x4 x5 x6 x8 h hh (ix4 0 0 d j) : EReal) =
    matNew (fB x4 h hh) (iB x4 h hh) (mB x8 h hh) 7 (kB x1 h hh) (vB x2 h hh) (cB x6 h hh) d j := by
  unfold outC
  pointwise [k0_pay188, k0_pay187, k0_pay186]
  rw [decay_apply x4 x5 x8 h hh hx, cH_apply]
  simp only [weight_apply x4 x5 x8 h hh hx, kH_apply, vH_apply]
  rfl

theorem hvalH_apply (t : Fin 8) (j : Fin 256) : (hvalH x0 x1 x2 x4 x5 x6 x7 x8 h hh (ix2 t j) : EReal) =
    read (fB x4 h hh) (iB x4 h hh) (mB x8 h hh) (qB x0 h hh) (kB x1 h hh) (vB x2 h hh) (cB x6 h hh) (nB x7 h hh) t j := by
  unfold hvalH
  pointwise [k0_pay166, k0_pay165, k0_pay53, k0_pay54, k0_pay55, k0_pay35]
  simp only [level_apply x4 x5 x8 h hh hx, gap_apply x4 x5 h hh hx, carry_log, nH_apply, cH_apply, qH_apply, vH_apply, kH_apply]
  rfl

theorem outH_apply (t : Fin 8) (j : Fin 256) : (outH x0 x1 x2 x3 x4 x5 x6 x7 x8 x9 h hh (ix3 0 t j) : EReal) =
    normed (gated (read (fB x4 h hh) (iB x4 h hh) (mB x8 h hh) (qB x0 h hh) (kB x1 h hh) (vB x2 h hh) (cB x6 h hh) (nB x7 h hh) t) (oB x3 h hh t))
      (gB x9 h hh) j := by
  unfold outH
  pointwise [k0_pay223, k0_pay224, k0_pay225]
  simp only [hvalH_apply x0 x1 x2 x4 x5 x6 x7 x8 h hh hx]
  rfl

end Cert.KernelIdeal.Heads
-- ==== Proof.Store.lean ====
module

public import proofs.«01_k».proof.Proof.Block

@[expose] public section

set_option maxRecDepth 65536

noncomputable section

namespace Cert.KernelIdeal.Heads

open Cert.KernelIdeal Cert.KernelIdeal.Gen Idealize.ShloMosaic Idealize.ShloMosaic.TcCoe Idealize.SL.Sem Chunk

theorem mem_lastFirst {α : Type*} {p : Fin 8 → α} {x : α} (hx : x ∈ lastFirst p) : ∃ k, x = p k := by
  simp only [lastFirst, List.mem_cons, List.not_mem_nil, or_false] at hx
  rcases hx with h | h | h | h | h | h | h | h <;> exact ⟨_, h⟩

theorem lastFirst_mem {α : Type*} (p : Fin 8 → α) : ∀ k, p k ∈ lastFirst p := by
  intro k
  match k with
  | 0 => simp [lastFirst]
  | 1 => simp [lastFirst]
  | 2 => simp [lastFirst]
  | 3 => simp [lastFirst]
  | 4 => simp [lastFirst]
  | 5 => simp [lastFirst]
  | 6 => simp [lastFirst]
  | 7 => simp [lastFirst]

/-- A buffer into which eight heads' pieces go, one at each head's place, holds `G` if each piece does. -/
theorem canon_lastFirst {S : Shape} {e : EltTy} (G : S.Idx → Elt Ideal e) (p : Fin 8 → View.Piece (Elt Ideal) S e)
    (L : List (View.Piece (Elt Ideal) S e)) (hp : ∀ k, ∀ x, (p k).2 x = G ((p k).1.emb x)) (y : S.Idx) (k : Fin 8)
    (hy : y ∈ (p k).1.set) : View.canon (lastFirst p ++ L) y = G y :=
  View.canon_append_of_pieces G L _ (fun q hq => by obtain ⟨k, rfl⟩ := mem_lastFirst hq; exact hp k) y
    ⟨_, lastFirst_mem p k, hy⟩

variable (x0 : Vec Ideal S1x8x1024 .f32) (x1 : Vec Ideal S1x8x1024 .f32) (x2 : Vec Ideal S1x8x2048 .f32) (x3 : Vec Ideal S1x8x2048 .f32)
  (x4 : Vec Ideal S1x8x128 .f32) (x5 : Vec Ideal S1x16x8 .f32) (x6 : Vec Ideal S1x8x128x256 .f32) (x7 : Vec Ideal S1x8x1x128 .f32)
  (x8 : Vec Ideal S1x8x1x128 .f32) (x9 : Vec Ideal S8x1x256 .f32)

/-- The head of a lane of the read-outs, and the lane within the head. -/
def hd (l : Fin 2048) : Fin 8 := ⟨l.val / 256, by omega⟩
def ln (l : Fin 2048) : Fin 256 := ⟨l.val % 256, by omega⟩

def blockM (k : Fin 8) : EReal := levelNew (fB x4 k.val k.isLt) (iB x4 k.val k.isLt) (mB x8 k.val k.isLt) 7
def blockN (k : Fin 8) (d : Fin 128) : EReal :=
  vecNew (fB x4 k.val k.isLt) (iB x4 k.val k.isLt) (mB x8 k.val k.isLt) 7 (kB x1 k.val k.isLt) (nB x7 k.val k.isLt) d
def blockC (k : Fin 8) (d : Fin 128) (j : Fin 256) : EReal :=
  matNew (fB x4 k.val k.isLt) (iB x4 k.val k.isLt) (mB x8 k.val k.isLt) 7 (kB x1 k.val k.isLt) (vB x2 k.val k.isLt) (cB x6 k.val k.isLt) d j
def blockH (k : Fin 8) (t : Fin 8) (j : Fin 256) : EReal :=
  normed (gated (read (fB x4 k.val k.isLt) (iB x4 k.val k.isLt) (mB x8 k.val k.isLt) (qB x0 k.val k.isLt) (kB x1 k.val k.isLt)
    (vB x2 k.val k.isLt) (cB x6 k.val k.isLt) (nB x7 k.val k.isLt) t) (oB x3 k.val k.isLt t)) (gB x9 k.val k.isLt) j

section

variable (hx : Transposed x4 x5)
include hx

theorem canonM (L : List (View.Piece (Elt Ideal) S1x8x1x128 .f32)) (y : S1x8x1x128.Idx) :
    (View.canon (lastFirst (pieceM x4 x5 x8) ++ L) y : EReal) = blockM x4 x8 (y 1) := by
  refine canon_lastFirst (fun y => (blockM x4 x8 (y 1) : EReal)) (pieceM x4 x5 x8) L (fun k x => ?_) y (y 1) ?_
  · have h1 : (pieceM x4 x5 x8 k).1.emb x 1 = k :=
      Fin.ext (show k.val + 1 * (x 1).val = k.val by have := (x 1).isLt; change _ < 1 at this; omega)
    have hxx : x = ix4 0 0 0 (x 3) := by
      funext a
      match a with
      | 0 => exact Subsingleton.elim (α := Fin 1) _ _
      | 1 => exact Subsingleton.elim (α := Fin 1) _ _
      | 2 => exact Subsingleton.elim (α := Fin 1) _ _
      | 3 => rfl
    rw [h1]
    refine Eq.trans (congrArg _ hxx) ?_
    exact outM_apply x4 x5 x8 k.val k.isLt hx (x 3)
  · refine (Rect.mem_set_unit (s := S1x8x1x128) (off := ![0, (y 1).val, 0, 0]) (size := ![1, 1, 1, 128]) (inb := inbN _ (y 1).isLt)).mpr fun a => ?_
    have := (y a).isLt
    match a with
    | 0 => exact ⟨Nat.zero_le _, by simpa using this⟩
    | 1 => exact ⟨le_rfl, Nat.lt_succ_self _⟩
    | 2 => exact ⟨Nat.zero_le _, by simpa using this⟩
    | 3 => exact ⟨Nat.zero_le _, by simpa using this⟩

theorem canonN (L : List (View.Piece (Elt Ideal) S1x8x1x128 .f32)) (y : S1x8x1x128.Idx) :
    (View.canon (lastFirst (pieceN x1 x4 x5 x7 x8) ++ L) y : EReal) = blockN x1 x4 x7 x8 (y 1) (y 3) := by
  refine canon_lastFirst (fun y => (blockN x1 x4 x7 x8 (y 1) (y 3) : EReal)) (pieceN x1 x4 x5 x7 x8) L (fun k x => ?_) y (y 1) ?_
  · have h1 : (pieceN x1 x4 x5 x7 x8 k).1.emb x 1 = k :=
      Fin.ext (show k.val + 1 * (x 1).val = k.val by have := (x 1).isLt; change _ < 1 at this; omega)
    have h3 : (pieceN x1 x4 x5 x7 x8 k).1.emb x 3 = x 3 := Fin.ext (show 0 + 1 * (x 3).val = (x 3).val by omega)
    have hxx : x = ix4 0 0 0 (x 3) := by
      funext a
      match a with
      | 0 => exact Subsingleton.elim (α := Fin 1) _ _
      | 1 => exact Subsingleton.elim (α := Fin 1) _ _
      | 2 => exact Subsingleton.elim (α := Fin 1) _ _
      | 3 => rfl
    rw [h1, h3]
    refine Eq.trans (congrArg _ hxx) ?_
    exact outN_apply x1 x4 x5 x7 x8 k.val k.isLt hx (x 3)
  · refine (Rect.mem_set_unit (s := S1x8x1x128) (off := ![0, (y 1).val, 0, 0]) (size := ![1, 1, 1, 128]) (inb := inbN _ (y 1).isLt)).mpr fun a => ?_
    have := (y a).isLt
    match a with
    | 0 => exact ⟨Nat.zero_le _, by simpa using this⟩
    | 1 => exact ⟨le_rfl, Nat.lt_succ_self _⟩
    | 2 => exact ⟨Nat.zero_le _, by simpa using this⟩
    | 3 => exact ⟨Nat.zero_le _, by simpa using this⟩

theorem canonC (L : List (View.Piece (Elt Ideal) S1x8x128x256 .f32)) (y : S1x8x128x256.Idx) :
    (View.canon (lastFirst (pieceC x1 x2 x4 x5 x6 x8) ++ L) y : EReal) = blockC x1 x2 x4 x6 x8 (y 1) (y 2) (y 3) := by
  refine canon_lastFirst (fun y => (blockC x1 x2 x4 x6 x8 (y 1) (y 2) (y 3) : EReal)) (pieceC x1 x2 x4 x5 x6 x8) L (fun k x => ?_) y (y 1) ?_
  · have h1 : (pieceC x1 x2 x4 x5 x6 x8 k).1.emb x 1 = k :=
      Fin.ext (show k.val + 1 * (x 1).val = k.val by have := (x 1).isLt; change _ < 1 at this; omega)
    have h2 : (pieceC x1 x2 x4 x5 x6 x8 k).1.emb x 2 = x 2 := Fin.ext (show 0 + 1 * (x 2).val = (x 2).val by omega)
    have h3 : (pieceC x1 x2 x4 x5 x6 x8 k).1.emb x 3 = x 3 := Fin.ext (show 0 + 1 * (x 3).val = (x 3).val by omega)
    have hxx : x = ix4 0 0 (x 2) (x 3) := by
      funext a
      match a with
      | 0 => exact Subsingleton.elim (α := Fin 1) _ _
      | 1 => exact Subsingleton.elim (α := Fin 1) _ _
      | 2 => rfl
      | 3 => rfl
    rw [h1, h2, h3]
    refine Eq.trans (congrArg _ hxx) ?_
    exact outC_apply x1 x2 x4 x5 x6 x8 k.val k.isLt hx (x 2) (x 3)
  · refine (Rect.mem_set_unit (s := S1x8x128x256) (off := ![0, (y 1).val, 0, 0]) (size := ![1, 1, 128, 256]) (inb := inbC _ (y 1).isLt)).mpr fun a => ?_
    have := (y a).isLt
    match a with
    | 0 => exact ⟨Nat.zero_le _, by simpa using this⟩
    | 1 => exact ⟨le_rfl, Nat.lt_succ_self _⟩
    | 2 => exact ⟨Nat.zero_le _, by simpa using this⟩
    | 3 => exact ⟨Nat.zero_le _, by simpa using this⟩

theorem canonH (y : S1x8x2048.Idx) :
    (View.canon (lastFirst (pieceH x0 x1 x2 x3 x4 x5 x6 x7 x8 x9) ++ []) y : EReal) =
      blockH x0 x1 x2 x3 x4 x6 x7 x8 x9 (hd (y 2)) (y 1) (ln (y 2)) := by
  refine canon_lastFirst (fun y => (blockH x0 x1 x2 x3 x4 x6 x7 x8 x9 (hd (y 2)) (y 1) (ln (y 2)) : EReal))
    (pieceH x0 x1 x2 x3 x4 x5 x6 x7 x8 x9) [] (fun k x => ?_) y (hd (y 2)) ?_
  · have hv : ((pieceH x0 x1 x2 x3 x4 x5 x6 x7 x8 x9 k).1.emb x 2).val = k.val * 256 + (x 2).val :=
      show k.val * 256 + 1 * (x 2).val = _ by omega
    have hl : (x 2).val < 256 := (x 2).isLt
    have h2 : hd ((pieceH x0 x1 x2 x3 x4 x5 x6 x7 x8 x9 k).1.emb x 2) = k := Fin.ext (by unfold hd; dsimp only; rw [hv]; omega)
    have h3 : ln ((pieceH x0 x1 x2 x3 x4 x5 x6 x7 x8 x9 k).1.emb x 2) = x 2 := Fin.ext (by unfold ln; dsimp only; rw [hv]; omega)
    have h1 : (pieceH x0 x1 x2 x3 x4 x5 x6 x7 x8 x9 k).1.emb x 1 = x 1 := Fin.ext (show 0 + 1 * (x 1).val = (x 1).val by omega)
    have hxx : x = ix3 0 (x 1) (x 2) := by
      funext a
      match a with
      | 0 => exact Subsingleton.elim (α := Fin 1) _ _
      | 1 => rfl
      | 2 => rfl
    rw [h1, h2, h3]
    refine Eq.trans (congrArg _ hxx) ?_
    exact outH_apply x0 x1 x2 x3 x4 x5 x6 x7 x8 x9 k.val k.isLt hx (x 1) (x 2)
  · refine (Rect.mem_set_unit (s := S1x8x2048) (off := ![0, 0, (hd (y 2)).val * 256]) (size := ![1, 8, 256])
      (inb := inbV _ (hd (y 2)).isLt)).mpr fun a => ?_
    have := (y a).isLt
    match a with
    | 0 => exact ⟨Nat.zero_le _, by simpa using this⟩
    | 1 => exact ⟨Nat.zero_le _, by simpa using this⟩
    | 2 =>
      show (y 2).val / 256 * 256 ≤ (y 2).val ∧ (y 2).val < (y 2).val / 256 * 256 + 256
      omega

end

end Cert.KernelIdeal.Heads
-- ==== Proof.Layer.lean ====
/-  What the recurrent layer leaves of its sample batch, in terms of the arrays it is given: the projections, the gates,
    the state and the norm's gain. -/
module

public import proofs.«01_k».proof.Proof.Chunk

@[expose] public section

noncomputable section

namespace Chunk

open Idealize.ShloMosaic

/-- Token `t` of sequence `b` among the rows of the projections. -/
def row (b : Fin 128) (t : Fin 4) : Fin 8704 := ⟨8192 + (b.val * 4 + t.val), by omega⟩

variable (p : Fin 8704 → Fin 6144 → EReal) (g : Fin 8704 → Fin 128 → EReal) (C : Fin 128 → Fin 8 → Fin 128 → Fin 256 → EReal)
  (n : Fin 128 → Fin 8 → Fin 128 → EReal) (m : Fin 128 → Fin 8 → EReal) (w : Fin 8 → Fin 256 → EReal) (b : Fin 128) (h : Fin 8)

def fS (t : Fin 4) : EReal := lsig (g (row b t) ⟨8 + h.val, by omega⟩)
def iS (t : Fin 4) : EReal := g (row b t) ⟨h.val, by omega⟩
def qS (t : Fin 4) (d : Fin 128) : EReal := p (row b t) ⟨h.val * 128 + d.val, by omega⟩
def kS (t : Fin 4) (d : Fin 128) : EReal := p (row b t) ⟨1024 + (h.val * 128 + d.val), by omega⟩ * Ideal.ofBits .f32 0x3DB504F3#32
def vS (t : Fin 4) (j : Fin 256) : EReal := p (row b t) ⟨2048 + (h.val * 256 + j.val), by omega⟩
def oS (t : Fin 4) (j : Fin 256) : EReal := p (row b t) ⟨4096 + (h.val * 256 + j.val), by omega⟩

/-- The new level, vector and matrix. -/
def newM : EReal := levelNew (fS g b h) (iS g b h) (m b h) 3
def newN (d : Fin 128) : EReal := vecNew (fS g b h) (iS g b h) (m b h) 3 (kS p b h) (n b h) d
def newC (d : Fin 128) (j : Fin 256) : EReal := matNew (fS g b h) (iS g b h) (m b h) 3 (kS p b h) (vS p b h) (C b h) d j

/-- The read-out, gated and normed. -/
def out (t : Fin 4) (j : Fin 256) : EReal :=
  normed (gated (read (fS g b h) (iS g b h) (m b h) (qS p b h) (kS p b h) (vS p b h) (C b h) (n b h) t) (oS p b h t)) (w h) j

end Chunk
-- ==== Proof.Arrays.lean ====
module

public import proofs.«01_k».proof.Proof.Store
public import proofs.«01_k».proof.Proof.Layer
public import Idealize.ShloMosaic.Lib.Claim
public import Idealize.ShloMosaic.Lib.Pipeline.ValueKit

@[expose] public section

set_option maxRecDepth 65536

noncomputable section

namespace Cert.KernelIdeal.Heads

open Cert.KernelIdeal Cert.KernelIdeal.Gen Idealize.ShloMosaic Idealize.ShloMosaic.TcCoe Idealize.SL.Sem Chunk

variable (m : (ℓ : Loc nD τ sig) → Buf (Elt Ideal) ℓ) (c : Dev nD)

/-! ## The arguments -/

def aP (r : Fin 8704) (l : Fin 6144) : EReal := (m (c, Proc.tc.devRef main_arg0) : S8704x6144.Idx → EReal) (ix2 r l)
def aG (r : Fin 8704) (l : Fin 128) : EReal := (m (c, Proc.tc.devRef main_arg1) : S8704x128.Idx → EReal) (ix2 r l)
def aC (b : Fin 128) (h : Fin 8) (d : Fin 128) (j : Fin 256) : EReal :=
  (m (c, Proc.tc.devRef main_arg2) : S1x128x8x128x256.Idx → EReal) (ix5 0 b h d j)
def aN (b : Fin 128) (h : Fin 8) (d : Fin 128) : EReal :=
  (m (c, Proc.tc.devRef main_arg3) : S1x128x8x128.Idx → EReal) (ix4 0 b h d)
def aM (b : Fin 128) (h : Fin 8) : EReal := (m (c, Proc.tc.devRef main_arg4) : S1x128x8.Idx → EReal) (ix3 0 b h)
def aW (h : Fin 8) (j : Fin 256) : EReal := (m (c, Proc.tc.devRef main_arg5) : S1x8x256.Idx → EReal) (ix3 0 h j)

/-! ## The arrays the grid reads -/

theorem slt_eq : ∀ j : Fin 128, IntOp.cmpi .slt (BitVec.ofNat 32 j.val) 8#32 = if j.val < 8 then 1#1 else 0#1 := by decide +kernel

theorem slt_eq' : ∀ j : Fin 128, IntOp.cmpi .slt (BitVec.ofNat 32 j.val) 16#32 = if j.val < 16 then 1#1 else 0#1 := by decide +kernel

theorem bits_top : Ideal.ofBits .f32 2139095040#32 = ⊤ := by
  unfold Ideal.ofBits Ideal.ieee
  simp

theorem V_proj (b : Fin 128) (t : Fin 4) (j : Fin 6144) : (V m c main_v2 : S128x8x6144.Idx → EReal) (ix3 b (emb t) j) = aP m c (row b t) j := by
  refine Eq.trans (congrFun (?h : V m c main_v2 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  exact dif_pos t.isLt

theorem V_gate (b : Fin 128) (t : Fin 4) (j : Fin 128) : (V m c main_v14 : S128x8x128.Idx → EReal) (ix3 b (emb t) j) = aG m c (row b t) j := by
  refine Eq.trans (congrFun (?h : V m c main_v14 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  exact dif_pos t.isLt

theorem V_gate_pad (b : Fin 128) (t : Fin 8) (ht : 4 ≤ t.val) (j : Fin 128) : (V m c main_v14 : S128x8x128.Idx → EReal) (ix3 b t j) = (if j.val < 8 then ⊥ else if j.val < 16 then ⊤ else 0 : EReal) := by
  refine Eq.trans (congrFun (?h : V m c main_v14 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  rw [dif_neg (by omega)]
  simp only [id]
  pointwise
  rw [slt_eq, slt_eq', bits_bot, bits_top]
  unfold Scalar.select
  split_ifs <;> first | rfl | contradiction

theorem V_gateT (b : Fin 128) (l : Fin 16) (t : Fin 8) : (V m c main_v20 : S128x16x8.Idx → EReal) (ix3 b l t) = (V m c main_v14 : S128x8x128.Idx → EReal) (ix3 b t (l.castLE (by decide))) := by
  refine Eq.trans (congrFun (?h : V m c main_v20 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  refine Eq.symm (Eq.trans (congrFun (?h2 : V m c main_v14 = ?Y) _) ?_)
  case h2 =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  rfl

theorem V_mat (b : Fin 128) (h : Fin 8) (d : Fin 128) (j : Fin 256) : (V m c main_v15 : S128x8x128x256.Idx → EReal) (ix4 b h d j) = aC m c b h d j := by
  refine Eq.trans (congrFun (?h : V m c main_v15 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  rfl

theorem V_vec (b : Fin 128) (h : Fin 8) (d : Fin 128) : (V m c main_v21 : S128x8x1x128.Idx → EReal) (ix4 b h 0 d) = aN m c b h d := by
  refine Eq.trans (congrFun (?h : V m c main_v21 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  rfl

theorem V_level (b : Fin 128) (h : Fin 8) (d : Fin 128) : (V m c main_v23 : S128x8x1x128.Idx → EReal) (ix4 b h 0 d) = aM m c b h := by
  refine Eq.trans (congrFun (?h : V m c main_v23 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  rfl

theorem V_gain (h : Fin 8) (j : Fin 256) : (V m c main_v24 : S8x1x256.Idx → EReal) (ix3 h 0 j) = aW m c h j := by
  refine Eq.trans (congrFun (?h : V m c main_v24 = ?X) _) ?_
  case h =>
    unfold V
    simp only [hostOps0, hostOps0_1, hostOps0_2, hostOps0_3, hostOps0_4, hostOps0_5, hostOps0_6, List.flatten_cons, List.flatten_nil, List.append_nil, List.cons_append, List.nil_append]
    after_results
  pointwise [StableHlo.TRef.toBuf, StableHlo.TRef.ofBuf, cast_eq]
  rfl

/-! ## The blocks of point `t` -/

theorem N_eq : cfg0.N = 128 := by decide +kernel

/-- The sequence that point `t` computes. -/
def bt (t : Fin cfg0.N) : Fin 128 := ⟨t.val, N_eq ▸ t.isLt⟩

theorem idx : ∀ t : Fin cfg0.N, win0_0.index t = ![t.val, 0, 0] ∧ win0_1.index t = ![t.val, 0, 1] ∧ win0_2.index t = ![t.val, 0, 1] ∧
    win0_3.index t = ![t.val, 0, 2] ∧ win0_4.index t = ![t.val, 0, 0] ∧ win0_5.index t = ![t.val, 0, 0] ∧
    win0_6.index t = ![t.val, 0, 0, 0] ∧ win0_7.index t = ![t.val, 0, 0, 0] ∧ win0_8.index t = ![t.val, 0, 0, 0] ∧
    win0_9.index t = ![0, 0, 0] ∧ win0_10.index t = ![t.val, 0, 0] ∧ win0_11.index t = ![t.val, 0, 0, 0] ∧
    win0_12.index t = ![t.val, 0, 0, 0] ∧ win0_13.index t = ![t.val, 0, 0, 0] :=
  (by decide +kernel : ∀ t : Fin grid0.N, _)

variable (t : Fin cfg0.N)

theorem blk_q (s : Fin 8) (l : Fin 1024) : (iblk m c 0 t : S1x8x1024.Idx → EReal) (ix3 0 s l) =
    (V m c main_v2 : S128x8x6144.Idx → EReal) (ix3 (bt t) s ⟨l.val, by omega⟩) := by
  blk_ext [iblk, idx t, bt]

theorem blk_k (s : Fin 8) (l : Fin 1024) : (iblk m c 1 t : S1x8x1024.Idx → EReal) (ix3 0 s l) =
    (V m c main_v2 : S128x8x6144.Idx → EReal) (ix3 (bt t) s ⟨1024 + l.val, by omega⟩) := by
  blk_ext [iblk, idx t, bt]

theorem blk_v (s : Fin 8) (l : Fin 2048) : (iblk m c 2 t : S1x8x2048.Idx → EReal) (ix3 0 s l) =
    (V m c main_v2 : S128x8x6144.Idx → EReal) (ix3 (bt t) s ⟨2048 + l.val, by omega⟩) := by
  blk_ext [iblk, idx t, bt]

theorem blk_o (s : Fin 8) (l : Fin 2048) : (iblk m c 3 t : S1x8x2048.Idx → EReal) (ix3 0 s l) =
    (V m c main_v2 : S128x8x6144.Idx → EReal) (ix3 (bt t) s ⟨4096 + l.val, by omega⟩) := by
  blk_ext [iblk, idx t, bt]

theorem blk_g (s : Fin 8) (l : Fin 128) : (iblk m c 4 t : S1x8x128.Idx → EReal) (ix3 0 s l) =
    (V m c main_v14 : S128x8x128.Idx → EReal) (ix3 (bt t) s l) := by
  blk_ext [iblk, idx t, bt]

theorem blk_gT (l : Fin 16) (s : Fin 8) : (iblk m c 5 t : S1x16x8.Idx → EReal) (ix3 0 l s) =
    (V m c main_v20 : S128x16x8.Idx → EReal) (ix3 (bt t) l s) := by
  blk_ext [iblk, idx t, bt]

theorem blk_C (h : Fin 8) (d : Fin 128) (j : Fin 256) : (iblk m c 6 t : S1x8x128x256.Idx → EReal) (ix4 0 h d j) =
    (V m c main_v15 : S128x8x128x256.Idx → EReal) (ix4 (bt t) h d j) := by
  blk_ext [iblk, idx t, bt]

theorem blk_n (h : Fin 8) (d : Fin 128) : (iblk m c 7 t : S1x8x1x128.Idx → EReal) (ix4 0 h 0 d) =
    (V m c main_v21 : S128x8x1x128.Idx → EReal) (ix4 (bt t) h 0 d) := by
  blk_ext [iblk, idx t, bt]

theorem blk_m (h : Fin 8) (d : Fin 128) : (iblk m c 8 t : S1x8x1x128.Idx → EReal) (ix4 0 h 0 d) =
    (V m c main_v23 : S128x8x1x128.Idx → EReal) (ix4 (bt t) h 0 d) := by
  blk_ext [iblk, idx t, bt]

theorem blk_w (h : Fin 8) (j : Fin 256) : (iblk m c 9 t : S8x1x256.Idx → EReal) (ix3 h 0 j) =
    (V m c main_v24 : S8x1x256.Idx → EReal) (ix3 h 0 j) := by
  blk_ext [iblk, idx t, bt]

theorem blk_transposed : Transposed (iblk m c 4 t) (iblk m c 5 t) := fun l s => by
  refine (blk_gT m c t l s).trans ((V_gateT m c (bt t) l s).trans ?_)
  exact (blk_g m c t s _).symm

/-! ## The blocks in terms of the arguments -/

section

variable (h : Fin 8)

theorem fB_emb (s : Fin 4) : fB (iblk m c 4 t) h.val h.isLt (emb s) = fS (aG m c) (bt t) h s := by
  unfold fB fS
  rw [blk_g, V_gate]

theorem fB_pad (s : Fin 8) (hs : 4 ≤ s.val) : fB (iblk m c 4 t) h.val h.isLt s = 0 := by
  unfold fB
  rw [blk_g, V_gate_pad _ _ _ _ hs, if_neg (by simp), if_pos (by have := h.isLt; simp; omega)]
  exact lsig_top

theorem iB_emb (s : Fin 4) : iB (iblk m c 4 t) h.val h.isLt (emb s) = iS (aG m c) (bt t) h s := by
  unfold iB iS
  rw [blk_g, V_gate]

theorem iB_pad (s : Fin 8) (hs : 4 ≤ s.val) : iB (iblk m c 4 t) h.val h.isLt s = ⊥ := by
  unfold iB
  rw [blk_g, V_gate_pad _ _ _ _ hs, if_pos h.isLt]

theorem mB_eq : mB (iblk m c 8 t) h.val h.isLt = aM m c (bt t) h := by
  unfold mB
  rw [blk_m, V_level]

theorem nB_eq : nB (iblk m c 7 t) h.val h.isLt = aN m c (bt t) h := by
  funext d
  unfold nB
  rw [blk_n, V_vec]

theorem cB_eq : cB (iblk m c 6 t) h.val h.isLt = aC m c (bt t) h := by
  funext d j
  unfold cB
  rw [blk_C, V_mat]

theorem gB_eq : gB (iblk m c 9 t) h.val h.isLt = aW m c h := by
  funext j
  unfold gB
  rw [blk_w, V_gain]

theorem qB_emb (s : Fin 4) (d : Fin 128) : qB (iblk m c 0 t) h.val h.isLt (emb s) d = qS (aP m c) (bt t) h s d := by
  unfold qB qS
  rw [blk_q, V_proj]

theorem kB_emb (s : Fin 4) (d : Fin 128) : kB (iblk m c 1 t) h.val h.isLt (emb s) d = kS (aP m c) (bt t) h s d := by
  unfold kB kS
  rw [blk_k, V_proj]

theorem vB_emb (s : Fin 4) (j : Fin 256) : vB (iblk m c 2 t) h.val h.isLt (emb s) j = vS (aP m c) (bt t) h s j := by
  unfold vB vS
  rw [blk_v, V_proj]

theorem oB_emb (s : Fin 4) (j : Fin 256) : oB (iblk m c 3 t) h.val h.isLt (emb s) j = oS (aP m c) (bt t) h s j := by
  unfold oB oS
  rw [blk_o, V_proj]

theorem blockM_eq : blockM (iblk m c 4 t) (iblk m c 8 t) h = newM (aG m c) (aM m c) (bt t) h := by
  unfold blockM newM
  rw [mB_eq, levelNew_pad _ (fB_emb m c t h) (fB_pad m c t h) (iB_emb m c t h) (iB_pad m c t h)]

theorem blockN_eq (d : Fin 128) : blockN (iblk m c 1 t) (iblk m c 4 t) (iblk m c 7 t) (iblk m c 8 t) h d =
    newN (aP m c) (aG m c) (aN m c) (aM m c) (bt t) h d := by
  unfold blockN newN
  rw [mB_eq, nB_eq, vecNew_pad _ (fB_emb m c t h) (fB_pad m c t h) (iB_emb m c t h) (iB_pad m c t h) _ (kB_emb m c t h)]

theorem blockC_eq (d : Fin 128) (j : Fin 256) :
    blockC (iblk m c 1 t) (iblk m c 2 t) (iblk m c 4 t) (iblk m c 6 t) (iblk m c 8 t) h d j =
      newC (aP m c) (aG m c) (aC m c) (aM m c) (bt t) h d j := by
  unfold blockC newC
  rw [mB_eq, cB_eq, matNew_pad _ (fB_emb m c t h) (fB_pad m c t h) (iB_emb m c t h) (iB_pad m c t h) _ (kB_emb m c t h)
    (vB_emb m c t h)]

theorem blockH_eq (s : Fin 4) (j : Fin 256) :
    blockH (iblk m c 0 t) (iblk m c 1 t) (iblk m c 2 t) (iblk m c 3 t) (iblk m c 4 t) (iblk m c 6 t) (iblk m c 7 t) (iblk m c 8 t)
      (iblk m c 9 t) h (emb s) j = out (aP m c) (aG m c) (aC m c) (aN m c) (aM m c) (aW m c) (bt t) h s j := by
  unfold blockH out
  rw [mB_eq, cB_eq, nB_eq, gB_eq, funext (oB_emb m c t h s)]
  refine congrArg (fun x => normed (gated x _) _ j) (funext fun j => ?_)
  exact read_pad _ (fB_emb m c t h) (iB_emb m c t h) _ _ (qB_emb m c t h) (kB_emb m c t h) (vB_emb m c t h) s j

end

end Cert.KernelIdeal.Heads
-- ==== Proof.Result.lean ====
module

public import proofs.«01_k».proof.Proof.Arrays

@[expose] public section

set_option maxRecDepth 65536

noncomputable section

namespace Cert.KernelIdeal.Heads

open Cert.KernelIdeal Cert.KernelIdeal.Gen Idealize.ShloMosaic Idealize.ShloMosaic.TcCoe Idealize.SL.Sem Chunk

variable (m : (ℓ : Loc nD τ sig) → Buf (Elt Ideal) ℓ) (c : Dev nD)

/-! ## The arrays after the run -/

theorem arr_level (i : S128x8x1x128.Idx) : ((dats m 0 c).arrAt 13 cfg0.N : S128x8x1x128.Idx → EReal) i = newM (aG m c) (aM m c) (i 0) (i 1) := by
  refine (dats m 0 c).arrAt_forall_of_covers 13 (fun i v => (v : EReal) = newM (aG m c) (aM m c) (i 0) (i 1)) (by decide +kernel) (fun t hf y => ?_) i
  have h0 : (win0_13.blk t).view.emb y 0 = bt t := by
    have h := (y 0).isLt; change _ < 1 at h
    apply Fin.ext; blk_simp [idx t, bt]
  have h1 : (win0_13.blk t).view.emb y 1 = y 1 := by apply Fin.ext; blk_simp [idx t]
  blk_simp
  rw [h0, h1, after0_13]
  unfold outsAt0
  dsimp only
  rw [storesM, canonM (hx := blk_transposed m c t)]
  exact blockM_eq m c t (y 1)

theorem arr_vec (i : S128x8x1x128.Idx) : ((dats m 0 c).arrAt 12 cfg0.N : S128x8x1x128.Idx → EReal) i = newN (aP m c) (aG m c) (aN m c) (aM m c) (i 0) (i 1) (i 3) := by
  refine (dats m 0 c).arrAt_forall_of_covers 12 (fun i v => (v : EReal) = newN (aP m c) (aG m c) (aN m c) (aM m c) (i 0) (i 1) (i 3)) (by decide +kernel) (fun t hf y => ?_) i
  have h0 : (win0_12.blk t).view.emb y 0 = bt t := by
    have h := (y 0).isLt; change _ < 1 at h
    apply Fin.ext; blk_simp [idx t, bt]
  have h1 : (win0_12.blk t).view.emb y 1 = y 1 := by apply Fin.ext; blk_simp [idx t]
  have h3 : (win0_12.blk t).view.emb y 3 = y 3 := by apply Fin.ext; blk_simp [idx t]
  blk_simp
  rw [h0, h1, h3, after0_12]
  unfold outsAt0
  dsimp only
  rw [storesN, canonN (hx := blk_transposed m c t)]
  exact blockN_eq m c t (y 1) (y 3)

theorem arr_mat (i : S128x8x128x256.Idx) : ((dats m 0 c).arrAt 11 cfg0.N : S128x8x128x256.Idx → EReal) i = newC (aP m c) (aG m c) (aC m c) (aM m c) (i 0) (i 1) (i 2) (i 3) := by
  refine (dats m 0 c).arrAt_forall_of_covers 11 (fun i v => (v : EReal) = newC (aP m c) (aG m c) (aC m c) (aM m c) (i 0) (i 1) (i 2) (i 3)) (by decide +kernel) (fun t hf y => ?_) i
  have h0 : (win0_11.blk t).view.emb y 0 = bt t := by
    have h := (y 0).isLt; change _ < 1 at h
    apply Fin.ext; blk_simp [idx t, bt]
  have h1 : (win0_11.blk t).view.emb y 1 = y 1 := by apply Fin.ext; blk_simp [idx t]
  have h2 : (win0_11.blk t).view.emb y 2 = y 2 := by apply Fin.ext; blk_simp [idx t]
  have h3 : (win0_11.blk t).view.emb y 3 = y 3 := by apply Fin.ext; blk_simp [idx t]
  blk_simp
  rw [h0, h1, h2, h3, after0_11]
  unfold outsAt0
  dsimp only
  rw [storesC, canonC (hx := blk_transposed m c t)]
  exact blockC_eq m c t (y 1) (y 2) (y 3)

theorem arr_out (i : S128x8x2048.Idx) (s : Fin 4) (hs : i 1 = emb s) : ((dats m 0 c).arrAt 10 cfg0.N : S128x8x2048.Idx → EReal) i =
    out (aP m c) (aG m c) (aC m c) (aN m c) (aM m c) (aW m c) (i 0) (hd (i 2)) s (ln (i 2)) := by
  refine (dats m 0 c).arrAt_forall_of_covers 10 (fun i v => i 1 = emb s → (v : EReal) =
    out (aP m c) (aG m c) (aC m c) (aN m c) (aM m c) (aW m c) (i 0) (hd (i 2)) s (ln (i 2))) (by decide +kernel) (fun t hf y => ?_) i (Memref.isWhole_whole _) hs
  have h0 : (win0_10.blk t).view.emb y 0 = bt t := by
    have h := (y 0).isLt; change _ < 1 at h
    apply Fin.ext; blk_simp [idx t, bt]
  have h1 : (win0_10.blk t).view.emb y 1 = y 1 := by apply Fin.ext; blk_simp [idx t]
  have h2 : (win0_10.blk t).view.emb y 2 = y 2 := by apply Fin.ext; blk_simp [idx t]
  blk_simp
  rw [h0, h1, h2, after0_10]
  intro hs
  unfold outsAt0
  dsimp only
  rw [storesH, canonH (hx := blk_transposed m c t), hs]
  exact blockH_eq m c t (hd (y 2)) s (ln (y 2))

end Cert.KernelIdeal.Heads
-- ==== Proof.Cumsum.lean ====
/-  The reference's running sum over four tokens and its maxima along a last axis, at an index. -/
module

public import proofs.«01_k».proof.Proof.Gen.ReferenceIdeal.Run
public import proofs.«01_k».proof.Proof.Layer
public import Idealize.ShloMosaic.Lib.Pointwise

@[expose] public section

set_option maxRecDepth 65536

noncomputable section

namespace Cert.ReferenceIdeal.Sample

open Cert.ReferenceIdeal Cert.ReferenceIdeal.Gen Cert.ReferenceIdeal.Value Idealize.ShloMosaic Idealize.ShloMosaic.TcCoe Idealize.SL.Sem Chunk

/-- The four positions of a window along the last axis. -/
theorem window_pos : ∀ n : Fin (⟨3, ![1, 1, 4]⟩ : Shape).numel, (⟨3, ![1, 1, 4]⟩ : Shape).rowMajor.symm n = fun a => match a with
    | 0 => (0 : Fin 1) | 1 => (0 : Fin 1) | 2 => (⟨n.val, n.isLt⟩ : Fin 4) := by
  intro n
  refine (Equiv.symm_apply_eq _).mpr ?_
  revert n
  decide

/-- A position of a window: an element of the operand, or padding. -/
theorem window_elt (x : S128x8x4.Idx → EReal) (b : Fin 128) (h : Fin 8) (t : Fin 4) (n : ℕ) (hn : n < 4) (p : Fin 3 → ℕ)
    (hp : p = ![b.val, h.val, t.val + n])
    (inst : Decidable (∀ a : Fin 3, (![0, 0, 3] : Fin 3 → ℕ) a ≤ p a ∧ p a - (![0, 0, 3] : Fin 3 → ℕ) a < S128x8x4.size a)) :
    (@dite EReal (∀ a : Fin 3, (![0, 0, 3] : Fin 3 → ℕ) a ≤ p a ∧ p a - (![0, 0, 3] : Fin 3 → ℕ) a < S128x8x4.size a) inst
      (fun hin => x (fun a => ⟨p a - (![0, 0, 3] : Fin 3 → ℕ) a, (hin a).2⟩)) fun _ => 0) =
      if 3 ≤ t.val + n then x (ix3 b h ⟨(t.val + n - 3) % 4, Nat.mod_lt _ (by decide)⟩) else 0 := by
  subst hp
  by_cases hc : 3 ≤ t.val + n
  · have ht := t.isLt
    rw [dif_pos, if_pos hc]
    · refine congrArg x (funext fun a => Fin.ext ?_)
      match a with
      | 0 => rfl
      | 1 => rfl
      | 2 => show t.val + n - 3 = (t.val + n - 3) % 4; omega
    · intro a
      match a with
      | 0 => exact ⟨Nat.zero_le _, b.isLt⟩
      | 1 => exact ⟨Nat.zero_le _, h.isLt⟩
      | 2 => exact ⟨hc, show t.val + n - 3 < 4 by omega⟩
  · rw [dif_neg fun hin => hc (hin 2).1, if_neg hc]

theorem cumsum_apply (x : FVec Ideal S128x8x4 .f32) (init : FVec Ideal S_ .f32) (h0 : ∀ i, init i = (0 : EReal)) (b : Fin 128) (h : Fin 8) (t : Fin 4) :
    (Host.reduceWindowAdd ![1, 1, 4] ![1, 1, 1] ![0, 0, 3] ![0, 0, 0] x init
      reduceWindows_S128x8x4_S128x8x4_w1s1p0_0_w1s1p0_0_w4s1p3_0 h_S_ (ix3 b h t) : EReal) = cum (fun s => x (ix3 b h s)) t := by
  have hf : (Host.reduceWindowAdd ![1, 1, 4] ![1, 1, 1] ![0, 0, 3] ![0, 0, 0] x init
      reduceWindows_S128x8x4_S128x8x4_w1s1p0_0_w1s1p0_0_w4s1p3_0 h_S_ (ix3 b h t) : EReal) =
      (List.finRange 4).foldl (fun (r : EReal) (n : Fin 4) => r + if 3 ≤ t.val + n.val then
        (x (ix3 b h ⟨(t.val + n.val - 3) % 4, Nat.mod_lt _ (by decide)⟩) : EReal) else 0) 0 := by
    show Ideal.hostReduceWindowAdd (s := S128x8x4) ![1, 1, 4] ![1, 1, 1] ![0, 0, 3] ![0, 0, 0]
      reduceWindows_S128x8x4_S128x8x4_w1s1p0_0_w1s1p0_0_w4s1p3_0 x _ (ix3 b h t) = _
    unfold Ideal.hostReduceWindowAdd Host.reduceWindow
    rw [h0]
    refine congrArg (fun f => List.foldl f (0 : EReal) (List.finRange 4)) (funext fun r => funext fun n => congrArg (r + ·) ?_)
    refine @window_elt x b h t n.val n.isLt _ ?_ _
    funext a
    rw [window_pos n]
    match a with
    | 0 => exact Nat.mul_one _
    | 1 => exact Nat.mul_one _
    | 2 => exact congrArg (· + n.val) (Nat.mul_one t.val)
  rw [hf]
  unfold cum
  rw [Fin.sum_univ_four]
  match t with
  | 0 => simp [List.finRange_succ]
  | 1 => simp [List.finRange_succ]
  | 2 => simp [List.finRange_succ]
  | 3 => simp [List.finRange_succ]

theorem max4_apply (x : FVec Ideal S128x8x4x4 .f32) (e : EReal) (b : Fin 128) (h : Fin 8) (t : Fin 4)
    [inst : DecidablePred fun i => reducesTo_S128x8x4x4_S128x8x4_d3.drop i = ix3 b h t] :
    Finset.fold max e (x : S128x8x4x4.Idx → EReal) (Finset.univ.filter fun i => reducesTo_S128x8x4x4_S128x8x4_d3.drop i = ix3 b h t) =
      Finset.univ.fold max e fun s => (x (ix4 b h t s) : EReal) := by
  have hr : S128x8x4x4.Reduces [3] S128x8x4 := by decide
  refine (Eq.trans (congrArg (Finset.fold max e x) (Finset.filter_congr fun i _ => by rw [Shape.ReducesTo.drop_eq_drop _ hr])) (hr.fold_filter_drop_single max e x (ix3 b h t))).trans ?_
  refine congrArg (fun f => Finset.univ.fold max e f) (funext fun s => congrArg x ?_)
  funext a
  match a with
  | 0 => rfl
  | 1 => rfl
  | 2 => rfl
  | 3 => rfl

theorem max3_apply (x : FVec Ideal S128x8x4 .f32) (e : EReal) (b : Fin 128) (h : Fin 8)
    [inst : DecidablePred fun i => reducesTo_S128x8x4_S128x8_d2.drop i = ix2 b h] :
    Finset.fold max e (x : S128x8x4.Idx → EReal) (Finset.univ.filter fun i => reducesTo_S128x8x4_S128x8_d2.drop i = ix2 b h) =
      Finset.univ.fold max e fun s => (x (ix3 b h s) : EReal) := by
  have hr : S128x8x4.Reduces [2] S128x8 := by decide
  refine (Eq.trans (congrArg (Finset.fold max e x) (Finset.filter_congr fun i _ => by rw [Shape.ReducesTo.drop_eq_drop _ hr])) (hr.fold_filter_drop_single max e x (ix2 b h))).trans ?_
  refine congrArg (fun f => Finset.univ.fold max e f) (funext fun s => congrArg x ?_)
  funext a
  match a with
  | 0 => rfl
  | 1 => rfl
  | 2 => rfl

end Cert.ReferenceIdeal.Sample
-- ==== Proof.Ref.lean ====
module

public import proofs.«01_k».proof.Proof.Cumsum

@[expose] public section

set_option maxRecDepth 65536

noncomputable section

namespace Cert.ReferenceIdeal.Sample

open Cert.ReferenceIdeal Cert.ReferenceIdeal.Gen Cert.ReferenceIdeal.Value Idealize.ShloMosaic Idealize.ShloMosaic.TcCoe Idealize.SL.Sem Chunk

variable (V0 : Valuation τ sig (Elt Ideal))

/-! ## The arguments -/

def aP (r : Fin 8704) (l : Fin 6144) : EReal := (V0 (Proc.tc.devRef main_arg0) : S8704x6144.Idx → EReal) (ix2 r l)
def aG (r : Fin 8704) (l : Fin 128) : EReal := (V0 (Proc.tc.devRef main_arg1) : S8704x128.Idx → EReal) (ix2 r l)
def aC (b : Fin 128) (h : Fin 8) (d : Fin 128) (j : Fin 256) : EReal :=
  (V0 (Proc.tc.devRef main_arg2) : S1x128x8x128x256.Idx → EReal) (ix5 0 b h d j)
def aN (b : Fin 128) (h : Fin 8) (d : Fin 128) : EReal := (V0 (Proc.tc.devRef main_arg3) : S1x128x8x128.Idx → EReal) (ix4 0 b h d)
def aM (b : Fin 128) (h : Fin 8) : EReal := (V0 (Proc.tc.devRef main_arg4) : S1x128x8.Idx → EReal) (ix3 0 b h)
def aW (h : Fin 8) (j : Fin 256) : EReal := (V0 (Proc.tc.devRef main_arg5) : S1x8x256.Idx → EReal) (ix3 0 h j)

variable (b : Fin 128) (h : Fin 8) (t s : Fin 4) (d : Fin 128) (j : Fin 256)

theorem gate_apply (l : Fin 128) : (res_main_v12 V0 : S128x4x128.Idx → EReal) (ix3 b t l) = aG V0 (row b t) l := by
  unfold res_main_v12
  pointwise
  rfl

theorem sum_apply : (res_main_v26 V0 : S128x8x4.Idx → EReal) (ix3 b h t) = cum (fS (aG V0) b h) t := by
  unfold res_main_v26
  refine (cumsum_apply _ _ (fun i => ?_) b h t).trans ?_
  · pointwise
  · refine congrArg (fun f => cum f t) (funext fun s => ?_)
    unfold res_main_call0_call0_v3 res_main_call0_v0 res_main_call0_call0_cst
    pointwise
    rw [gate_apply]
    rw [if_neg (not_not_intro rfl)]
    exact lsig_eq _

theorem inp_apply : (res_main_v22 V0 : S128x8x4.Idx → EReal) (ix3 b h t) = iS (aG V0) b h t := by
  unfold res_main_v22
  pointwise
  exact gate_apply ..

theorem level0_apply : (res_main_v18 V0 : S128x8.Idx → EReal) (ix2 b h) = aM V0 b h := by
  unfold res_main_v18
  pointwise
  rfl

theorem gap_apply : (res_main_v35 V0 : S128x8x4x4.Idx → EReal) (ix4 b h t s) = gap (fS (aG V0) b h) (iS (aG V0) b h) t s := by
  unfold res_main_v35
  pointwise
  rw [sum_apply, sum_apply, inp_apply]
  have hm : IntOp.cmpi CmpIPredicate.sge (IntOp.addi (BitVec.ofNat 32 t.val) 0#32) (BitVec.ofNat 32 s.val) = if s ≤ t then 1#1 else 0#1 := by
    revert s t; decide
  rw [hm]
  simp only [id]
  pointwise
  rw [bits_bot]
  unfold gap
  by_cases hs : s ≤ t
  · simp [hs, Scalar.select]
  · simp [hs, Scalar.select]

theorem level_apply : (res_main_v40 V0 : S128x8x4.Idx → EReal) (ix3 b h t) = level (fS (aG V0) b h) (iS (aG V0) b h) (aM V0 b h) t := by
  unfold res_main_v40 res_main_v38
  pointwise
  rw [sum_apply, level0_apply, bits_bot]
  refine (congrArg (max _) (max4_apply (res_main_v35 V0) ⊥ b h t)).trans ?_
  simp only [gap_apply]
  rfl

theorem carry_apply : (res_main_v48 V0 : S128x8x4.Idx → EReal) (ix3 b h t) = carry (fS (aG V0) b h) (iS (aG V0) b h) (aM V0 b h) t := by
  unfold res_main_v48 res_main_v38
  pointwise
  rw [sum_apply, level0_apply, level_apply]
  rfl

theorem left_apply : (res_main_v71 V0 : S128x8x4.Idx → EReal) (ix3 b h t) = left (fS (aG V0) b h) (iS (aG V0) b h) 3 t := by
  unfold res_main_v71 res_main_v67
  pointwise
  refine Eq.trans ?_ (congrArg₂ (fun x y : EReal => x - y + _) (sum_apply V0 b h 3) (sum_apply V0 b h t))
  rw [inp_apply]

theorem levelNew_apply : (res_main_v74 V0 : S128x8.Idx → EReal) (ix2 b h) = newM (aG V0) (aM V0) b h := by
  unfold res_main_v74 res_main_v67
  pointwise
  rw [level0_apply, bits_bot]
  refine (congrArg (max _) (max3_apply (res_main_v71 V0) ⊥ b h)).trans ?_
  simp only [left_apply]
  exact congrArg (fun x : EReal => max (x + _) _) (sum_apply V0 b h 3)

theorem weight_apply : (res_main_v78 V0 : S128x8x4.Idx → EReal) (ix3 b h t) =
    weight (fS (aG V0) b h) (iS (aG V0) b h) (aM V0 b h) 3 t := by
  unfold res_main_v78
  pointwise
  rw [left_apply, levelNew_apply]
  rfl

theorem decay_apply : (res_main_v81 V0 : S128x8.Idx → EReal) (ix2 b h) = decay (fS (aG V0) b h) (iS (aG V0) b h) (aM V0 b h) 3 := by
  unfold res_main_v81 res_main_v67
  pointwise
  rw [level0_apply, levelNew_apply]
  exact congrArg (fun x : EReal => Ideal.exp (x + _ - _)) (sum_apply V0 b h 3)

theorem q_apply : (res_main_v19 V0 : S128x8x4x128.Idx → EReal) (ix4 b h t d) = qS (aP V0) b h t d := by
  unfold res_main_v19 res_main_v1
  pointwise
  rfl

theorem k_apply : (res_main_v20 V0 : S128x8x4x128.Idx → EReal) (ix4 b h t d) = kS (aP V0) b h t d := by
  unfold res_main_v20 res_main_v1
  pointwise
  rfl

theorem v_apply : (res_main_v21 V0 : S128x8x4x256.Idx → EReal) (ix4 b h t j) = vS (aP V0) b h t j := by
  unfold res_main_v21 res_main_v1
  pointwise
  rfl

theorem matrix_apply : (res_main_v16 V0 : S128x8x128x256.Idx → EReal) (ix4 b h d j) = aC V0 b h d j := by
  unfold res_main_v16
  pointwise
  rfl

theorem vector_apply : (res_main_v17 V0 : S128x8x128.Idx → EReal) (ix3 b h d) = aN V0 b h d := by
  unfold res_main_v17
  pointwise
  rfl

theorem score_apply : (res_main_v46 V0 : S128x8x4x4.Idx → EReal) (ix4 b h t s) =
    score (fS (aG V0) b h) (iS (aG V0) b h) (aM V0 b h) (qS (aP V0) b h) (kS (aP V0) b h) t s := by
  unfold res_main_v46
  pointwise
  simp only [q_apply, k_apply, gap_apply, level_apply]
  rfl

/-! ## The results -/

theorem gated_apply : (res_main_v103 V0 : S128x4x8x256.Idx → EReal) (ix4 b t h j) =
    gated (read (fS (aG V0) b h) (iS (aG V0) b h) (aM V0 b h) (qS (aP V0) b h) (kS (aP V0) b h) (vS (aP V0) b h) (aC V0 b h) (aN V0 b h) t)
      (oS (aP V0) b h t) j := by
  unfold res_main_v103 res_main_v1
  pointwise
  simp only [score_apply, v_apply, carry_apply, q_apply, matrix_apply, vector_apply, level_apply]
  unfold gated Chunk.read num den
  rw [zero_sub]
  rfl

theorem mean_apply : (res_main_v107 V0 : S128x4x8x1.Idx → EReal) (ix4 b t h 0) =
    mean (fun j => (res_main_v103 V0 : S128x4x8x256.Idx → EReal) (ix4 b t h j)) := by
  unfold res_main_v107
  pointwise
  rfl

theorem centred_apply : (res_main_v109 V0 : S128x4x8x256.Idx → EReal) (ix4 b t h j) =
    centred (fun j => (res_main_v103 V0 : S128x4x8x256.Idx → EReal) (ix4 b t h j)) j := by
  unfold res_main_v109
  pointwise
  exact congrArg (fun x : EReal => (_ : EReal) - x) (mean_apply ..)

theorem mat_at : (addf (mulf (broadcastInDim S128x8x128x256 ![0, 1, 2, 3] bcast_S128x8x1x1_S128x8x128x256_0_1_2_3 (broadcastInDim S128x8x1x1 ![0, 1] bcast_S128x8_S128x8x1x1_0_1 (res_main_v81 V0))) (res_main_v16 V0)) (Host.dotGeneral (φ₁ := .f32) (φ₂ := .f32) dot_S128x8x4x128_S128x8x4x256_S128x8x128x256_2_2_3_3_01_01 none (mulf (broadcastInDim S128x8x4x128 ![0, 1, 2, 3] bcast_S128x8x4x1_S128x8x4x128_0_1_2_3 (broadcastInDim S128x8x4x1 ![0, 1, 2] bcast_S128x8x4_S128x8x4x1_0_1_2 (res_main_v78 V0))) (res_main_v20 V0)) (res_main_v21 V0)) : S128x8x128x256.Idx → EReal) (ix4 b h d j) =
    newC (aP V0) (aG V0) (aC V0) (aM V0) b h d j := by
  pointwise
  simp only [decay_apply, matrix_apply, weight_apply, k_apply, v_apply, mul_comm (weight _ _ _ _ _)]
  rfl

theorem mat_eq (i : S128x8x128x256.Idx) : (addf (mulf (broadcastInDim S128x8x128x256 ![0, 1, 2, 3] bcast_S128x8x1x1_S128x8x128x256_0_1_2_3 (broadcastInDim S128x8x1x1 ![0, 1] bcast_S128x8_S128x8x1x1_0_1 (res_main_v81 V0))) (res_main_v16 V0)) (Host.dotGeneral (φ₁ := .f32) (φ₂ := .f32) dot_S128x8x4x128_S128x8x4x256_S128x8x128x256_2_2_3_3_01_01 none (mulf (broadcastInDim S128x8x4x128 ![0, 1, 2, 3] bcast_S128x8x4x1_S128x8x4x128_0_1_2_3 (broadcastInDim S128x8x4x1 ![0, 1, 2] bcast_S128x8x4_S128x8x4x1_0_1_2 (res_main_v78 V0))) (res_main_v20 V0)) (res_main_v21 V0)) : S128x8x128x256.Idx → EReal) i =
    newC (aP V0) (aG V0) (aC V0) (aM V0) (i 0) (i 1) (i 2) (i 3) := by
  have hi : i = ix4 (i 0) (i 1) (i 2) (i 3) := funext fun a => match a with | 0 => rfl | 1 => rfl | 2 => rfl | 3 => rfl
  exact (congrArg _ hi).trans (mat_at V0 (i 0) (i 1) (i 2) (i 3))

theorem vec_at : (shapeCast _ (addf (mulf (broadcastInDim S128x8x128 ![0, 1, 2] bcast_S128x8x1_S128x8x128_0_1_2 (broadcastInDim S128x8x1 ![0, 1] bcast_S128x8_S128x8x1_0_1 (res_main_v81 V0))) (res_main_v17 V0)) (Host.dotGeneral (φ₁ := .f32) (φ₂ := .f32) dot_S128x8x4_S128x8x4x128_S128x8x128_2_2_n_3_01_01 none (res_main_v78 V0) (res_main_v20 V0))) shapeCasts_S128x8x128_S128x8x1x128 : S128x8x1x128.Idx → EReal) (ix4 b h 0 d) =
    newN (aP V0) (aG V0) (aN V0) (aM V0) b h d := by
  pointwise
  simp only [decay_apply, vector_apply, weight_apply, k_apply, mul_comm (weight _ _ _ _ _)]
  rfl

theorem vec_eq (i : S128x8x1x128.Idx) : (shapeCast _ (addf (mulf (broadcastInDim S128x8x128 ![0, 1, 2] bcast_S128x8x1_S128x8x128_0_1_2 (broadcastInDim S128x8x1 ![0, 1] bcast_S128x8_S128x8x1_0_1 (res_main_v81 V0))) (res_main_v17 V0)) (Host.dotGeneral (φ₁ := .f32) (φ₂ := .f32) dot_S128x8x4_S128x8x4x128_S128x8x128_2_2_n_3_01_01 none (res_main_v78 V0) (res_main_v20 V0))) shapeCasts_S128x8x128_S128x8x1x128 : S128x8x1x128.Idx → EReal) i =
    newN (aP V0) (aG V0) (aN V0) (aM V0) (i 0) (i 1) (i 3) := by
  have hi : i = ix4 (i 0) (i 1) 0 (i 3) :=
    funext fun a => match a with | 0 => rfl | 1 => rfl | 2 => Subsingleton.elim (α := Fin 1) _ _ | 3 => rfl
  exact (congrArg _ hi).trans (vec_at V0 (i 0) (i 1) (i 3))

theorem level_at : (broadcastInDim S128x8x1x128 ![0, 1, 2, 3] bcast_S128x8x1x1_S128x8x1x128_0_1_2_3 (broadcastInDim S128x8x1x1 ![0, 1] bcast_S128x8_S128x8x1x1_0_1 (res_main_v74 V0)) : S128x8x1x128.Idx → EReal) (ix4 b h 0 d) =
    newM (aG V0) (aM V0) b h := by
  pointwise
  exact levelNew_apply ..

theorem level_eq (i : S128x8x1x128.Idx) : (broadcastInDim S128x8x1x128 ![0, 1, 2, 3] bcast_S128x8x1x1_S128x8x1x128_0_1_2_3 (broadcastInDim S128x8x1x1 ![0, 1] bcast_S128x8_S128x8x1x1_0_1 (res_main_v74 V0)) : S128x8x1x128.Idx → EReal) i =
    newM (aG V0) (aM V0) (i 0) (i 1) := by
  have hi : i = ix4 (i 0) (i 1) 0 (i 3) :=
    funext fun a => match a with | 0 => rfl | 1 => rfl | 2 => Subsingleton.elim (α := Fin 1) _ _ | 3 => rfl
  exact (congrArg _ hi).trans (level_at V0 (i 0) (i 1) (i 3))

theorem out_at (l : Fin 2048) : (truncf .bf16 (pad S128x8x2048 ![0, 0, 0] ![0, 4, 0] ![0, 0, 0] (shapeCast _ (mulf (mulf (subf (res_main_v103 V0) (broadcastInDim S128x4x8x256 ![0, 1, 2, 3] bcast_S128x4x8x1_S128x4x8x256_0_1_2_3 (res_main_v107 V0))) (broadcastInDim S128x4x8x256 ![0, 1, 2, 3] bcast_S128x4x8x1_S128x4x8x256_0_1_2_3 (Host.rsqrt (addf (Host.divf (broadcastInDim S128x4x8x1 ![0, 1, 2] bcast_S128x4x8_S128x4x8x1_0_1_2 (Host.reduceAdd (mulf (res_main_v109 V0) (res_main_v109 V0)) (constant S_ .f32 0x00000000#32) reducesTo_S128x4x8x256_S128x4x8_d3 h_S_)) (broadcastInDim S128x4x8x1 ![] bcast_S_S128x4x8x1 (constant S_ .f32 0x43800000#32))) (broadcastInDim S128x4x8x1 ![] bcast_S_S128x4x8x1 (constant S_ .f32 0x3727C5AC#32)))))) (broadcastInDim S128x4x8x256 ![0, 1, 2, 3] bcast_S1x1x8x256_S128x4x8x256_0_1_2_3 (broadcastInDim S1x1x8x256 ![2, 3] bcast_S8x256_S1x1x8x256_2_3 (shapeCast _ (V0 (Proc.devRef .tc main_arg5)) shapeCasts_S1x8x256_S8x256)))) shapeCasts_S128x4x8x256_S128x4x2048) (sitofp .f32 (constantI S_ 32 0#32)) pads_S128x4x2048_S128x8x2048_000_040_000 h_S_) bitsLt_bf16_f32 : S128x8x2048.Idx → EReal) (ix3 b (emb t) l) =
    out (aP V0) (aG V0) (aC V0) (aN V0) (aM V0) (aW V0) b ⟨l.val / 256, by omega⟩ t ⟨l.val % 256, by omega⟩ := by
  pointwise
  rw [dif_pos (show (emb t).val < 4 from t.isLt)]
  have hg : (fun j => (res_main_v103 V0 : S128x4x8x256.Idx → EReal) (ix4 b t ⟨l.val / 256, by omega⟩ j)) =
      gated (read (fS (aG V0) b ⟨l.val / 256, by omega⟩) (iS (aG V0) b ⟨l.val / 256, by omega⟩) (aM V0 b ⟨l.val / 256, by omega⟩)
        (qS (aP V0) b ⟨l.val / 256, by omega⟩) (kS (aP V0) b ⟨l.val / 256, by omega⟩) (vS (aP V0) b ⟨l.val / 256, by omega⟩)
        (aC V0 b ⟨l.val / 256, by omega⟩) (aN V0 b ⟨l.val / 256, by omega⟩) t) (oS (aP V0) b ⟨l.val / 256, by omega⟩ t) :=
    funext fun j => gated_apply V0 b _ t j
  have e : (⟨(emb t).val, t.isLt⟩ : Fin 4) = t := rfl
  rw [e]
  simp only [centred_apply, mean_apply, hg, gated_apply]
  rfl

theorem out_eq (i : S128x8x2048.Idx) (hs : (i 1).val < 4) : (truncf .bf16 (pad S128x8x2048 ![0, 0, 0] ![0, 4, 0] ![0, 0, 0] (shapeCast _ (mulf (mulf (subf (res_main_v103 V0) (broadcastInDim S128x4x8x256 ![0, 1, 2, 3] bcast_S128x4x8x1_S128x4x8x256_0_1_2_3 (res_main_v107 V0))) (broadcastInDim S128x4x8x256 ![0, 1, 2, 3] bcast_S128x4x8x1_S128x4x8x256_0_1_2_3 (Host.rsqrt (addf (Host.divf (broadcastInDim S128x4x8x1 ![0, 1, 2] bcast_S128x4x8_S128x4x8x1_0_1_2 (Host.reduceAdd (mulf (res_main_v109 V0) (res_main_v109 V0)) (constant S_ .f32 0x00000000#32) reducesTo_S128x4x8x256_S128x4x8_d3 h_S_)) (broadcastInDim S128x4x8x1 ![] bcast_S_S128x4x8x1 (constant S_ .f32 0x43800000#32))) (broadcastInDim S128x4x8x1 ![] bcast_S_S128x4x8x1 (constant S_ .f32 0x3727C5AC#32)))))) (broadcastInDim S128x4x8x256 ![0, 1, 2, 3] bcast_S1x1x8x256_S128x4x8x256_0_1_2_3 (broadcastInDim S1x1x8x256 ![2, 3] bcast_S8x256_S1x1x8x256_2_3 (shapeCast _ (V0 (Proc.devRef .tc main_arg5)) shapeCasts_S1x8x256_S8x256)))) shapeCasts_S128x4x8x256_S128x4x2048) (sitofp .f32 (constantI S_ 32 0#32)) pads_S128x4x2048_S128x8x2048_000_040_000 h_S_) bitsLt_bf16_f32 : S128x8x2048.Idx → EReal) i =
    out (aP V0) (aG V0) (aC V0) (aN V0) (aM V0) (aW V0) (i 0) ⟨(i 2).val / 256, by have := (i 2).isLt; change _ < 2048 at this; omega⟩ ⟨(i 1).val, hs⟩
      ⟨(i 2).val % 256, Nat.mod_lt _ (by decide)⟩ := by
  have hi : i = ix3 (i 0) (emb ⟨(i 1).val, hs⟩) (i 2) := funext fun a => match a with | 0 => rfl | 1 => rfl | 2 => rfl
  exact (congrArg _ hi).trans (out_at V0 (i 0) ⟨(i 1).val, hs⟩ (i 2))

end Cert.ReferenceIdeal.Sample
-- ==== Proof.Dense.lean ====
module

public import Idealize.ShloMosaic.Lib.Claim
public import Idealize.ShloMosaic.Lib.Pointwise

@[expose] public section

set_option maxRecDepth 65536

noncomputable section

/-! What the matrix products of the layer leave, entry by entry: the product and bias, the gate's activation in the two
forms the programs write it, and the normalisation that ends each half of the layer. -/

namespace MatMul

open Idealize.ShloMosaic

/-! ## The products -/

/-- An entry of a product: a row of `x` against a column of `w`. -/
def dot {n : Nat} (x : Fin n → EReal) (w : Fin n → EReal) : EReal := ∑ k, x k * w k

/-- An entry of a product with a bias. -/
def affine {a n b : Nat} (x : Fin a → Fin n → EReal) (w : Fin n → Fin b → EReal) (c : Fin b → EReal) (i : Fin a) (j : Fin b) : EReal :=
  dot (x i) (fun k => w k j) + c j

/-! ## The activation -/

/-- The hyperbolic-tangent form of the activation, with the scale `c1` and the cubic weight `c2`. -/
def gelu (c1 c2 x : EReal) : EReal := x * (((1 / 2 : ℝ) : EReal) * (1 + Ideal.tanh (c1 * (x + c2 * (x * x * x)))))

/-- The same activation with the tangent written by a power of two. -/
def geluPow (k0 k1 x : EReal) : EReal := Ideal.div x (1 + Ideal.exp2 (x * (x * x * k1 + k0)))

theorem bits_one : Ideal.ofBits .f32 0x3F800000#32 = 1 := by
  unfold Ideal.ofBits Ideal.ieee
  norm_num [Nat.shiftRight_eq_div_pow]
  decide

theorem bits_half : Ideal.ofBits .f32 0x3F000000#32 = ((1 / 2 : ℝ) : EReal) := by
  unfold Ideal.ofBits Ideal.ieee
  norm_num [Nat.shiftRight_eq_div_pow]
  decide

theorem bits_scale : Ideal.ofBits .f32 0x3F4C422A#32 = ((6693141 / 8388608 : ℝ) : EReal) := by
  unfold Ideal.ofBits Ideal.ieee
  norm_num [Nat.shiftRight_eq_div_pow]
  decide

theorem bits_cubic : Ideal.ofBits .f32 0x3D372713#32 = ((12003091 / 268435456 : ℝ) : EReal) := by
  unfold Ideal.ofBits Ideal.ieee
  norm_num [Nat.shiftRight_eq_div_pow]
  decide

/-- Half of one plus the hyperbolic tangent is the logistic function of twice the argument. -/
theorem half_one_add_tanh (t : ℝ) : 1 / 2 * (1 + Real.tanh t) = (1 + Real.exp (-(2 * t)))⁻¹ := by
  have h : Real.exp (-(2 * t)) = Real.exp (-t) * Real.exp (-t) := by rw [← Real.exp_add]; ring_nf
  have h1 : Real.exp t * Real.exp (-t) = 1 := by rw [← Real.exp_add]; simp
  have hp := Real.exp_pos t
  have hn := Real.exp_pos (-t)
  rw [Real.tanh_eq_sinh_div_cosh, Real.sinh_eq, Real.cosh_eq, h]
  field_simp
  nlinarith

theorem div_coe (a b : ℝ) (hb : b ≠ 0) : Ideal.div (a : EReal) b = ((a * b⁻¹ : ℝ) : EReal) := by
  unfold Ideal.div
  rw [if_neg (fun h => hb (EReal.coe_injective (h.trans EReal.coe_zero.symm))), ← EReal.coe_inv, ← EReal.coe_mul]

/-- The two forms of the activation agree at every extended real, if the constants of the power form are those of the
tangent form over the logarithm of two. -/
theorem gelu_eq_geluPow (c1 c2 : ℝ) (h1 : 0 < c1) (h2 : 0 < c2) (x : EReal) :
    gelu c1 c2 x = geluPow ((-((2 * c1) * (Real.log 2)⁻¹) : ℝ) : EReal) ((c2 * (-((2 * c1) * (Real.log 2)⁻¹)) : ℝ) : EReal) x := by
  have hl : 0 < Real.log 2 := Real.log_pos (by norm_num)
  have hk : c2 * (-((2 * c1) * (Real.log 2)⁻¹)) < 0 := by
    have : 0 < 2 * c1 * (Real.log 2)⁻¹ := by positivity
    nlinarith
  unfold gelu geluPow
  induction x with
  | bot =>
    simp only [EReal.bot_mul_bot, EReal.top_mul_coe_of_neg hk, EReal.bot_add, Ideal.exp2_top, EReal.top_mul_bot,
      EReal.coe_mul_bot_of_pos h2, EReal.coe_mul_bot_of_pos h1]
    have : Ideal.tanh ⊥ = -1 := rfl
    rw [this]
    have : (1 : EReal) + -1 = 0 := by
      rw [← EReal.coe_one, ← EReal.coe_neg, ← EReal.coe_add]
      norm_num
    rw [this]
    have h : (1 : EReal) + ⊤ = ⊤ := by simpa using EReal.coe_add_top 1
    rw [h]
    unfold Ideal.div
    simp
  | top =>
    simp only [EReal.top_mul_top, EReal.top_mul_coe_of_neg hk, EReal.bot_add, EReal.top_mul_bot, Ideal.exp2_bot,
      EReal.coe_mul_top_of_pos h2, EReal.top_add_top, EReal.coe_mul_top_of_pos h1]
    have : Ideal.tanh ⊤ = ((1 : ℝ) : EReal) := rfl
    rw [this, ← EReal.coe_one, ← EReal.coe_add, ← EReal.coe_mul]
    norm_num
    unfold Ideal.div
    simp
  | coe r =>
    have hp : (0 : ℝ) < 1 + Real.rpow 2 (r * (r * r * (c2 * (-((2 * c1) * (Real.log 2)⁻¹))) + -((2 * c1) * (Real.log 2)⁻¹))) := by
      have : (0 : ℝ) < Real.rpow 2 (r * (r * r * (c2 * (-((2 * c1) * (Real.log 2)⁻¹))) + -((2 * c1) * (Real.log 2)⁻¹))) :=
        Real.rpow_pos_of_pos (by norm_num) _
      linarith
    have ht : ∀ y : ℝ, Ideal.tanh (y : EReal) = ((Real.tanh y : ℝ) : EReal) := fun _ => rfl
    simp only [← EReal.coe_mul, ← EReal.coe_add, Ideal.exp2_coe, ht, ← EReal.coe_one]
    rw [div_coe _ _ hp.ne']
    refine congrArg (fun y : ℝ => (y : EReal)) ?_
    rw [half_one_add_tanh]
    refine congrArg (fun y => r * (1 + y)⁻¹) ?_
    refine Eq.trans ?_ (Real.rpow_def_of_pos (by norm_num) _).symm
    refine congrArg Real.exp ?_
    field_simp
    ring

/-! ## The normalisation -/

/-- The mean of a row, as a quotient by the program's own constant. -/
def mean {n : Nat} (d : EReal) (y : Fin n → EReal) : EReal := Ideal.div (∑ k, y k) d

/-- A row normalised to mean zero and unit variance, scaled and shifted. -/
def normRow {n : Nat} (d e : EReal) (y g b : Fin n → EReal) (j : Fin n) : EReal :=
  (y j - mean d y) * Ideal.rsqrt (mean d (fun k => (y k - mean d y) * (y k - mean d y)) + e) * g j + b j

/-- An entry of a half's result: the residual, scaled, and the product, row by row normalised. -/
def post {a n b : Nat} (x : Fin a → Fin b → EReal) (y : Fin a → Fin n → EReal) (w : Fin n → Fin b → EReal) (g h : Fin b → EReal) (i : Fin a)
    (j : Fin b) : EReal :=
  normRow (Ideal.ofBits .f32 0x45000000#32) (Ideal.ofBits .f32 0x3727C5AC#32)
    (fun l => Ideal.ofBits .f32 0x3FB504F3#32 * x i l + dot (y i) (fun k => w k l)) g h j

/-- Only its own row of the residual and of the left factor enters an entry. -/
theorem post_congr {a a' n b : Nat} {x : Fin a → Fin b → EReal} {x' : Fin a' → Fin b → EReal} {y : Fin a → Fin n → EReal} {y' : Fin a' → Fin n → EReal}
    (w : Fin n → Fin b → EReal) (g h : Fin b → EReal) {i : Fin a} {i' : Fin a'} (hx : x i = x' i') (hy : y i = y' i') (j : Fin b) :
    post x y w g h i j = post x' y' w g h i' j := by
  unfold post
  rw [hx, hy]

end MatMul
-- ==== Proof.GateU.lean ====
module

public import proofs.«01_k».proof.Defs
public import proofs.«01_k».proof.Proof.Gen.Kernel2Ideal.Value
public import proofs.«01_k».proof.Proof.Gen.Reference2Ideal.Run
public import proofs.«01_k».proof.Proof.Dense
public import Idealize.ShloMosaic.Lib.Claim
public import Idealize.ShloMosaic.Lib.Pipeline.ValueKit

@[expose] public section

set_option maxRecDepth 65536

noncomputable section

/-! The kernel that projects into the gate's first half: each grid point multiplies 512 rows by 1024 columns, adds the bias
and applies the activation. -/

namespace Cert.Kernel2Ideal.Tiles

open Cert.Kernel2Ideal Cert.Kernel2Ideal.Gen Idealize.ShloMosaic Idealize.ShloMosaic.TcCoe Idealize.SL.Sem MatMul

/-! ## One block -/

theorem block_apply (x0 : Vec Ideal S512x2048 .bf16) (x1 : Vec Ideal S2048x1024 .bf16) (x2 : Vec Ideal S1x1024 .f32) (r : Fin 512)
    (l : Fin 1024) : (out0_3 x0 x1 x2 (ix2 r l) : EReal) =
      geluPow (Named.named (F := Ideal) (φ := .f32) κ "k0" 0xC0135761#32) (Named.named (F := Ideal) (φ := .f32) κ "k1" 0xBDD2D3E8#32)
        (dot (fun k => x0 (ix2 r k)) (fun k => x1 (ix2 k l)) + x2 (ix2 0 l)) := by
  frame_out
  pointwise [k0_pay1]
  rfl

variable (m : (ℓ : Loc nD τ sig) → Buf (Elt Ideal) ℓ) (c : Dev nD)

/-! ## The arguments and the arrays the grid reads -/

def aX (r : Fin 8704) (k : Fin 2048) : EReal := (m (c, Proc.tc.devRef main_arg0) : S8704x2048.Idx → EReal) (ix2 r k)
def aW (k : Fin 2048) (l : Fin 12288) : EReal := (m (c, Proc.tc.devRef main_arg1) : S1x2048x12288.Idx → EReal) (ix3 0 k l)
def aB (l : Fin 12288) : EReal := (m (c, Proc.tc.devRef main_arg2) : S1x12288.Idx → EReal) (ix2 0 l)

theorem V_x (r : Fin 8704) (k : Fin 2048) : (V m c main_v0 : S8704x2048.Idx → EReal) (ix2 r k) = aX m c r k := by
  refine Eq.trans (congrFun (?h : V m c main_v0 = ?X) _) ?_
  case h =>
    unfold V
    after_results
  pointwise [StableHlo.TRef.toBuf, StableHlo.TRef.ofBuf, cast_eq]
  rfl

theorem V_w (k : Fin 2048) (l : Fin 12288) : (V m c main_v2 : S2048x12288.Idx → EReal) (ix2 k l) = aW m c k l := by
  refine Eq.trans (congrFun (?h : V m c main_v2 = ?X) _) ?_
  case h =>
    unfold V
    after_results
  pointwise [StableHlo.TRef.toBuf, StableHlo.TRef.ofBuf, cast_eq]
  rfl

theorem V_b (l : Fin 12288) : (V m c main_v4 : S1x12288.Idx → EReal) (ix2 0 l) = aB m c l := by
  refine Eq.trans (congrFun (?h : V m c main_v4 = ?X) _) ?_
  case h =>
    unfold V
    after_results
  pointwise [StableHlo.TRef.toBuf, StableHlo.TRef.ofBuf, cast_eq]
  rfl

/-! ## The blocks of point `t` -/

theorem N_eq : cfg0.N = 102 := by decide +kernel

theorem idx : ∀ t : Fin cfg0.N, win0_0.index t = ![t.val % 17, 0] ∧ win0_1.index t = ![0, t.val / 17] ∧
    win0_2.index t = ![0, t.val / 17] ∧ win0_3.index t = ![t.val % 17, t.val / 17] :=
  (by decide +kernel : ∀ t : Fin grid0.N, _)

variable (t : Fin cfg0.N)

theorem t_lt : t.val < 102 := N_eq ▸ t.isLt

/-- The row and the column of the whole that point `t` keeps at its place `(r, l)`. -/
def rowAt (r : Fin 512) : Fin 8704 := ⟨t.val % 17 * 512 + r.val, by omega⟩
def colAt (l : Fin 1024) : Fin 12288 := ⟨t.val / 17 * 1024 + l.val, by have := t_lt t; omega⟩

theorem blk_x (r : Fin 512) (k : Fin 2048) : (iblk m c 0 t : S512x2048.Idx → EReal) (ix2 r k) =
    (V m c main_v0 : S8704x2048.Idx → EReal) (ix2 (rowAt t r) k) := by
  blk_ext [iblk, idx t, rowAt]

theorem blk_w (k : Fin 2048) (l : Fin 1024) : (iblk m c 1 t : S2048x1024.Idx → EReal) (ix2 k l) =
    (V m c main_v2 : S2048x12288.Idx → EReal) (ix2 k (colAt t l)) := by
  blk_ext [iblk, idx t, colAt]

theorem blk_b (l : Fin 1024) : (iblk m c 2 t : S1x1024.Idx → EReal) (ix2 0 l) =
    (V m c main_v4 : S1x12288.Idx → EReal) (ix2 0 (colAt t l)) := by
  blk_ext [iblk, idx t, colAt]

/-! ## The array after the run -/

theorem block_val (r : Fin 512) (l : Fin 1024) : (out0_3 (iblk m c 0 t) (iblk m c 1 t) (iblk m c 2 t) (ix2 r l) : EReal) =
    gelu ((6693141 / 8388608 : ℝ) : EReal) ((12003091 / 268435456 : ℝ) : EReal) (affine (aX m c) (aW m c) (aB m c) (rowAt t r) (colAt t l)) := by
  rw [block_apply, blk_b, V_b, gelu_eq_geluPow _ _ (by norm_num) (by norm_num)]
  refine congrArg (fun z => geluPow _ _ (z + _)) (Finset.sum_congr rfl fun k _ => ?_)
  dsimp only
  rw [blk_x, blk_w, V_x, V_w]

/-- The column of the whole product that a column of the result is. -/
def col (l : Fin 6144) : Fin 12288 := ⟨l.val, by omega⟩

def val (i : S8704x6144.Idx) : EReal :=
  gelu ((6693141 / 8388608 : ℝ) : EReal) ((12003091 / 268435456 : ℝ) : EReal) (affine (aX m c) (aW m c) (aB m c) (i 0) (col (i 1)))

theorem arr (i : S8704x6144.Idx) : ((dats m 0 c).arrAt 3 cfg0.N : S8704x6144.Idx → EReal) i = val m c i := by
  refine (dats m 0 c).arrAt_forall_of_covers 3 (fun i v => (v : EReal) = val m c i) (by decide +kernel) (fun t hf y => ?_) i
  have h0 : (win0_3.blk t).view.emb y 0 = rowAt t (y 0) := by apply Fin.ext; blk_simp [idx t, rowAt]
  have h1 : col ((win0_3.blk t).view.emb y 1) = colAt t (y 1) := by
    apply Fin.ext; show ((win0_3.blk t).view.emb y 1).val = _; blk_simp [idx t, colAt]
  have hy : y = ix2 (y 0) (y 1) := funext fun a => match a with | 0 => rfl | 1 => rfl
  blk_simp
  unfold val
  rw [h0, h1, after0_3]
  exact (congrArg _ hy).trans (block_val m c t (y 0) (y 1))

end Cert.Kernel2Ideal.Tiles

namespace Cert.Reference2Ideal.Tiles

open Cert.Reference2Ideal Cert.Reference2Ideal.Gen Idealize.ShloMosaic Idealize.ShloMosaic.TcCoe Idealize.SL.Sem MatMul

variable (m : (ℓ : Loc nD τ sig) → Buf (Elt Ideal) ℓ) (c : Dev nD)

def aX (r : Fin 8704) (k : Fin 2048) : EReal := (m ((c.tc : Thread nD τ).loc main_arg0) : S8704x2048.Idx → EReal) (ix2 r k)
def aW (k : Fin 2048) (l : Fin 12288) : EReal := (m ((c.tc : Thread nD τ).loc main_arg1) : S1x2048x12288.Idx → EReal) (ix3 0 k l)
def aB (l : Fin 12288) : EReal := (m ((c.tc : Thread nD τ).loc main_arg2) : S1x12288.Idx → EReal) (ix2 0 l)

/-- The activation as the reference writes it. -/
def act (z : FVec Ideal S8704x12288 .f32) : FVec Ideal S8704x12288 .f32 :=
  mulf z (mulf (broadcastInDim S8704x12288 ![] bcast_S_S8704x12288 (constant S_ .f32 0x3F000000#32))
    (addf (broadcastInDim S8704x12288 ![] bcast_S_S8704x12288 (constant S_ .f32 0x3F800000#32))
      (Host.tanh (mulf (broadcastInDim S8704x12288 ![] bcast_S_S8704x12288 (constant S_ .f32 0x3F4C422A#32))
        (addf z (mulf (broadcastInDim S8704x12288 ![] bcast_S_S8704x12288 (constant S_ .f32 0x3D372713#32)) (mulf (mulf z z) z)))))))

theorem act_apply (z : FVec Ideal S8704x12288 .f32) (a : Fin 8704) (l : Fin 12288) : (act z (ix2 a l) : EReal) =
    gelu ((6693141 / 8388608 : ℝ) : EReal) ((12003091 / 268435456 : ℝ) : EReal) (z (ix2 a l)) := by
  pointwise [act]
  rw [← bits_scale, ← bits_cubic]
  unfold gelu
  rw [← bits_half]

theorem pre_apply (x : FVec Ideal S8704x2048 .f32) (w : FVec Ideal S1x2048x12288 .f32) (b : FVec Ideal S1x12288 .f32) (a : Fin 8704) (l : Fin 12288) :
    ((addf (Host.dotGeneral (φ₁ := .f32) (φ₂ := .f32) dot_S8704x2048_S2048x12288_S8704x12288_1_0_0_1_n_n none x (shapeCast _ w shapeCasts_S1x2048x12288_S2048x12288))
      (broadcastInDim S8704x12288 ![0, 1] bcast_S1x12288_S8704x12288_0_1 (broadcastInDim S1x12288 ![1] bcast_S12288_S1x12288_1
        (shapeCast _ b shapeCasts_S1x12288_S12288))) : FVec Ideal S8704x12288 .f32) (ix2 a l) : EReal) =
    affine (fun r k => x (ix2 r k)) (fun k l => w (ix3 0 k l)) (fun l => b (ix2 0 l)) a l := by
  pointwise
  rfl

theorem out_apply (z : FVec Ideal S8704x12288 .f32) (a : Fin 8704) (l : Fin 6144) :
    ((truncf .bf16 (extractStridedSlice S8704x6144 ![0, 0] (act z) slices_S8704x12288_S8704x6144_0_0) bitsLt_bf16_f32 : FVec Ideal S8704x6144 .bf16) (ix2 a l) : EReal) =
      act z (ix2 a (Cert.Kernel2Ideal.Tiles.col l)) := by
  pointwise
  rfl

/-- What the reference leaves, entry by entry. -/
theorem run_val (ρ : Dev nD → PrngReg) : θ_run defs (onTc (τ := τ) (main (F := Ideal))) ⟨m, fun _ => 0, ρ⟩ fun r => ∀ c : Dev nD,
    (∀ (a : Fin 8704) (l : Fin 6144), (r.2.mem ((c.tc : Thread nD τ).loc main_v20) : S8704x6144.Idx → EReal) (ix2 a l) =
      gelu ((6693141 / 8388608 : ℝ) : EReal) ((12003091 / 268435456 : ℝ) : EReal)
        (affine (aX m c) (aW m c) (aB m c) a (Cert.Kernel2Ideal.Tiles.col l)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run _ _ _).mono (fun r h c => ⟨fun a l => ?_, (h c).2⟩) (Cert.Reference2Ideal.Value.run m ρ)
  refine (congrFun (h c).1 _).trans ?_
  refine (out_apply _ a l).trans ((act_apply _ a _).trans ?_)
  exact congrArg _ (pre_apply _ _ _ a _)

end Cert.Reference2Ideal.Tiles

namespace Cert.Kernel2Ideal.Tiles

open Cert.Kernel2Ideal Idealize.ShloMosaic Idealize.ShloMosaic.TcCoe Idealize.SL.Sem MatMul

theorem frame_reference : Cert.quiescent_Reference2Ideal (hReference2Ideal := Cert.Reference2Ideal.Gen.facts) :=
  fun m ρ _ => (θ_run _ _ _).mono (fun r h => ⟨fun c => (h c).2, sem_eq_zero_of_no_sems (by decide) r.2⟩)
    (Cert.Reference2Ideal.Value.run m ρ)

theorem preserves : Cert.preserves_Kernel2_Kernel2Ideal :=
  ⟨IdealRules.named_const.statement Cert.Kernel2Ideal.κ "k1" .f32 0xBDD2D3E8#32 _ rfl,
    IdealRules.named_const.statement Cert.Kernel2Ideal.κ "k0" .f32 0xC0135761#32 _ rfl⟩

/-- Both programs leave the activation of the product and bias. -/
theorem algebraic : Cert.algebraic_Kernel2Ideal_Reference2Ideal (hKernel2Ideal := Cert.Kernel2Ideal.Gen.facts)
    (hReference2Ideal := Cert.Reference2Ideal.Gen.facts) := by
  intro m g m' g' _ hin
  refine ⟨val m, ?_, ?_⟩
  · refine (θ_run _ _ _).mono (fun r h c => ?_) (Cert.Kernel2Ideal.Value.run_blocks m g)
    exact ⟨(h c).1.trans (funext (arr m c)), (h c).2⟩
  · refine (θ_run _ _ _).mono (fun r h c => ?_) (Cert.Reference2Ideal.Tiles.run_val m' g')
    obtain ⟨e0, e1, e2⟩ := hin c
    refine ⟨funext fun i => ?_, (h c).2⟩
    have hi : i = ix2 (i 0) (i 1) := funext fun a => match a with | 0 => rfl | 1 => rfl
    refine (congrArg _ hi).trans (((h c).1 (i 0) (i 1)).trans ?_)
    have eX : Cert.Reference2Ideal.Tiles.aX m' c = aX m c := funext fun a => funext fun b => congrFun e0 _
    have eW : Cert.Reference2Ideal.Tiles.aW m' c = aW m c := funext fun a => funext fun b => congrFun e1 _
    have eB : Cert.Reference2Ideal.Tiles.aB m' c = aB m c := funext fun a => congrFun e2 _
    rw [eX, eW, eB]
    rfl

end Cert.Kernel2Ideal.Tiles
-- ==== Proof.GateV.lean ====
module

public import proofs.«01_k».proof.Defs
public import proofs.«01_k».proof.Proof.Gen.Kernel6Ideal.Value
public import proofs.«01_k».proof.Proof.Gen.Reference6Ideal.Run
public import proofs.«01_k».proof.Proof.GateU
public import Idealize.ShloMosaic.Lib.Claim
public import Idealize.ShloMosaic.Lib.Pipeline.ValueKit

@[expose] public section

set_option maxRecDepth 65536

noncomputable section

/-! The kernel that projects into the gate's second half: each grid point multiplies 512 rows by 1024 columns, adds the bias
and applies the activation. -/

namespace Cert.Kernel6Ideal.Tiles

open Cert.Kernel6Ideal Cert.Kernel6Ideal.Gen Idealize.ShloMosaic Idealize.ShloMosaic.TcCoe Idealize.SL.Sem MatMul

/-! ## One block -/

theorem block_apply (x0 : Vec Ideal S512x2048 .bf16) (x1 : Vec Ideal S2048x1024 .bf16) (x2 : Vec Ideal S1x1024 .f32) (r : Fin 512)
    (l : Fin 1024) : (out0_3 x0 x1 x2 (ix2 r l) : EReal) =
      geluPow (Named.named (F := Ideal) (φ := .f32) κ "k0" 0xC0135761#32) (Named.named (F := Ideal) (φ := .f32) κ "k1" 0xBDD2D3E8#32)
        (dot (fun k => x0 (ix2 r k)) (fun k => x1 (ix2 k l)) + x2 (ix2 0 l)) := by
  exact Cert.Kernel2Ideal.Tiles.block_apply x0 x1 x2 r l

variable (m : (ℓ : Loc nD τ sig) → Buf (Elt Ideal) ℓ) (c : Dev nD)

/-! ## The arguments and the arrays the grid reads -/

def aX (r : Fin 8704) (k : Fin 2048) : EReal := (m (c, Proc.tc.devRef main_arg0) : S8704x2048.Idx → EReal) (ix2 r k)
def aW (k : Fin 2048) (l : Fin 12288) : EReal := (m (c, Proc.tc.devRef main_arg1) : S1x2048x12288.Idx → EReal) (ix3 0 k l)
def aB (l : Fin 12288) : EReal := (m (c, Proc.tc.devRef main_arg2) : S1x12288.Idx → EReal) (ix2 0 l)

theorem V_x (r : Fin 8704) (k : Fin 2048) : (V m c main_v0 : S8704x2048.Idx → EReal) (ix2 r k) = aX m c r k := by
  refine Eq.trans (congrFun (?h : V m c main_v0 = ?X) _) ?_
  case h =>
    unfold V
    after_results
  pointwise [StableHlo.TRef.toBuf, StableHlo.TRef.ofBuf, cast_eq]
  rfl

theorem V_w (k : Fin 2048) (l : Fin 12288) : (V m c main_v2 : S2048x12288.Idx → EReal) (ix2 k l) = aW m c k l := by
  refine Eq.trans (congrFun (?h : V m c main_v2 = ?X) _) ?_
  case h =>
    unfold V
    after_results
  pointwise [StableHlo.TRef.toBuf, StableHlo.TRef.ofBuf, cast_eq]
  rfl

theorem V_b (l : Fin 12288) : (V m c main_v4 : S1x12288.Idx → EReal) (ix2 0 l) = aB m c l := by
  refine Eq.trans (congrFun (?h : V m c main_v4 = ?X) _) ?_
  case h =>
    unfold V
    after_results
  pointwise [StableHlo.TRef.toBuf, StableHlo.TRef.ofBuf, cast_eq]
  rfl

/-! ## The blocks of point `t` -/

theorem N_eq : cfg0.N = 102 := by decide +kernel

theorem idx : ∀ t : Fin cfg0.N, win0_0.index t = ![t.val % 17, 0] ∧ win0_1.index t = ![0, 6 + t.val / 17] ∧
    win0_2.index t = ![0, 6 + t.val / 17] ∧ win0_3.index t = ![t.val % 17, t.val / 17] :=
  (by decide +kernel : ∀ t : Fin grid0.N, _)

variable (t : Fin cfg0.N)

theorem t_lt : t.val < 102 := N_eq ▸ t.isLt

/-- The row and the column of the whole that point `t` keeps at its place `(r, l)`. -/
def rowAt (r : Fin 512) : Fin 8704 := ⟨t.val % 17 * 512 + r.val, by omega⟩
def colAt (l : Fin 1024) : Fin 12288 := ⟨(6 + t.val / 17) * 1024 + l.val, by have := t_lt t; omega⟩

theorem blk_x (r : Fin 512) (k : Fin 2048) : (iblk m c 0 t : S512x2048.Idx → EReal) (ix2 r k) =
    (V m c main_v0 : S8704x2048.Idx → EReal) (ix2 (rowAt t r) k) := by
  blk_ext [iblk, idx t, rowAt]

theorem blk_w (k : Fin 2048) (l : Fin 1024) : (iblk m c 1 t : S2048x1024.Idx → EReal) (ix2 k l) =
    (V m c main_v2 : S2048x12288.Idx → EReal) (ix2 k (colAt t l)) := by
  blk_ext [iblk, idx t, colAt]

theorem blk_b (l : Fin 1024) : (iblk m c 2 t : S1x1024.Idx → EReal) (ix2 0 l) =
    (V m c main_v4 : S1x12288.Idx → EReal) (ix2 0 (colAt t l)) := by
  blk_ext [iblk, idx t, colAt]

/-! ## The array after the run -/

theorem block_val (r : Fin 512) (l : Fin 1024) : (out0_3 (iblk m c 0 t) (iblk m c 1 t) (iblk m c 2 t) (ix2 r l) : EReal) =
    gelu ((6693141 / 8388608 : ℝ) : EReal) ((12003091 / 268435456 : ℝ) : EReal) (affine (aX m c) (aW m c) (aB m c) (rowAt t r) (colAt t l)) := by
  rw [block_apply, blk_b, V_b, gelu_eq_geluPow _ _ (by norm_num) (by norm_num)]
  refine congrArg (fun z => geluPow _ _ (z + _)) (Finset.sum_congr rfl fun k _ => ?_)
  dsimp only
  rw [blk_x, blk_w, V_x, V_w]

/-- The column of the whole product that a column of the result is. -/
def col (l : Fin 6144) : Fin 12288 := ⟨6144 + l.val, by omega⟩

def val (i : S8704x6144.Idx) : EReal :=
  gelu ((6693141 / 8388608 : ℝ) : EReal) ((12003091 / 268435456 : ℝ) : EReal) (affine (aX m c) (aW m c) (aB m c) (i 0) (col (i 1)))

theorem arr (i : S8704x6144.Idx) : ((dats m 0 c).arrAt 3 cfg0.N : S8704x6144.Idx → EReal) i = val m c i := by
  refine (dats m 0 c).arrAt_forall_of_covers 3 (fun i v => (v : EReal) = val m c i) (by decide +kernel) (fun t hf y => ?_) i
  have h0 : (win0_3.blk t).view.emb y 0 = rowAt t (y 0) := by apply Fin.ext; blk_simp [idx t, rowAt]
  have h1 : col ((win0_3.blk t).view.emb y 1) = colAt t (y 1) := by
    apply Fin.ext; change 6144 + ((win0_3.blk t).view.emb y 1).val = (6 + t.val / 17) * 1024 + (y 1).val; blk_simp [idx t]; omega
  have hy : y = ix2 (y 0) (y 1) := funext fun a => match a with | 0 => rfl | 1 => rfl
  blk_simp
  unfold val
  rw [h0, h1, after0_3]
  exact (congrArg _ hy).trans (block_val m c t (y 0) (y 1))

end Cert.Kernel6Ideal.Tiles

namespace Cert.Reference6Ideal.Tiles

open Cert.Reference6Ideal Cert.Reference6Ideal.Gen Idealize.ShloMosaic Idealize.ShloMosaic.TcCoe Idealize.SL.Sem MatMul

variable (m : (ℓ : Loc nD τ sig) → Buf (Elt Ideal) ℓ) (c : Dev nD)

def aX (r : Fin 8704) (k : Fin 2048) : EReal := (m ((c.tc : Thread nD τ).loc main_arg0) : S8704x2048.Idx → EReal) (ix2 r k)
def aW (k : Fin 2048) (l : Fin 12288) : EReal := (m ((c.tc : Thread nD τ).loc main_arg1) : S1x2048x12288.Idx → EReal) (ix3 0 k l)
def aB (l : Fin 12288) : EReal := (m ((c.tc : Thread nD τ).loc main_arg2) : S1x12288.Idx → EReal) (ix2 0 l)

open Cert.Reference2Ideal.Tiles (act act_apply pre_apply)

theorem out_apply (z : FVec Ideal S8704x12288 .f32) (a : Fin 8704) (l : Fin 6144) :
    ((extractStridedSlice S8704x6144 ![0, 6144] (act z) slices_S8704x12288_S8704x6144_0_6144 : FVec Ideal S8704x6144 .f32) (ix2 a l) : EReal) =
      act z (ix2 a (Cert.Kernel6Ideal.Tiles.col l)) := by
  pointwise
  rfl

/-- What the reference leaves, entry by entry. -/
theorem run_val (ρ : Dev nD → PrngReg) : θ_run defs (onTc (τ := τ) (main (F := Ideal))) ⟨m, fun _ => 0, ρ⟩ fun r => ∀ c : Dev nD,
    (∀ (a : Fin 8704) (l : Fin 6144), (r.2.mem ((c.tc : Thread nD τ).loc main_v19) : S8704x6144.Idx → EReal) (ix2 a l) =
      gelu ((6693141 / 8388608 : ℝ) : EReal) ((12003091 / 268435456 : ℝ) : EReal)
        (affine (aX m c) (aW m c) (aB m c) a (Cert.Kernel6Ideal.Tiles.col l)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run _ _ _).mono (fun r h c => ⟨fun a l => ?_, (h c).2⟩) (Cert.Reference6Ideal.Value.run m ρ)
  refine (congrFun (h c).1 _).trans ?_
  refine (out_apply _ a l).trans ((act_apply _ a _).trans ?_)
  exact congrArg _ (pre_apply _ _ _ a _)

end Cert.Reference6Ideal.Tiles

namespace Cert.Kernel6Ideal.Tiles

open Cert.Kernel6Ideal Idealize.ShloMosaic Idealize.ShloMosaic.TcCoe Idealize.SL.Sem MatMul

theorem frame_reference : Cert.quiescent_Reference6Ideal (hReference6Ideal := Cert.Reference6Ideal.Gen.facts) :=
  fun m ρ _ => (θ_run _ _ _).mono (fun r h => ⟨fun c => (h c).2, sem_eq_zero_of_no_sems (by decide) r.2⟩)
    (Cert.Reference6Ideal.Value.run m ρ)

theorem preserves : Cert.preserves_Kernel6_Kernel6Ideal :=
  ⟨IdealRules.named_const.statement Cert.Kernel6Ideal.κ "k1" .f32 0xBDD2D3E8#32 _ rfl,
    IdealRules.named_const.statement Cert.Kernel6Ideal.κ "k0" .f32 0xC0135761#32 _ rfl⟩

/-- Both programs leave the activation of the product and bias. -/
theorem algebraic : Cert.algebraic_Kernel6Ideal_Reference6Ideal (hKernel6Ideal := Cert.Kernel6Ideal.Gen.facts)
    (hReference6Ideal := Cert.Reference6Ideal.Gen.facts) := by
  intro m g m' g' _ hin
  refine ⟨val m, ?_, ?_⟩
  · refine (θ_run _ _ _).mono (fun r h c => ?_) (Cert.Kernel6Ideal.Value.run_blocks m g)
    exact ⟨(h c).1.trans (funext (arr m c)), (h c).2⟩
  · refine (θ_run _ _ _).mono (fun r h c => ?_) (Cert.Reference6Ideal.Tiles.run_val m' g')
    obtain ⟨e0, e1, e2⟩ := hin c
    refine ⟨funext fun i => ?_, (h c).2⟩
    have hi : i = ix2 (i 0) (i 1) := funext fun a => match a with | 0 => rfl | 1 => rfl
    refine (congrArg _ hi).trans (((h c).1 (i 0) (i 1)).trans ?_)
    have eX : Cert.Reference6Ideal.Tiles.aX m' c = aX m c := funext fun a => funext fun b => congrFun e0 _
    have eW : Cert.Reference6Ideal.Tiles.aW m' c = aW m c := funext fun a => funext fun b => congrFun e1 _
    have eB : Cert.Reference6Ideal.Tiles.aB m' c = aB m c := funext fun a => congrFun e2 _
    rw [eX, eW, eB]
    rfl

end Cert.Kernel6Ideal.Tiles
-- ==== Proof.Proj.lean ====
module

public import proofs.«01_k».proof.Defs
public import proofs.«01_k».proof.Proof.Gen.Kernel3Ideal.Value
public import proofs.«01_k».proof.Proof.Gen.Reference3Ideal.Run
public import proofs.«01_k».proof.Proof.Dense
public import Idealize.ShloMosaic.Lib.Claim
public import Idealize.ShloMosaic.Lib.Pipeline.ValueKit

@[expose] public section

set_option maxRecDepth 65536

noncomputable section

/-! The kernel that projects into the recurrent layer: each grid point multiplies 512 rows by 1024 columns. -/

namespace Cert.Kernel3Ideal.Tiles

open Cert.Kernel3Ideal Cert.Kernel3Ideal.Gen Idealize.ShloMosaic Idealize.ShloMosaic.TcCoe Idealize.SL.Sem MatMul

/-! ## One block -/

variable (m : (ℓ : Loc nD τ sig) → Buf (Elt Ideal) ℓ) (c : Dev nD)

/-! ## The arguments and the arrays the grid reads -/

def aX (r : Fin 8704) (k : Fin 2048) : EReal := (m (c, Proc.tc.devRef main_arg0) : S8704x2048.Idx → EReal) (ix2 r k)
def aW (k : Fin 2048) (l : Fin 6160) : EReal := (m (c, Proc.tc.devRef main_arg1) : S1x2048x6160.Idx → EReal) (ix3 0 k l)

theorem V_x (r : Fin 8704) (k : Fin 2048) : (V m c main_v0 : S8704x2048.Idx → EReal) (ix2 r k) = aX m c r k := by
  refine Eq.trans (congrFun (?h : V m c main_v0 = ?X) _) ?_
  case h =>
    unfold V
    after_results
  pointwise [StableHlo.TRef.toBuf, StableHlo.TRef.ofBuf, cast_eq]
  rfl

theorem V_w (k : Fin 2048) (l : Fin 6160) : (V m c main_v2 : S2048x6160.Idx → EReal) (ix2 k l) = aW m c k l := by
  refine Eq.trans (congrFun (?h : V m c main_v2 = ?X) _) ?_
  case h =>
    unfold V
    after_results
  pointwise [StableHlo.TRef.toBuf, StableHlo.TRef.ofBuf, cast_eq]
  rfl

theorem V_b (l : Fin 6160) : (V m c main_v4 : S1x6160.Idx → EReal) (ix2 0 l) = (0 : EReal) := by
  refine Eq.trans (congrFun (?h : V m c main_v4 = ?X) _) ?_
  case h =>
    unfold V
    after_results
  pointwise [StableHlo.TRef.toBuf, StableHlo.TRef.ofBuf, cast_eq]

/-! ## The blocks of point `t` -/

theorem N_eq : cfg0.N = 102 := by decide +kernel

theorem idx : ∀ t : Fin cfg0.N, win0_0.index t = ![t.val % 17, 0] ∧ win0_1.index t = ![0, t.val / 17] ∧
    win0_2.index t = ![0, t.val / 17] ∧ win0_3.index t = ![t.val % 17, t.val / 17] :=
  (by decide +kernel : ∀ t : Fin grid0.N, _)

variable (t : Fin cfg0.N)

theorem t_lt : t.val < 102 := N_eq ▸ t.isLt

/-- The row and the column of the whole that point `t` keeps at its place `(r, l)`. -/
def rowAt (r : Fin 512) : Fin 8704 := ⟨t.val % 17 * 512 + r.val, by omega⟩
def colAt (l : Fin 1024) : Fin 6160 := ⟨t.val / 17 * 1024 + l.val, by have := t_lt t; omega⟩

theorem blk_x (r : Fin 512) (k : Fin 2048) : (iblk m c 0 t : S512x2048.Idx → EReal) (ix2 r k) =
    (V m c main_v0 : S8704x2048.Idx → EReal) (ix2 (rowAt t r) k) := by
  blk_ext [iblk, idx t, rowAt]

theorem blk_w (k : Fin 2048) (l : Fin 1024) : (X0_1 m c t : S2048x1024.Idx → EReal) (ix2 k l) =
    (V m c main_v2 : S2048x6160.Idx → EReal) (ix2 k (colAt t l)) := by
  unfold X0_1 Pipeline.Window.fill
  rw [dif_pos (moved0_1 t _)]
  blk_ext [iblk, idx t, colAt]

theorem blk_b (l : Fin 1024) : (X0_2 m c t : S1x1024.Idx → EReal) (ix2 0 l) =
    (V m c main_v4 : S1x6160.Idx → EReal) (ix2 0 (colAt t l)) := by
  unfold X0_2 Pipeline.Window.fill
  rw [dif_pos (moved0_2 t _)]
  blk_ext [iblk, idx t, colAt]

/-! ## The array after the run -/

theorem block_val (r : Fin 512) (l : Fin 1024) : (outsAt0 m c t (ix2 r l) : EReal) =
    dot (aX m c (rowAt t r)) (fun k => aW m c k (colAt t l)) := by
  have h : (outsAt0 m c t (ix2 r l) : EReal) = dot (fun k => (iblk m c 0 t : S512x2048.Idx → EReal) (ix2 r k))
      (fun k => (X0_1 m c t : S2048x1024.Idx → EReal) (ix2 k l)) + (X0_2 m c t : S1x1024.Idx → EReal) (ix2 0 l) := by
    unfold outsAt0
    frame_out
    pointwise [k0_pay1]
    rfl
  rw [h, blk_b, V_b, add_zero]
  refine Finset.sum_congr rfl fun k _ => ?_
  dsimp only
  rw [blk_x, blk_w, V_x, V_w]

/-- The column of the whole product that a column of the result is. -/
def col (l : Fin 6144) : Fin 6160 := ⟨l.val, by omega⟩

def val (i : S8704x6144.Idx) : EReal :=
  dot (aX m c (i 0)) (fun k => aW m c k (col (i 1)))

theorem arr (i : S8704x6144.Idx) : ((dats m 0 c).arrAt 3 cfg0.N : S8704x6144.Idx → EReal) i = val m c i := by
  refine (dats m 0 c).arrAt_forall_of_covers 3 (fun i v => (v : EReal) = val m c i) (by decide +kernel) (fun t hf y => ?_) i
  have h0 : (win0_3.blk t).view.emb y 0 = rowAt t (y 0) := by apply Fin.ext; blk_simp [idx t, rowAt]
  have h1 : col ((win0_3.blk t).view.emb y 1) = colAt t (y 1) := by
    apply Fin.ext; show ((win0_3.blk t).view.emb y 1).val = _; blk_simp [idx t, colAt]
  have hy : y = ix2 (y 0) (y 1) := funext fun a => match a with | 0 => rfl | 1 => rfl
  blk_simp
  unfold val
  rw [h0, h1, after0_3]
  exact (congrArg _ hy).trans (block_val m c t (y 0) (y 1))

end Cert.Kernel3Ideal.Tiles

namespace Cert.Reference3Ideal.Tiles

open Cert.Reference3Ideal Cert.Reference3Ideal.Gen Idealize.ShloMosaic Idealize.ShloMosaic.TcCoe Idealize.SL.Sem MatMul

variable (m : (ℓ : Loc nD τ sig) → Buf (Elt Ideal) ℓ) (c : Dev nD)

def aX (r : Fin 8704) (k : Fin 2048) : EReal := (m ((c.tc : Thread nD τ).loc main_arg0) : S8704x2048.Idx → EReal) (ix2 r k)
def aW (k : Fin 2048) (l : Fin 6160) : EReal := (m ((c.tc : Thread nD τ).loc main_arg1) : S1x2048x6160.Idx → EReal) (ix3 0 k l)

theorem out_apply (x : FVec Ideal S8704x2048 .f32) (w : FVec Ideal S1x2048x6160 .f32) (a : Fin 8704) (l : Fin 6144) :
    ((extractStridedSlice S8704x6144 ![0, 0] (Host.dotGeneral (φ₁ := .f32) (φ₂ := .f32) dot_S8704x2048_S2048x6160_S8704x6160_1_0_0_1_n_n none x
      (shapeCast _ w shapeCasts_S1x2048x6160_S2048x6160)) slices_S8704x6160_S8704x6144_0_0 : FVec Ideal S8704x6144 .f32) (ix2 a l) : EReal) =
      dot (fun k => x (ix2 a k)) (fun k => w (ix3 0 k (Cert.Kernel3Ideal.Tiles.col l))) := by
  pointwise
  rfl

/-- What the reference leaves, entry by entry. -/
theorem run_val (ρ : Dev nD → PrngReg) : θ_run defs (onTc (τ := τ) (main (F := Ideal))) ⟨m, fun _ => 0, ρ⟩ fun r => ∀ c : Dev nD,
    (∀ (a : Fin 8704) (l : Fin 6144), (r.2.mem ((c.tc : Thread nD τ).loc main_v2) : S8704x6144.Idx → EReal) (ix2 a l) =
      dot (aX m c a) (fun k => aW m c k (Cert.Kernel3Ideal.Tiles.col l)))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run _ _ _).mono (fun r h c => ⟨fun a l => ?_, (h c).2⟩) (Cert.Reference3Ideal.Value.run m ρ)
  exact (congrFun (h c).1 _).trans (out_apply _ _ a l)

end Cert.Reference3Ideal.Tiles

namespace Cert.Kernel3Ideal.Tiles

open Cert.Kernel3Ideal Idealize.ShloMosaic Idealize.ShloMosaic.TcCoe Idealize.SL.Sem MatMul

theorem frame_reference : Cert.quiescent_Reference3Ideal (hReference3Ideal := Cert.Reference3Ideal.Gen.facts) :=
  fun m ρ _ => (θ_run _ _ _).mono (fun r h => ⟨fun c => (h c).2, sem_eq_zero_of_no_sems (by decide) r.2⟩)
    (Cert.Reference3Ideal.Value.run m ρ)

theorem preserves : Cert.preserves_Kernel3_Kernel3Ideal := trivial

/-- Both programs leave the product. -/
theorem algebraic : Cert.algebraic_Kernel3Ideal_Reference3Ideal (hKernel3Ideal := Cert.Kernel3Ideal.Gen.facts)
    (hReference3Ideal := Cert.Reference3Ideal.Gen.facts) := by
  intro m g m' g' _ hin
  refine ⟨val m, ?_, ?_⟩
  · refine (θ_run _ _ _).mono (fun r h c => ?_) (Cert.Kernel3Ideal.Value.run_blocks m g)
    exact ⟨(h c).1.trans (funext (arr m c)), (h c).2⟩
  · refine (θ_run _ _ _).mono (fun r h c => ?_) (Cert.Reference3Ideal.Tiles.run_val m' g')
    obtain ⟨e0, e1⟩ := hin c
    refine ⟨funext fun i => ?_, (h c).2⟩
    have hi : i = ix2 (i 0) (i 1) := funext fun a => match a with | 0 => rfl | 1 => rfl
    refine (congrArg _ hi).trans (((h c).1 (i 0) (i 1)).trans ?_)
    have eX : Cert.Reference3Ideal.Tiles.aX m' c = aX m c := funext fun a => funext fun b => congrFun e0 _
    have eW : Cert.Reference3Ideal.Tiles.aW m' c = aW m c := funext fun a => funext fun b => congrFun e1 _
    rw [eX, eW]
    rfl

end Cert.Kernel3Ideal.Tiles
-- ==== Proof.OutA.lean ====
module

public import proofs.«01_k».proof.Defs
public import proofs.«01_k».proof.Proof.Gen.Kernel4Ideal.Value
public import proofs.«01_k».proof.Proof.Gen.Reference4Ideal.Run
public import proofs.«01_k».proof.Proof.Dense
public import Idealize.ShloMosaic.Lib.Claim
public import Idealize.ShloMosaic.Lib.Pipeline.ValueKit

@[expose] public section

set_option maxRecDepth 65536

noncomputable section

/-! The kernel that projects out of the recurrent layer and normalises: each grid point takes 256 rows, and leaves them and
their transpose. -/

namespace Cert.Kernel4Ideal.Tiles

open Cert.Kernel4Ideal Cert.Kernel4Ideal.Gen Idealize.ShloMosaic Idealize.ShloMosaic.TcCoe Idealize.SL.Sem MatMul

/-! ## One block -/

section

variable (x0 : Vec Ideal S256x2048 .bf16) (x1 : Vec Ideal S2048x2048 .bf16) (x2 : Vec Ideal S256x2048 .f32) (x3 x4 : Vec Ideal S1x2048 .f32)
  (r : Fin 256) (l : Fin 2048)

def blockPost : EReal :=
  post (fun r l => x2 (ix2 r l)) (fun r k => x0 (ix2 r k)) (fun k l => x1 (ix2 k l)) (fun l => x3 (ix2 0 l)) (fun l => x4 (ix2 0 l)) r l

theorem pay_apply : (k0_pay1 x0 x1 x2 x3 x4 (ix2 r l) : EReal) = blockPost x0 x1 x2 x3 x4 r l := by
  pointwise [k0_pay1]
  rfl

theorem block_apply : (out0_5 x0 x1 x2 x3 x4 (ix2 r l) : EReal) = blockPost x0 x1 x2 x3 x4 r l := by
  frame_out
  exact pay_apply x0 x1 x2 x3 x4 r l

theorem blockT_apply : (out0_6 x0 x1 x2 x3 x4 (ix2 l r) : EReal) = blockPost x0 x1 x2 x3 x4 r l := by
  frame_out
  refine Eq.trans ?_ (pay_apply x0 x1 x2 x3 x4 r l)
  unfold k0_pay2
  pointwise

end

variable (m : (ℓ : Loc nD τ sig) → Buf (Elt Ideal) ℓ) (c : Dev nD)

/-! ## The arguments and the arrays the grid reads -/

def aA (r : Fin 8704) (k : Fin 2048) : EReal := (m (c, Proc.tc.devRef main_arg0) : S8704x2048.Idx → EReal) (ix2 r k)
def aW (k : Fin 2048) (l : Fin 2048) : EReal := (m (c, Proc.tc.devRef main_arg1) : S1x2048x2048.Idx → EReal) (ix3 0 k l)
def aX (r : Fin 8704) (l : Fin 2048) : EReal := (m (c, Proc.tc.devRef main_arg2) : S8704x2048.Idx → EReal) (ix2 r l)
def aG (l : Fin 2048) : EReal := (m (c, Proc.tc.devRef main_arg3) : S2x2048.Idx → EReal) (ix2 0 l)
def aB (l : Fin 2048) : EReal := (m (c, Proc.tc.devRef main_arg4) : S2x2048.Idx → EReal) (ix2 0 l)

theorem V_a (r : Fin 8704) (k : Fin 2048) : (V m c main_arg0 : S8704x2048.Idx → EReal) (ix2 r k) = aA m c r k :=
  congrFun (V_main_arg0 m c) _

theorem V_x (r : Fin 8704) (k : Fin 2048) : (V m c main_arg2 : S8704x2048.Idx → EReal) (ix2 r k) = aX m c r k :=
  congrFun (V_main_arg2 m c) _

theorem V_w (k : Fin 2048) (l : Fin 2048) : (V m c main_v1 : S2048x2048.Idx → EReal) (ix2 k l) = aW m c k l := by
  refine Eq.trans (congrFun (?h : V m c main_v1 = ?X) _) ?_
  case h =>
    unfold V
    after_results
  pointwise [StableHlo.TRef.toBuf, StableHlo.TRef.ofBuf, cast_eq]
  rfl

theorem V_g (l : Fin 2048) : (V m c main_v6 : S1x2048.Idx → EReal) (ix2 0 l) = aG m c l := by
  refine Eq.trans (congrFun (?h : V m c main_v6 = ?X) _) ?_
  case h =>
    unfold V
    after_results
  pointwise [StableHlo.TRef.toBuf, StableHlo.TRef.ofBuf, cast_eq]
  rfl

theorem V_b (l : Fin 2048) : (V m c main_v7 : S1x2048.Idx → EReal) (ix2 0 l) = aB m c l := by
  refine Eq.trans (congrFun (?h : V m c main_v7 = ?X) _) ?_
  case h =>
    unfold V
    after_results
  pointwise [StableHlo.TRef.toBuf, StableHlo.TRef.ofBuf, cast_eq]
  rfl

/-! ## The blocks of point `t` -/

theorem N_eq : cfg0.N = 34 := by decide +kernel

theorem idx : ∀ t : Fin cfg0.N, win0_0.index t = ![t.val, 0] ∧ win0_1.index t = ![0, 0] ∧ win0_2.index t = ![t.val, 0] ∧
    win0_3.index t = ![0, 0] ∧ win0_4.index t = ![0, 0] ∧ win0_5.index t = ![t.val, 0] ∧ win0_6.index t = ![0, t.val] :=
  (by decide +kernel : ∀ t : Fin grid0.N, _)

variable (t : Fin cfg0.N)

theorem t_lt : t.val < 34 := N_eq ▸ t.isLt

/-- The row of the whole that point `t` keeps at its row `r`. -/
def rowAt (r : Fin 256) : Fin 8704 := ⟨t.val * 256 + r.val, by have := t_lt t; omega⟩

theorem blk_a (r : Fin 256) (k : Fin 2048) : (iblk m c 0 t : S256x2048.Idx → EReal) (ix2 r k) =
    (V m c main_arg0 : S8704x2048.Idx → EReal) (ix2 (rowAt t r) k) := by
  blk_ext [iblk, idx t, rowAt]

theorem blk_w (k : Fin 2048) (l : Fin 2048) : (iblk m c 1 t : S2048x2048.Idx → EReal) (ix2 k l) =
    (V m c main_v1 : S2048x2048.Idx → EReal) (ix2 k l) := by
  blk_ext [iblk, idx t]

theorem blk_x (r : Fin 256) (k : Fin 2048) : (iblk m c 2 t : S256x2048.Idx → EReal) (ix2 r k) =
    (V m c main_arg2 : S8704x2048.Idx → EReal) (ix2 (rowAt t r) k) := by
  blk_ext [iblk, idx t, rowAt]

theorem blk_g (l : Fin 2048) : (iblk m c 3 t : S1x2048.Idx → EReal) (ix2 0 l) = (V m c main_v6 : S1x2048.Idx → EReal) (ix2 0 l) := by
  blk_ext [iblk, idx t]

theorem blk_b (l : Fin 2048) : (iblk m c 4 t : S1x2048.Idx → EReal) (ix2 0 l) = (V m c main_v7 : S1x2048.Idx → EReal) (ix2 0 l) := by
  blk_ext [iblk, idx t]

/-! ## The arrays after the run -/

theorem block_val (r : Fin 256) (l : Fin 2048) :
    blockPost (iblk m c 0 t) (iblk m c 1 t) (iblk m c 2 t) (iblk m c 3 t) (iblk m c 4 t) r l =
      post (aX m c) (aA m c) (aW m c) (aG m c) (aB m c) (rowAt t r) l := by
  have hg : (fun l => (iblk m c 3 t : S1x2048.Idx → EReal) (ix2 0 l)) = aG m c := funext fun l => (blk_g m c t l).trans (V_g m c l)
  have hb : (fun l => (iblk m c 4 t : S1x2048.Idx → EReal) (ix2 0 l)) = aB m c := funext fun l => (blk_b m c t l).trans (V_b m c l)
  have hw : (fun k l => (iblk m c 1 t : S2048x2048.Idx → EReal) (ix2 k l)) = aW m c :=
    funext fun k => funext fun l => (blk_w m c t k l).trans (V_w m c k l)
  have ha : (fun k => (iblk m c 0 t : S256x2048.Idx → EReal) (ix2 r k)) = aA m c (rowAt t r) :=
    funext fun k => (blk_a m c t r k).trans (V_a m c _ k)
  have hx : (fun k => (iblk m c 2 t : S256x2048.Idx → EReal) (ix2 r k)) = aX m c (rowAt t r) :=
    funext fun k => (blk_x m c t r k).trans (V_x m c _ k)
  unfold blockPost
  rw [hg, hb, hw]
  exact post_congr _ _ _ hx ha l

def val (i : S8704x2048.Idx) : EReal := post (aX m c) (aA m c) (aW m c) (aG m c) (aB m c) (i 0) (i 1)
def valT (i : S2048x8704.Idx) : EReal := post (aX m c) (aA m c) (aW m c) (aG m c) (aB m c) (i 1) (i 0)

theorem arr (i : S8704x2048.Idx) : ((dats m 0 c).arrAt 5 cfg0.N : S8704x2048.Idx → EReal) i = val m c i := by
  refine (dats m 0 c).arrAt_forall_of_covers 5 (fun i v => (v : EReal) = val m c i) (by decide +kernel) (fun t hf y => ?_) i
  have h0 : (win0_5.blk t).view.emb y 0 = rowAt t (y 0) := by apply Fin.ext; blk_simp [idx t, rowAt]
  have h1 : (win0_5.blk t).view.emb y 1 = y 1 := by apply Fin.ext; blk_simp [idx t]
  have hy : y = ix2 (y 0) (y 1) := funext fun a => match a with | 0 => rfl | 1 => rfl
  blk_simp
  unfold val
  rw [h0, h1, after0_5]
  exact (congrArg _ hy).trans ((block_apply _ _ _ _ _ (y 0) (y 1)).trans (block_val m c t (y 0) (y 1)))

theorem arrT (i : S2048x8704.Idx) : ((dats m 0 c).arrAt 6 cfg0.N : S2048x8704.Idx → EReal) i = valT m c i := by
  refine (dats m 0 c).arrAt_forall_of_covers 6 (fun i v => (v : EReal) = valT m c i) (by decide +kernel) (fun t hf y => ?_) i
  have h0 : (win0_6.blk t).view.emb y 0 = y 0 := by apply Fin.ext; blk_simp [idx t]
  have h1 : (win0_6.blk t).view.emb y 1 = rowAt t (y 1) := by apply Fin.ext; blk_simp [idx t, rowAt]
  have hy : y = ix2 (y 0) (y 1) := funext fun a => match a with | 0 => rfl | 1 => rfl
  blk_simp
  unfold valT
  rw [h0, h1, after0_6]
  exact (congrArg _ hy).trans ((blockT_apply _ _ _ _ _ (y 1) (y 0)).trans (block_val m c t (y 1) (y 0)))

end Cert.Kernel4Ideal.Tiles

namespace Cert.Reference4Ideal.Tiles

open Cert.Reference4Ideal Cert.Reference4Ideal.Gen Idealize.ShloMosaic Idealize.ShloMosaic.TcCoe Idealize.SL.Sem MatMul

/-! ## The reference -/

/-- Each row's mean, and the rows normalised, as the reference writes them. -/
def means (y : FVec Ideal S8704x2048 .f32) : FVec Ideal S8704x1 .f32 :=
  Host.divf (broadcastInDim S8704x1 ![0] bcast_S8704_S8704x1_0 (Host.reduceAdd y (constant S_ .f32 0x00000000#32) reducesTo_S8704x2048_S8704_d1 h_S_))
    (broadcastInDim S8704x1 ![] bcast_S_S8704x1 (constant S_ .f32 0x45000000#32))

def centred (y : FVec Ideal S8704x2048 .f32) : FVec Ideal S8704x2048 .f32 :=
  subf y (broadcastInDim S8704x2048 ![0, 1] bcast_S8704x1_S8704x2048_0_1 (means y))

def normed (y : FVec Ideal S8704x2048 .f32) (g b : FVec Ideal S2048 .f32) : FVec Ideal S8704x2048 .f32 :=
  addf (mulf (mulf (centred y) (broadcastInDim S8704x2048 ![0, 1] bcast_S8704x1_S8704x2048_0_1 (Host.rsqrt (addf (means (mulf (centred y) (centred y)))
      (broadcastInDim S8704x1 ![] bcast_S_S8704x1 (constant S_ .f32 0x3727C5AC#32))))))
    (broadcastInDim S8704x2048 ![0, 1] bcast_S1x2048_S8704x2048_0_1 (broadcastInDim S1x2048 ![1] bcast_S2048_S1x2048_1 g)))
    (broadcastInDim S8704x2048 ![0, 1] bcast_S1x2048_S8704x2048_0_1 (broadcastInDim S1x2048 ![1] bcast_S2048_S1x2048_1 b))

theorem means_apply (y : FVec Ideal S8704x2048 .f32) (r : Fin 8704) :
    (means y (ix2 r 0) : EReal) = mean (Ideal.ofBits .f32 0x45000000#32) (fun l => y (ix2 r l)) := by
  pointwise [means]
  rfl

theorem centred_apply (y : FVec Ideal S8704x2048 .f32) (r : Fin 8704) (l : Fin 2048) :
    (centred y (ix2 r l) : EReal) = y (ix2 r l) - mean (Ideal.ofBits .f32 0x45000000#32) (fun l => y (ix2 r l)) := by
  rw [← means_apply]
  pointwise [centred]

theorem normed_apply (y : FVec Ideal S8704x2048 .f32) (g b : FVec Ideal S2048 .f32) (r : Fin 8704) (l : Fin 2048) :
    (normed y g b (ix2 r l) : EReal) = normRow (Ideal.ofBits .f32 0x45000000#32) (Ideal.ofBits .f32 0x3727C5AC#32) (fun l => y (ix2 r l))
      (fun l => g (ix1 l)) (fun l => b (ix1 l)) l := by
  unfold normRow
  rw [← centred_apply]
  simp only [← centred_apply]
  refine Eq.trans ?_ (congrArg (fun z : EReal => (centred y (ix2 r l) : EReal) * Ideal.rsqrt (z + _) * g (ix1 l) + b (ix1 l))
    (means_apply (mulf (centred y) (centred y)) r))
  pointwise [normed]

def sums (x : FVec Ideal S8704x2048 .f32) (a : FVec Ideal S8704x2048 .bf16) (w : FVec Ideal S1x2048x2048 .f32) : FVec Ideal S8704x2048 .f32 :=
  addf (mulf (broadcastInDim S8704x2048 ![] bcast_S_S8704x2048 (constant S_ .f32 0x3FB504F3#32)) x)
    (Host.dotGeneral (φ₁ := .f32) (φ₂ := .f32) dot_S8704x2048_S2048x2048_S8704x2048_1_0_0_1_n_n none (extf .f32 a bitsLt_bf16_f32)
      (shapeCast _ w shapeCasts_S1x2048x2048_S2048x2048))

theorem sums_apply (x : FVec Ideal S8704x2048 .f32) (a : FVec Ideal S8704x2048 .bf16) (w : FVec Ideal S1x2048x2048 .f32) (r : Fin 8704)
    (l : Fin 2048) : (sums x a w (ix2 r l) : EReal) =
      Ideal.ofBits .f32 0x3FB504F3#32 * x (ix2 r l) + dot (fun k => a (ix2 r k)) (fun k => w (ix3 0 k l)) := by
  pointwise [sums]
  rfl

def gain (g : FVec Ideal S2x2048 .f32) : FVec Ideal S2048 .f32 :=
  shapeCast _ (extractStridedSlice S1x2048 ![0, 0] g slices_S2x2048_S1x2048_0_0) shapeCasts_S1x2048_S2048

theorem gain_apply (g : FVec Ideal S2x2048 .f32) (l : Fin 2048) : (gain g (ix1 l) : EReal) = g (ix2 0 l) := by
  pointwise [gain]

theorem out_apply (x : FVec Ideal S8704x2048 .f32) (a : FVec Ideal S8704x2048 .bf16) (w : FVec Ideal S1x2048x2048 .f32)
    (g b : FVec Ideal S2x2048 .f32) (r : Fin 8704) (l : Fin 2048) : (normed (sums x a w) (gain g) (gain b) (ix2 r l) : EReal) =
      post (fun r l => x (ix2 r l)) (fun r k => a (ix2 r k)) (fun k l => w (ix3 0 k l)) (fun l => g (ix2 0 l)) (fun l => b (ix2 0 l)) r l := by
  rw [normed_apply]
  simp only [sums_apply, gain_apply]
  rfl

theorem transposed_apply (y : FVec Ideal S8704x2048 .f32) (r : Fin 8704) (l : Fin 2048) :
    ((truncf .bf16 (transpose S2048x8704 [1, 0] y transposes_S8704x2048_S2048x8704_1_0) bitsLt_bf16_f32 : FVec Ideal S2048x8704 .bf16) (ix2 l r) : EReal) =
      y (ix2 r l) := by
  pointwise

variable (m : (ℓ : Loc nD τ sig) → Buf (Elt Ideal) ℓ) (c : Dev nD)

def aA (r : Fin 8704) (k : Fin 2048) : EReal := (m ((c.tc : Thread nD τ).loc main_arg0) : S8704x2048.Idx → EReal) (ix2 r k)
def aW (k : Fin 2048) (l : Fin 2048) : EReal := (m ((c.tc : Thread nD τ).loc main_arg1) : S1x2048x2048.Idx → EReal) (ix3 0 k l)
def aX (r : Fin 8704) (l : Fin 2048) : EReal := (m ((c.tc : Thread nD τ).loc main_arg2) : S8704x2048.Idx → EReal) (ix2 r l)
def aG (l : Fin 2048) : EReal := (m ((c.tc : Thread nD τ).loc main_arg3) : S2x2048.Idx → EReal) (ix2 0 l)
def aB (l : Fin 2048) : EReal := (m ((c.tc : Thread nD τ).loc main_arg4) : S2x2048.Idx → EReal) (ix2 0 l)

theorem res_val (r : Fin 8704) (l : Fin 2048) : (Value.res_out0 m c : S8704x2048.Idx → EReal) (ix2 r l) =
    post (aX m c) (aA m c) (aW m c) (aG m c) (aB m c) r l :=
  out_apply _ _ _ _ _ r l

theorem resT_val (r : Fin 8704) (l : Fin 2048) : (Value.res_out1 m c : S2048x8704.Idx → EReal) (ix2 l r) =
    post (aX m c) (aA m c) (aW m c) (aG m c) (aB m c) r l :=
  (transposed_apply (normed (sums _ _ _) (gain _) (gain _)) r l).trans (out_apply _ _ _ _ _ r l)

end Cert.Reference4Ideal.Tiles

namespace Cert.Kernel4Ideal.Tiles

open Cert.Kernel4Ideal Idealize.ShloMosaic Idealize.ShloMosaic.TcCoe Idealize.SL.Sem MatMul

theorem frame_reference : Cert.quiescent_Reference4Ideal (hReference4Ideal := Cert.Reference4Ideal.Gen.facts) :=
  fun m ρ _ => (θ_run _ _ _).mono (fun r h => ⟨fun c => (h c).2.2, sem_eq_zero_of_no_sems (by decide) r.2⟩)
    (Cert.Reference4Ideal.Value.run m ρ)

theorem preserves : Cert.preserves_Kernel4_Kernel4Ideal := trivial

/-- Both programs leave the normalised rows, and their transpose. -/
theorem algebraic : Cert.algebraic_Kernel4Ideal_Reference4Ideal (hKernel4Ideal := Cert.Kernel4Ideal.Gen.facts)
    (hReference4Ideal := Cert.Reference4Ideal.Gen.facts) := by
  intro m g m' g' _ hin
  refine ⟨val m, valT m, ?_, ?_⟩
  · refine (θ_run _ _ _).mono (fun r h c => ?_) (Cert.Kernel4Ideal.Value.run_blocks m g)
    exact ⟨(h c).1.trans (funext (arr m c)), (h c).2.1.trans (funext (arrT m c)), (h c).2.2⟩
  · refine (θ_run _ _ _).mono (fun r h c => ?_) (Cert.Reference4Ideal.Value.run m' g')
    obtain ⟨e0, e1, e2, e3, e4⟩ := hin c
    have eA : Cert.Reference4Ideal.Tiles.aA m' c = aA m c := funext fun a => funext fun b => congrFun e0 _
    have eW : Cert.Reference4Ideal.Tiles.aW m' c = aW m c := funext fun a => funext fun b => congrFun e1 _
    have eX : Cert.Reference4Ideal.Tiles.aX m' c = aX m c := funext fun a => funext fun b => congrFun e2 _
    have eG : Cert.Reference4Ideal.Tiles.aG m' c = aG m c := funext fun a => congrFun e3 _
    have eB : Cert.Reference4Ideal.Tiles.aB m' c = aB m c := funext fun a => congrFun e4 _
    refine ⟨(h c).1.trans (funext fun i => ?_), (h c).2.1.trans (funext fun i => ?_), (h c).2.2⟩
    · have hi : i = ix2 (i 0) (i 1) := funext fun a => match a with | 0 => rfl | 1 => rfl
      refine (congrArg _ hi).trans ((Cert.Reference4Ideal.Tiles.res_val m' c (i 0) (i 1)).trans ?_)
      rw [eX, eA, eW, eG, eB]
      rfl
    · have hi : i = ix2 (i 0) (i 1) := funext fun a => match a with | 0 => rfl | 1 => rfl
      refine (congrArg _ hi).trans ((Cert.Reference4Ideal.Tiles.resT_val m' c (i 1) (i 0)).trans ?_)
      rw [eX, eA, eW, eG, eB]
      rfl

end Cert.Kernel4Ideal.Tiles
-- ==== Proof.OutB.lean ====
module

public import proofs.«01_k».proof.Defs
public import proofs.«01_k».proof.Proof.Gen.Kernel5Ideal.Value
public import proofs.«01_k».proof.Proof.Gen.Reference5Ideal.Run
public import proofs.«01_k».proof.Proof.OutA
public import Idealize.ShloMosaic.Lib.Claim
public import Idealize.ShloMosaic.Lib.Pipeline.ValueKit

@[expose] public section

set_option maxRecDepth 65536

noncomputable section

/-! The kernel that projects out of the gated layer and normalises: each grid point takes 256 rows, and leaves them and
their transpose. -/

namespace Cert.Kernel5Ideal.Tiles

open Cert.Kernel5Ideal Cert.Kernel5Ideal.Gen Idealize.ShloMosaic Idealize.ShloMosaic.TcCoe Idealize.SL.Sem MatMul

/-! ## One block -/

section

variable (x0 : Vec Ideal S256x6144 .bf16) (x1 : Vec Ideal S6144x2048 .bf16) (x2 : Vec Ideal S256x2048 .f32) (x3 x4 : Vec Ideal S1x2048 .f32)
  (r : Fin 256) (l : Fin 2048)

def blockPost : EReal :=
  post (fun r l => x2 (ix2 r l)) (fun r k => x0 (ix2 r k)) (fun k l => x1 (ix2 k l)) (fun l => x3 (ix2 0 l)) (fun l => x4 (ix2 0 l)) r l

theorem pay_apply : (k0_pay1 x0 x1 x2 x3 x4 (ix2 r l) : EReal) = blockPost x0 x1 x2 x3 x4 r l := by
  pointwise [k0_pay1]
  rfl

theorem block_apply : (out0_5 x0 x1 x2 x3 x4 (ix2 r l) : EReal) = blockPost x0 x1 x2 x3 x4 r l := by
  frame_out
  exact pay_apply x0 x1 x2 x3 x4 r l

theorem blockT_apply : (out0_6 x0 x1 x2 x3 x4 (ix2 l r) : EReal) = blockPost x0 x1 x2 x3 x4 r l := by
  frame_out
  refine Eq.trans ?_ (pay_apply x0 x1 x2 x3 x4 r l)
  unfold k0_pay2
  pointwise

end

variable (m : (ℓ : Loc nD τ sig) → Buf (Elt Ideal) ℓ) (c : Dev nD)

/-! ## The arguments and the arrays the grid reads -/

def aA (r : Fin 8704) (k : Fin 6144) : EReal := (m (c, Proc.tc.devRef main_arg0) : S8704x6144.Idx → EReal) (ix2 r k)
def aW (k : Fin 6144) (l : Fin 2048) : EReal := (m (c, Proc.tc.devRef main_arg1) : S1x6144x2048.Idx → EReal) (ix3 0 k l)
def aX (r : Fin 8704) (l : Fin 2048) : EReal := (m (c, Proc.tc.devRef main_arg2) : S8704x2048.Idx → EReal) (ix2 r l)
def aG (l : Fin 2048) : EReal := (m (c, Proc.tc.devRef main_arg3) : S2x2048.Idx → EReal) (ix2 1 l)
def aB (l : Fin 2048) : EReal := (m (c, Proc.tc.devRef main_arg4) : S2x2048.Idx → EReal) (ix2 1 l)

theorem V_a (r : Fin 8704) (k : Fin 6144) : (V m c main_arg0 : S8704x6144.Idx → EReal) (ix2 r k) = aA m c r k :=
  congrFun (V_main_arg0 m c) _

theorem V_x (r : Fin 8704) (k : Fin 2048) : (V m c main_arg2 : S8704x2048.Idx → EReal) (ix2 r k) = aX m c r k :=
  congrFun (V_main_arg2 m c) _

theorem V_w (k : Fin 6144) (l : Fin 2048) : (V m c main_v1 : S6144x2048.Idx → EReal) (ix2 k l) = aW m c k l := by
  refine Eq.trans (congrFun (?h : V m c main_v1 = ?X) _) ?_
  case h =>
    unfold V
    after_results
  pointwise [StableHlo.TRef.toBuf, StableHlo.TRef.ofBuf, cast_eq]
  rfl

theorem V_g (l : Fin 2048) : (V m c main_v6 : S1x2048.Idx → EReal) (ix2 0 l) = aG m c l := by
  refine Eq.trans (congrFun (?h : V m c main_v6 = ?X) _) ?_
  case h =>
    unfold V
    after_results
  pointwise [StableHlo.TRef.toBuf, StableHlo.TRef.ofBuf, cast_eq]
  rfl

theorem V_b (l : Fin 2048) : (V m c main_v7 : S1x2048.Idx → EReal) (ix2 0 l) = aB m c l := by
  refine Eq.trans (congrFun (?h : V m c main_v7 = ?X) _) ?_
  case h =>
    unfold V
    after_results
  pointwise [StableHlo.TRef.toBuf, StableHlo.TRef.ofBuf, cast_eq]
  rfl

/-! ## The blocks of point `t` -/

theorem N_eq : cfg0.N = 34 := by decide +kernel

theorem idx : ∀ t : Fin cfg0.N, win0_0.index t = ![t.val, 0] ∧ win0_1.index t = ![0, 0] ∧ win0_2.index t = ![t.val, 0] ∧
    win0_3.index t = ![0, 0] ∧ win0_4.index t = ![0, 0] ∧ win0_5.index t = ![t.val, 0] ∧ win0_6.index t = ![0, t.val] :=
  (by decide +kernel : ∀ t : Fin grid0.N, _)

variable (t : Fin cfg0.N)

theorem t_lt : t.val < 34 := N_eq ▸ t.isLt

/-- The row of the whole that point `t` keeps at its row `r`. -/
def rowAt (r : Fin 256) : Fin 8704 := ⟨t.val * 256 + r.val, by have := t_lt t; omega⟩

theorem blk_a (r : Fin 256) (k : Fin 6144) : (iblk m c 0 t : S256x6144.Idx → EReal) (ix2 r k) =
    (V m c main_arg0 : S8704x6144.Idx → EReal) (ix2 (rowAt t r) k) := by
  blk_ext [iblk, idx t, rowAt]

theorem blk_w (k : Fin 6144) (l : Fin 2048) : (iblk m c 1 t : S6144x2048.Idx → EReal) (ix2 k l) =
    (V m c main_v1 : S6144x2048.Idx → EReal) (ix2 k l) := by
  blk_ext [iblk, idx t]

theorem blk_x (r : Fin 256) (k : Fin 2048) : (iblk m c 2 t : S256x2048.Idx → EReal) (ix2 r k) =
    (V m c main_arg2 : S8704x2048.Idx → EReal) (ix2 (rowAt t r) k) := by
  blk_ext [iblk, idx t, rowAt]

theorem blk_g (l : Fin 2048) : (iblk m c 3 t : S1x2048.Idx → EReal) (ix2 0 l) = (V m c main_v6 : S1x2048.Idx → EReal) (ix2 0 l) := by
  blk_ext [iblk, idx t]

theorem blk_b (l : Fin 2048) : (iblk m c 4 t : S1x2048.Idx → EReal) (ix2 0 l) = (V m c main_v7 : S1x2048.Idx → EReal) (ix2 0 l) := by
  blk_ext [iblk, idx t]

/-! ## The arrays after the run -/

theorem block_val (r : Fin 256) (l : Fin 2048) :
    blockPost (iblk m c 0 t) (iblk m c 1 t) (iblk m c 2 t) (iblk m c 3 t) (iblk m c 4 t) r l =
      post (aX m c) (aA m c) (aW m c) (aG m c) (aB m c) (rowAt t r) l := by
  have hg : (fun l => (iblk m c 3 t : S1x2048.Idx → EReal) (ix2 0 l)) = aG m c := funext fun l => (blk_g m c t l).trans (V_g m c l)
  have hb : (fun l => (iblk m c 4 t : S1x2048.Idx → EReal) (ix2 0 l)) = aB m c := funext fun l => (blk_b m c t l).trans (V_b m c l)
  have hw : (fun k l => (iblk m c 1 t : S6144x2048.Idx → EReal) (ix2 k l)) = aW m c :=
    funext fun k => funext fun l => (blk_w m c t k l).trans (V_w m c k l)
  have ha : (fun k => (iblk m c 0 t : S256x6144.Idx → EReal) (ix2 r k)) = aA m c (rowAt t r) :=
    funext fun k => (blk_a m c t r k).trans (V_a m c _ k)
  have hx : (fun k => (iblk m c 2 t : S256x2048.Idx → EReal) (ix2 r k)) = aX m c (rowAt t r) :=
    funext fun k => (blk_x m c t r k).trans (V_x m c _ k)
  unfold blockPost
  rw [hg, hb, hw]
  exact post_congr _ _ _ hx ha l

def val (i : S8704x2048.Idx) : EReal := post (aX m c) (aA m c) (aW m c) (aG m c) (aB m c) (i 0) (i 1)
def valT (i : S2048x8704.Idx) : EReal := post (aX m c) (aA m c) (aW m c) (aG m c) (aB m c) (i 1) (i 0)

theorem arr (i : S8704x2048.Idx) : ((dats m 0 c).arrAt 5 cfg0.N : S8704x2048.Idx → EReal) i = val m c i := by
  refine (dats m 0 c).arrAt_forall_of_covers 5 (fun i v => (v : EReal) = val m c i) (by decide +kernel) (fun t hf y => ?_) i
  have h0 : (win0_5.blk t).view.emb y 0 = rowAt t (y 0) := by apply Fin.ext; blk_simp [idx t, rowAt]
  have h1 : (win0_5.blk t).view.emb y 1 = y 1 := by apply Fin.ext; blk_simp [idx t]
  have hy : y = ix2 (y 0) (y 1) := funext fun a => match a with | 0 => rfl | 1 => rfl
  blk_simp
  unfold val
  rw [h0, h1, after0_5]
  exact (congrArg _ hy).trans ((block_apply _ _ _ _ _ (y 0) (y 1)).trans (block_val m c t (y 0) (y 1)))

theorem arrT (i : S2048x8704.Idx) : ((dats m 0 c).arrAt 6 cfg0.N : S2048x8704.Idx → EReal) i = valT m c i := by
  refine (dats m 0 c).arrAt_forall_of_covers 6 (fun i v => (v : EReal) = valT m c i) (by decide +kernel) (fun t hf y => ?_) i
  have h0 : (win0_6.blk t).view.emb y 0 = y 0 := by apply Fin.ext; blk_simp [idx t]
  have h1 : (win0_6.blk t).view.emb y 1 = rowAt t (y 1) := by apply Fin.ext; blk_simp [idx t, rowAt]
  have hy : y = ix2 (y 0) (y 1) := funext fun a => match a with | 0 => rfl | 1 => rfl
  blk_simp
  unfold valT
  rw [h0, h1, after0_6]
  exact (congrArg _ hy).trans ((blockT_apply _ _ _ _ _ (y 1) (y 0)).trans (block_val m c t (y 1) (y 0)))

end Cert.Kernel5Ideal.Tiles

namespace Cert.Reference5Ideal.Tiles

open Cert.Reference5Ideal Cert.Reference5Ideal.Gen Idealize.ShloMosaic Idealize.ShloMosaic.TcCoe Idealize.SL.Sem MatMul

/-! ## The reference -/

open Cert.Reference4Ideal.Tiles (normed normed_apply transposed_apply)

def sums (x : FVec Ideal S8704x2048 .f32) (a : FVec Ideal S8704x6144 .bf16) (w : FVec Ideal S1x6144x2048 .f32) : FVec Ideal S8704x2048 .f32 :=
  addf (mulf (broadcastInDim S8704x2048 ![] bcast_S_S8704x2048 (constant S_ .f32 0x3FB504F3#32)) x)
    (Host.dotGeneral (φ₁ := .f32) (φ₂ := .f32) dot_S8704x6144_S6144x2048_S8704x2048_1_0_0_1_n_n none (extf .f32 a bitsLt_bf16_f32)
      (shapeCast _ w shapeCasts_S1x6144x2048_S6144x2048))

theorem sums_apply (x : FVec Ideal S8704x2048 .f32) (a : FVec Ideal S8704x6144 .bf16) (w : FVec Ideal S1x6144x2048 .f32) (r : Fin 8704)
    (l : Fin 2048) : (sums x a w (ix2 r l) : EReal) =
      Ideal.ofBits .f32 0x3FB504F3#32 * x (ix2 r l) + dot (fun k => a (ix2 r k)) (fun k => w (ix3 0 k l)) := by
  pointwise [sums]
  rfl

def gain (g : FVec Ideal S2x2048 .f32) : FVec Ideal S2048 .f32 :=
  shapeCast _ (extractStridedSlice S1x2048 ![1, 0] g slices_S2x2048_S1x2048_1_0) shapeCasts_S1x2048_S2048

theorem gain_apply (g : FVec Ideal S2x2048 .f32) (l : Fin 2048) : (gain g (ix1 l) : EReal) = g (ix2 1 l) := by
  pointwise [gain]

theorem out_apply (x : FVec Ideal S8704x2048 .f32) (a : FVec Ideal S8704x6144 .bf16) (w : FVec Ideal S1x6144x2048 .f32)
    (g b : FVec Ideal S2x2048 .f32) (r : Fin 8704) (l : Fin 2048) : (normed (sums x a w) (gain g) (gain b) (ix2 r l) : EReal) =
      post (fun r l => x (ix2 r l)) (fun r k => a (ix2 r k)) (fun k l => w (ix3 0 k l)) (fun l => g (ix2 1 l)) (fun l => b (ix2 1 l)) r l := by
  rw [normed_apply]
  simp only [sums_apply, gain_apply]
  rfl

variable (m : (ℓ : Loc nD τ sig) → Buf (Elt Ideal) ℓ) (c : Dev nD)

def aA (r : Fin 8704) (k : Fin 6144) : EReal := (m ((c.tc : Thread nD τ).loc main_arg0) : S8704x6144.Idx → EReal) (ix2 r k)
def aW (k : Fin 6144) (l : Fin 2048) : EReal := (m ((c.tc : Thread nD τ).loc main_arg1) : S1x6144x2048.Idx → EReal) (ix3 0 k l)
def aX (r : Fin 8704) (l : Fin 2048) : EReal := (m ((c.tc : Thread nD τ).loc main_arg2) : S8704x2048.Idx → EReal) (ix2 r l)
def aG (l : Fin 2048) : EReal := (m ((c.tc : Thread nD τ).loc main_arg3) : S2x2048.Idx → EReal) (ix2 1 l)
def aB (l : Fin 2048) : EReal := (m ((c.tc : Thread nD τ).loc main_arg4) : S2x2048.Idx → EReal) (ix2 1 l)

theorem res_val (r : Fin 8704) (l : Fin 2048) : (Value.res_out0 m c : S8704x2048.Idx → EReal) (ix2 r l) =
    post (aX m c) (aA m c) (aW m c) (aG m c) (aB m c) r l :=
  out_apply _ _ _ _ _ r l

theorem resT_val (r : Fin 8704) (l : Fin 2048) : (Value.res_out1 m c : S2048x8704.Idx → EReal) (ix2 l r) =
    post (aX m c) (aA m c) (aW m c) (aG m c) (aB m c) r l :=
  (transposed_apply (normed (sums _ _ _) (gain _) (gain _)) r l).trans (out_apply _ _ _ _ _ r l)

end Cert.Reference5Ideal.Tiles

namespace Cert.Kernel5Ideal.Tiles

open Cert.Kernel5Ideal Idealize.ShloMosaic Idealize.ShloMosaic.TcCoe Idealize.SL.Sem MatMul

theorem frame_reference : Cert.quiescent_Reference5Ideal (hReference5Ideal := Cert.Reference5Ideal.Gen.facts) :=
  fun m ρ _ => (θ_run _ _ _).mono (fun r h => ⟨fun c => (h c).2.2, sem_eq_zero_of_no_sems (by decide) r.2⟩)
    (Cert.Reference5Ideal.Value.run m ρ)

theorem preserves : Cert.preserves_Kernel5_Kernel5Ideal := trivial

/-- Both programs leave the normalised rows, and their transpose. -/
theorem algebraic : Cert.algebraic_Kernel5Ideal_Reference5Ideal (hKernel5Ideal := Cert.Kernel5Ideal.Gen.facts)
    (hReference5Ideal := Cert.Reference5Ideal.Gen.facts) := by
  intro m g m' g' _ hin
  refine ⟨val m, valT m, ?_, ?_⟩
  · refine (θ_run _ _ _).mono (fun r h c => ?_) (Cert.Kernel5Ideal.Value.run_blocks m g)
    exact ⟨(h c).1.trans (funext (arr m c)), (h c).2.1.trans (funext (arrT m c)), (h c).2.2⟩
  · refine (θ_run _ _ _).mono (fun r h c => ?_) (Cert.Reference5Ideal.Value.run m' g')
    obtain ⟨e0, e1, e2, e3, e4⟩ := hin c
    have eA : Cert.Reference5Ideal.Tiles.aA m' c = aA m c := funext fun a => funext fun b => congrFun e0 _
    have eW : Cert.Reference5Ideal.Tiles.aW m' c = aW m c := funext fun a => funext fun b => congrFun e1 _
    have eX : Cert.Reference5Ideal.Tiles.aX m' c = aX m c := funext fun a => funext fun b => congrFun e2 _
    have eG : Cert.Reference5Ideal.Tiles.aG m' c = aG m c := funext fun a => congrFun e3 _
    have eB : Cert.Reference5Ideal.Tiles.aB m' c = aB m c := funext fun a => congrFun e4 _
    refine ⟨(h c).1.trans (funext fun i => ?_), (h c).2.1.trans (funext fun i => ?_), (h c).2.2⟩
    · have hi : i = ix2 (i 0) (i 1) := funext fun a => match a with | 0 => rfl | 1 => rfl
      refine (congrArg _ hi).trans ((Cert.Reference5Ideal.Tiles.res_val m' c (i 0) (i 1)).trans ?_)
      rw [eX, eA, eW, eG, eB]
      rfl
    · have hi : i = ix2 (i 0) (i 1) := funext fun a => match a with | 0 => rfl | 1 => rfl
      refine (congrArg _ hi).trans ((Cert.Reference5Ideal.Tiles.resT_val m' c (i 1) (i 0)).trans ?_)
      rw [eX, eA, eW, eG, eB]
      rfl

end Cert.Kernel5Ideal.Tiles
-- ==== Proof.Ffn.lean ====
module

public import proofs.«01_k».proof.Defs
public import proofs.«01_k».proof.Proof.Gen.Kernel7Ideal.Value
public import proofs.«01_k».proof.Proof.Gen.Reference7Ideal.Run
public import proofs.«01_k».proof.Proof.OutB
public import Idealize.ShloMosaic.Lib.Claim
public import Idealize.ShloMosaic.Lib.Pipeline.ValueKit

@[expose] public section

set_option maxRecDepth 65536

noncomputable section

/-! The kernel that ends the layer: the residual and the experts' output, which comes transposed, row by row normalised. -/

namespace MatMul

open Idealize.ShloMosaic

/-- An entry of the sum of the residual, scaled, and a transposed array, row by row normalised. -/
def postT {a b : Nat} (x : Fin a → Fin b → EReal) (y : Fin b → Fin a → EReal) (g h : Fin b → EReal) (i : Fin a) (j : Fin b) : EReal :=
  normRow (Ideal.ofBits .f32 0x45000000#32) (Ideal.ofBits .f32 0x3727C5AC#32) (fun l => Ideal.ofBits .f32 0x3FB504F3#32 * x i l + y l i) g h j

end MatMul

namespace Cert.Kernel7Ideal.Tiles

open Cert.Kernel7Ideal Cert.Kernel7Ideal.Gen Idealize.ShloMosaic Idealize.ShloMosaic.TcCoe Idealize.SL.Sem MatMul

/-! ## One block -/

section

variable (x0 : Vec Ideal S256x2048 .f32) (x1 : Vec Ideal S2048x256 .f32) (x2 x3 : Vec Ideal S1x2048 .f32) (r : Fin 256) (l : Fin 2048)

def blockPost : EReal :=
  postT (fun r l => x0 (ix2 r l)) (fun l r => x1 (ix2 l r)) (fun l => x2 (ix2 0 l)) (fun l => x3 (ix2 0 l)) r l

theorem pay_apply : (k0_pay1 x0 x1 x2 x3 (ix2 r l) : EReal) = blockPost x0 x1 x2 x3 r l := by
  pointwise [k0_pay1]
  rfl

theorem block_apply : (out0_4 x0 x1 x2 x3 (ix2 r l) : EReal) = blockPost x0 x1 x2 x3 r l := by
  frame_out
  exact pay_apply x0 x1 x2 x3 r l

theorem blockCopy_apply : (out0_5 x0 x1 x2 x3 (ix2 r l) : EReal) = blockPost x0 x1 x2 x3 r l := by
  frame_out
  refine Eq.trans ?_ (pay_apply x0 x1 x2 x3 r l)
  unfold k0_pay2
  pointwise

end

variable (m : (ℓ : Loc nD τ sig) → Buf (Elt Ideal) ℓ) (c : Dev nD)

/-! ## The arguments and the arrays the grid reads -/

def aX (r : Fin 8704) (l : Fin 2048) : EReal := (m (c, Proc.tc.devRef main_arg0) : S8704x2048.Idx → EReal) (ix2 r l)
def aF (l : Fin 2048) (r : Fin 8704) : EReal := (m (c, Proc.tc.devRef main_arg1) : S2048x8704.Idx → EReal) (ix2 l r)
def aG (l : Fin 2048) : EReal := (m (c, Proc.tc.devRef main_arg2) : S2x2048.Idx → EReal) (ix2 1 l)
def aB (l : Fin 2048) : EReal := (m (c, Proc.tc.devRef main_arg3) : S2x2048.Idx → EReal) (ix2 1 l)

theorem V_x (r : Fin 8704) (l : Fin 2048) : (V m c main_arg0 : S8704x2048.Idx → EReal) (ix2 r l) = aX m c r l :=
  congrFun (V_main_arg0 m c) _

theorem V_f (l : Fin 2048) (r : Fin 8704) : (V m c main_arg1 : S2048x8704.Idx → EReal) (ix2 l r) = aF m c l r :=
  congrFun (V_main_arg1 m c) _

theorem V_g (l : Fin 2048) : (V m c main_v4 : S1x2048.Idx → EReal) (ix2 0 l) = aG m c l := by
  refine Eq.trans (congrFun (?h : V m c main_v4 = ?X) _) ?_
  case h =>
    unfold V
    after_results
  pointwise [StableHlo.TRef.toBuf, StableHlo.TRef.ofBuf, cast_eq]
  rfl

theorem V_b (l : Fin 2048) : (V m c main_v5 : S1x2048.Idx → EReal) (ix2 0 l) = aB m c l := by
  refine Eq.trans (congrFun (?h : V m c main_v5 = ?X) _) ?_
  case h =>
    unfold V
    after_results
  pointwise [StableHlo.TRef.toBuf, StableHlo.TRef.ofBuf, cast_eq]
  rfl

/-! ## The blocks of point `t` -/

theorem N_eq : cfg0.N = 34 := by decide +kernel

theorem idx : ∀ t : Fin cfg0.N, win0_0.index t = ![t.val, 0] ∧ win0_1.index t = ![0, t.val] ∧ win0_2.index t = ![0, 0] ∧
    win0_3.index t = ![0, 0] ∧ win0_4.index t = ![t.val, 0] ∧ win0_5.index t = ![t.val, 0] :=
  (by decide +kernel : ∀ t : Fin grid0.N, _)

variable (t : Fin cfg0.N)

theorem t_lt : t.val < 34 := N_eq ▸ t.isLt

/-- The row of the whole that point `t` keeps at its row `r`. -/
def rowAt (r : Fin 256) : Fin 8704 := ⟨t.val * 256 + r.val, by have := t_lt t; omega⟩

theorem blk_x (r : Fin 256) (l : Fin 2048) : (iblk m c 0 t : S256x2048.Idx → EReal) (ix2 r l) =
    (V m c main_arg0 : S8704x2048.Idx → EReal) (ix2 (rowAt t r) l) := by
  blk_ext [iblk, idx t, rowAt]

theorem blk_f (l : Fin 2048) (r : Fin 256) : (iblk m c 1 t : S2048x256.Idx → EReal) (ix2 l r) =
    (V m c main_arg1 : S2048x8704.Idx → EReal) (ix2 l (rowAt t r)) := by
  blk_ext [iblk, idx t, rowAt]

theorem blk_g (l : Fin 2048) : (iblk m c 2 t : S1x2048.Idx → EReal) (ix2 0 l) = (V m c main_v4 : S1x2048.Idx → EReal) (ix2 0 l) := by
  blk_ext [iblk, idx t]

theorem blk_b (l : Fin 2048) : (iblk m c 3 t : S1x2048.Idx → EReal) (ix2 0 l) = (V m c main_v5 : S1x2048.Idx → EReal) (ix2 0 l) := by
  blk_ext [iblk, idx t]

/-! ## The arrays after the run -/

theorem block_val (r : Fin 256) (l : Fin 2048) :
    blockPost (iblk m c 0 t) (iblk m c 1 t) (iblk m c 2 t) (iblk m c 3 t) r l = postT (aX m c) (aF m c) (aG m c) (aB m c) (rowAt t r) l := by
  have hg : (fun l => (iblk m c 2 t : S1x2048.Idx → EReal) (ix2 0 l)) = aG m c := funext fun l => (blk_g m c t l).trans (V_g m c l)
  have hb : (fun l => (iblk m c 3 t : S1x2048.Idx → EReal) (ix2 0 l)) = aB m c := funext fun l => (blk_b m c t l).trans (V_b m c l)
  have hx : (fun k => (iblk m c 0 t : S256x2048.Idx → EReal) (ix2 r k)) = aX m c (rowAt t r) :=
    funext fun k => (blk_x m c t r k).trans (V_x m c _ k)
  have hf : (fun k => (iblk m c 1 t : S2048x256.Idx → EReal) (ix2 k r)) = fun k => aF m c k (rowAt t r) :=
    funext fun k => (blk_f m c t k r).trans (V_f m c k _)
  unfold blockPost postT
  rw [hg, hb]
  refine congrArg (fun z => normRow _ _ z _ _ l) (funext fun k => ?_)
  exact congrArg₂ (fun u v : EReal => Ideal.ofBits .f32 0x3FB504F3#32 * u + v) (congrFun hx k) (congrFun hf k)

def val (i : S8704x2048.Idx) : EReal := postT (aX m c) (aF m c) (aG m c) (aB m c) (i 0) (i 1)

theorem arr (i : S8704x2048.Idx) : ((dats m 0 c).arrAt 4 cfg0.N : S8704x2048.Idx → EReal) i = val m c i := by
  refine (dats m 0 c).arrAt_forall_of_covers 4 (fun i v => (v : EReal) = val m c i) (by decide +kernel) (fun t hf y => ?_) i
  have h0 : (win0_4.blk t).view.emb y 0 = rowAt t (y 0) := by apply Fin.ext; blk_simp [idx t, rowAt]
  have h1 : (win0_4.blk t).view.emb y 1 = y 1 := by apply Fin.ext; blk_simp [idx t]
  have hy : y = ix2 (y 0) (y 1) := funext fun a => match a with | 0 => rfl | 1 => rfl
  blk_simp
  unfold val
  rw [h0, h1, after0_4]
  exact (congrArg _ hy).trans ((block_apply _ _ _ _ (y 0) (y 1)).trans (block_val m c t (y 0) (y 1)))

theorem arrCopy (i : S8704x2048.Idx) : ((dats m 0 c).arrAt 5 cfg0.N : S8704x2048.Idx → EReal) i = val m c i := by
  refine (dats m 0 c).arrAt_forall_of_covers 5 (fun i v => (v : EReal) = val m c i) (by decide +kernel) (fun t hf y => ?_) i
  have h0 : (win0_5.blk t).view.emb y 0 = rowAt t (y 0) := by apply Fin.ext; blk_simp [idx t, rowAt]
  have h1 : (win0_5.blk t).view.emb y 1 = y 1 := by apply Fin.ext; blk_simp [idx t]
  have hy : y = ix2 (y 0) (y 1) := funext fun a => match a with | 0 => rfl | 1 => rfl
  blk_simp
  unfold val
  rw [h0, h1, after0_5]
  exact (congrArg _ hy).trans ((blockCopy_apply _ _ _ _ (y 0) (y 1)).trans (block_val m c t (y 0) (y 1)))

end Cert.Kernel7Ideal.Tiles

namespace Cert.Reference7Ideal.Tiles

open Cert.Reference7Ideal Cert.Reference7Ideal.Gen Idealize.ShloMosaic Idealize.ShloMosaic.TcCoe Idealize.SL.Sem MatMul
open Cert.Reference4Ideal.Tiles (normed normed_apply)
open Cert.Reference5Ideal.Tiles (gain gain_apply)

/-! ## The reference -/

def sums (x : FVec Ideal S8704x2048 .f32) (f : FVec Ideal S2048x8704 .f32) : FVec Ideal S8704x2048 .f32 :=
  addf (mulf (broadcastInDim S8704x2048 ![] bcast_S_S8704x2048 (constant S_ .f32 0x3FB504F3#32)) x)
    (transpose S8704x2048 [1, 0] f transposes_S2048x8704_S8704x2048_1_0)

theorem sums_apply (x : FVec Ideal S8704x2048 .f32) (f : FVec Ideal S2048x8704 .f32) (r : Fin 8704) (l : Fin 2048) :
    (sums x f (ix2 r l) : EReal) = Ideal.ofBits .f32 0x3FB504F3#32 * x (ix2 r l) + f (ix2 l r) := by
  pointwise [sums]

theorem out_apply (x : FVec Ideal S8704x2048 .f32) (f : FVec Ideal S2048x8704 .f32) (g b : FVec Ideal S2x2048 .f32) (r : Fin 8704)
    (l : Fin 2048) : (normed (sums x f) (gain g) (gain b) (ix2 r l) : EReal) =
      postT (fun r l => x (ix2 r l)) (fun l r => f (ix2 l r)) (fun l => g (ix2 1 l)) (fun l => b (ix2 1 l)) r l := by
  rw [normed_apply]
  simp only [sums_apply, gain_apply]
  rfl

variable (m : (ℓ : Loc nD τ sig) → Buf (Elt Ideal) ℓ) (c : Dev nD)

def aX (r : Fin 8704) (l : Fin 2048) : EReal := (m ((c.tc : Thread nD τ).loc main_arg0) : S8704x2048.Idx → EReal) (ix2 r l)
def aF (l : Fin 2048) (r : Fin 8704) : EReal := (m ((c.tc : Thread nD τ).loc main_arg1) : S2048x8704.Idx → EReal) (ix2 l r)
def aG (l : Fin 2048) : EReal := (m ((c.tc : Thread nD τ).loc main_arg2) : S2x2048.Idx → EReal) (ix2 1 l)
def aB (l : Fin 2048) : EReal := (m ((c.tc : Thread nD τ).loc main_arg3) : S2x2048.Idx → EReal) (ix2 1 l)

theorem out_val (r : Fin 8704) (l : Fin 2048) :
    (normed (sums (m ((c.tc : Thread nD τ).loc main_arg0)) (m ((c.tc : Thread nD τ).loc main_arg1))) (gain (m ((c.tc : Thread nD τ).loc main_arg2)))
      (gain (m ((c.tc : Thread nD τ).loc main_arg3))) (ix2 r l) : EReal) = postT (aX m c) (aF m c) (aG m c) (aB m c) r l :=
  out_apply _ _ _ _ r l

end Cert.Reference7Ideal.Tiles

namespace Cert.Kernel7Ideal.Tiles

open Cert.Kernel7Ideal Idealize.ShloMosaic Idealize.ShloMosaic.TcCoe Idealize.SL.Sem MatMul

theorem frame_reference : Cert.quiescent_Reference7Ideal (hReference7Ideal := Cert.Reference7Ideal.Gen.facts) :=
  fun m ρ _ => (θ_run _ _ _).mono (fun r h => ⟨fun c => (h c).2.2, sem_eq_zero_of_no_sems (by decide) r.2⟩)
    (Cert.Reference7Ideal.Value.run m ρ)

theorem preserves : Cert.preserves_Kernel7_Kernel7Ideal := trivial

/-- Both programs leave the normalised rows twice. -/
theorem algebraic : Cert.algebraic_Kernel7Ideal_Reference7Ideal (hKernel7Ideal := Cert.Kernel7Ideal.Gen.facts)
    (hReference7Ideal := Cert.Reference7Ideal.Gen.facts) := by
  intro m g m' g' _ hin
  refine ⟨val m, val m, ?_, ?_⟩
  · refine (θ_run _ _ _).mono (fun r h c => ?_) (Cert.Kernel7Ideal.Value.run_blocks m g)
    exact ⟨(h c).1.trans (funext (arr m c)), (h c).2.1.trans (funext (arrCopy m c)), (h c).2.2⟩
  · refine (θ_run _ _ _).mono (fun r h c => ?_) (Cert.Reference7Ideal.Value.run m' g')
    obtain ⟨e0, e1, e2, e3⟩ := hin c
    have eX : Cert.Reference7Ideal.Tiles.aX m' c = aX m c := funext fun a => funext fun b => congrFun e0 _
    have eF : Cert.Reference7Ideal.Tiles.aF m' c = aF m c := funext fun a => funext fun b => congrFun e1 _
    have eG : Cert.Reference7Ideal.Tiles.aG m' c = aG m c := funext fun a => congrFun e2 _
    have eB : Cert.Reference7Ideal.Tiles.aB m' c = aB m c := funext fun a => congrFun e3 _
    have hi : ∀ i : S8704x2048.Idx, i = ix2 (i 0) (i 1) := fun i => funext fun a => match a with | 0 => rfl | 1 => rfl
    refine ⟨(h c).1.trans (funext fun i => ?_), (h c).2.1.trans (funext fun i => ?_), (h c).2.2⟩
    · refine (congrArg _ (hi i)).trans ((Cert.Reference7Ideal.Tiles.out_val m' c (i 0) (i 1)).trans ?_)
      rw [eX, eF, eG, eB]
      rfl
    · refine (congrArg _ (hi i)).trans ((Cert.Reference7Ideal.Tiles.out_val m' c (i 0) (i 1)).trans ?_)
      rw [eX, eF, eG, eB]
      rfl

end Cert.Kernel7Ideal.Tiles
-- ==== Proof.Mix.lean ====
module

public import proofs.«01_k».proof.Defs
public import proofs.«01_k».proof.Proof.Gen.Kernel8Ideal.Value
public import proofs.«01_k».proof.Proof.Dense
public import proofs.«01_k».proof.Proof.Store
public import Idealize.ShloMosaic.Lib.Claim
public import Idealize.ShloMosaic.Lib.Pipeline.ValueKit

@[expose] public section

set_option maxRecDepth 65536

noncomputable section

/-! The kernel that mixes the tokens of a chunk: the gate's second half normalised row by row, then within each of eight groups of lanes a
    lower triangular matrix over the tokens, its bias, and the product with the gate's first half. -/

namespace TokenMix

open Idealize.ShloMosaic MatMul

/-- The group of a lane. -/
def grp (l : Fin 6144) : Fin 8 := ⟨l.val / 768, by omega⟩

/-- The lane at place `d` of group `k`. -/
def lane (k : Fin 8) (d : Fin 768) : Fin 6144 := ⟨k.val * 768 + d.val, by omega⟩

/-- The row of the whole at which the samples' row `q` stands. -/
def sampleRow (q : Fin 512) : Fin 8704 := ⟨8192 + q.val, by omega⟩

/-- An entry of the rows, normalised. -/
def rowNorm {a : Nat} (v : Fin a → Fin 6144 → EReal) (g b : Fin 6144 → EReal) (r : Fin a) (l : Fin 6144) : EReal :=
  normRow (Ideal.ofBits .f32 0x45C00000#32) (Ideal.ofBits .f32 0x3727C5AC#32) (v r) g b l

/-- The tokens of a prompt are mixed within their chunk of 128, those of a sample within their run of four. -/
def mixed (w : Fin 8 → Fin 128 → Fin 128 → EReal) (b : Fin 8 → Fin 128 → EReal) (n : Fin 8704 → Fin 6144 → EReal) (r : Fin 8704)
    (l : Fin 6144) : EReal :=
  if r.val < 8192 then
    (∑ s : Fin 128, w (grp l) ⟨r.val % 128, by omega⟩ s * n ⟨r.val / 128 * 128 + s.val, by omega⟩ l) + b (grp l) ⟨r.val % 128, by omega⟩
  else
    (∑ s : Fin 4, w (grp l) ⟨r.val % 4, by omega⟩ ⟨s.val, by omega⟩ * n ⟨r.val / 4 * 4 + s.val, by omega⟩ l) + b (grp l) ⟨r.val % 4, by omega⟩

/-- A sum over 128 tokens of which only one run of four counts. -/
theorem sum_run (q : Fin 32) (f : Fin 128 → EReal) (h : ∀ s : Fin 128, s.val / 4 ≠ q.val → f s = 0) :
    (∑ s : Fin 128, f s) = ∑ k : Fin 4, f ⟨4 * q.val + k.val, by omega⟩ := by
  refine (Finset.sum_of_injOn (fun k : Fin 4 => (⟨4 * q.val + k.val, by omega⟩ : Fin 128)) ?_ ?_ ?_ ?_).symm
  · intro a _ b _ e
    have := congrArg Fin.val e
    exact Fin.ext (by dsimp only at this; omega)
  · intro _ _
    simp
  · intro s _ hs
    refine h s fun e => hs ⟨⟨s.val % 4, by omega⟩, by simp, Fin.ext ?_⟩
    dsimp only
    omega
  · intro _ _
    rfl

end TokenMix

namespace Cert.Kernel8Ideal.Tiles

open Cert.Kernel8Ideal Cert.Kernel8Ideal.Gen Idealize.ShloMosaic Idealize.ShloMosaic.TcCoe Idealize.SL.Sem MatMul TokenMix
open Cert.KernelIdeal.Heads (lastFirst canon_lastFirst)

/-! ## One block -/

theorem inbU (k : ℕ) (hk : k < 8) : ∀ a, (![0, k * 768] : Fin 2 → ℕ) a + (![128, 768] : Fin 2 → ℕ) a ≤ S128x6144.size a := by
  intro a; fin_cases a <;> simp [S128x6144]; omega

theorem inbW (k : ℕ) (hk : k < 8) : ∀ a, (![0, k, 0, 0] : Fin 4 → ℕ) a + (![1, 1, 128, 128] : Fin 4 → ℕ) a ≤ S1x8x128x128.size a := by
  intro a; fin_cases a <;> simp [S1x8x128x128]; omega

theorem inbB (k : ℕ) (hk : k < 8) : ∀ a, (![0, 0, k] : Fin 3 → ℕ) a + (![1, 128, 1] : Fin 3 → ℕ) a ≤ S1x128x8.size a := by
  intro a; fin_cases a <;> simp [S1x128x8]; omega

theorem slices (k : ℕ) (hk : k < 8) : S128x6144.Slices ![0, k * 768] S128x768 := by interval_cases k <;> decide

/-- What one group of lanes stores. -/
def payG (k : ℕ) (hk : k < 8) (n : FVec Ideal S128x6144 .f32) (w : Vec Ideal S1x1x128x128 .f32) (b : Vec Ideal S1x128x1 .f32)
    (u : Vec Ideal S128x768 .bf16) : FVec Ideal S128x768 .bf16 :=
  truncf .bf16 (mulf (extf .f32 u bitsLt_bf16_f32)
    (addf (matmul dot_S128x128_S128x768_S128x768_1_0_0_1_n_n none (truncf .bf16 (shapeCast S128x128 w shapeCasts_S1x1x128x128_S128x128) bitsLt_bf16_f32)
        (truncf .bf16 (extractStridedSlice S128x768 ![0, k * 768] n (slices k hk)) bitsLt_bf16_f32) (constant S128x768 .f32 0x00000000#32))
      (broadcastTo S128x768 (shapeCast S128x1 b shapeCasts_S1x128x1_S128x1) broadcasts_S128x1_S128x768))) bitsLt_bf16_f32

theorem payG_apply (k : Fin 8) (n : FVec Ideal S128x6144 .f32) (w : Vec Ideal S1x1x128x128 .f32) (b : Vec Ideal S1x128x1 .f32)
    (u : Vec Ideal S128x768 .bf16) (p : Fin 128) (d : Fin 768) : (payG k.val k.isLt n w b u (ix2 p d) : EReal) =
      u (ix2 p d) * ((∑ s : Fin 128, w (ix4 0 0 p s) * n (ix2 s (lane k d))) + b (ix3 0 p 0)) := by
  pointwise [payG]
  rfl

section

variable (x0 : Vec Ideal S128x6144 .bf16) (x1 : Vec Ideal S128x6144 .f32) (x2 : Vec Ideal S1x8x128x128 .f32) (x3 : Vec Ideal S1x128x8 .f32)
  (x4 x5 : Vec Ideal S1x6144 .f32)

def blockNorm (p : Fin 128) (l : Fin 6144) : EReal := rowNorm (fun p l => x1 (ix2 p l)) (fun l => x4 (ix2 0 l)) (fun l => x5 (ix2 0 l)) p l

def blockMix (p : Fin 128) (l : Fin 6144) : EReal :=
  x0 (ix2 p l) * ((∑ s : Fin 128, x2 (ix4 0 (grp l) p s) * blockNorm x1 x4 x5 s l) + x3 (ix3 0 p (grp l)))

theorem pay2_apply (p : Fin 128) (l : Fin 6144) : (k0_pay2 x1 x4 x5 (ix2 p l) : EReal) = blockNorm x1 x4 x5 p l := by
  pointwise [k0_pay2]
  rfl

theorem pay12_apply (p : Fin 128) (l : Fin 6144) : (k0_pay12 x0 x1 x2 x3 x4 x5 (ix2 p l) : EReal) = blockNorm x1 x4 x5 p l := by
  unfold k0_pay12
  simp (disch := decide) only [View.ld_unit_lit']
  exact pay2_apply x1 x4 x5 p l

/-- The store of group `k`. -/
def pieceG (k : Fin 8) : View.Piece (Elt Ideal) S128x6144 .bf16 :=
  ⟨Rect.unit ![0, k.val * 768] ![128, 768] (inbU k.val k.isLt), payG k.val k.isLt (k0_pay12 x0 x1 x2 x3 x4 x5)
    (View.ld x2 (Rect.unit ![0, k.val, 0, 0] ![1, 1, 128, 128] (inbW k.val k.isLt)))
    (View.ld x3 (Rect.unit ![0, 0, k.val] ![1, 128, 1] (inbB k.val k.isLt)))
    (View.ld x0 (Rect.unit ![0, k.val * 768] ![128, 768] (inbU k.val k.isLt)))⟩

theorem piece_apply (k : Fin 8) (p : Fin 128) (d : Fin 768) : ((pieceG x0 x1 x2 x3 x4 x5 k).2 (ix2 p d) : EReal) =
    blockMix x0 x1 x2 x3 x4 x5 p (lane k d) := by
  have hg : grp (lane k d) = k := Fin.ext (by unfold grp lane; dsimp only; omega)
  refine (payG_apply k _ _ _ _ p d).trans ?_
  unfold blockMix
  rw [hg]
  simp only [pay12_apply]
  pointwise
  rfl

theorem stores : out0_6 x0 x1 x2 x3 x4 x5 = View.canon (lastFirst (pieceG x0 x1 x2 x3 x4 x5) ++ []) := rfl

theorem block_apply (p : Fin 128) (l : Fin 6144) : (out0_6 x0 x1 x2 x3 x4 x5 (ix2 p l) : EReal) = blockMix x0 x1 x2 x3 x4 x5 p l := by
  rw [stores]
  refine canon_lastFirst (fun y => (blockMix x0 x1 x2 x3 x4 x5 (y 0) (y 1) : EReal)) (pieceG x0 x1 x2 x3 x4 x5) [] (fun k x => ?_) (ix2 p l) (grp l) ?_
  · have h0 : (pieceG x0 x1 x2 x3 x4 x5 k).1.emb x 0 = x 0 := Fin.ext (show 0 + 1 * (x 0).val = (x 0).val by omega)
    have h1 : (pieceG x0 x1 x2 x3 x4 x5 k).1.emb x 1 = lane k (x 1) :=
      Fin.ext (show k.val * 768 + 1 * (x 1).val = k.val * 768 + (x 1).val by omega)
    have hx : x = ix2 (x 0) (x 1) := funext fun a => match a with | 0 => rfl | 1 => rfl
    rw [h0, h1]
    exact (congrArg _ hx).trans (piece_apply x0 x1 x2 x3 x4 x5 k (x 0) (x 1))
  · have hl := l.isLt
    refine (Rect.mem_set_unit (s := S128x6144) (off := ![0, (grp l).val * 768]) (size := ![128, 768]) (inb := inbU _ (grp l).isLt)).mpr fun a => ?_
    match a with
    | 0 => exact ⟨Nat.zero_le _, by simpa using p.isLt⟩
    | 1 => exact ⟨show l.val / 768 * 768 ≤ l.val by omega, show l.val < l.val / 768 * 768 + 768 by omega⟩

theorem blockNorm_apply (p : Fin 128) (l : Fin 6144) : (out0_7 x0 x1 x2 x3 x4 x5 (ix2 p l) : EReal) = blockNorm x1 x4 x5 p l := by
  frame_out
  exact pay2_apply x1 x4 x5 p l

end

variable (m : (ℓ : Loc nD τ sig) → Buf (Elt Ideal) ℓ) (c : Dev nD)

/-! ## The arguments and the arrays the grid reads -/

/-- The lower triangles of the mixing matrices. -/
def tril (w : FVec Ideal S1x8x128x128 .f32) : FVec Ideal S8x128x128 .f32 :=
  select (broadcastInDim S8x128x128 ![1, 2] bcast_S128x128_S8x128x128_1_2
      (select (cmpi .sge (addi (iotaInDim S128x128 32 0) (broadcastInDim S128x128 ![] bcast_S_S128x128 (constantI S_ 32 0#32))) (iotaInDim S128x128 32 1))
        (broadcastInDim S128x128 ![] bcast_S_S128x128 (constantI S_ 1 1#1)) (broadcastInDim S128x128 ![] bcast_S_S128x128 (constantI S_ 1 0#1))))
    (shapeCast S8x128x128 w shapeCasts_S1x8x128x128_S8x128x128) (broadcastInDim S8x128x128 ![] bcast_S_S8x128x128 (constant S_ .f32 0x00000000#32))

/-- One where the two indices agree, else zero. -/
def eye : FVec Ideal S32x32 .f32 :=
  uitofp .f32 (cmpi .eq (addi (iotaInDim S32x32 32 0) (broadcastInDim S32x32 ![] bcast_S_S32x32 (constantI S_ 32 0#32))) (iotaInDim S32x32 32 1))

/-- The four-token corner of a matrix, repeated along the diagonal. -/
def corners (w : FVec Ideal S8x128x128 .f32) : FVec Ideal S8x128x128 .f32 :=
  shapeCast S8x128x128 (mulf
    (broadcastInDim S8x32x4x32x4 ![0, 1, 2, 3, 4] bcast_S1x32x1x32x1_S8x32x4x32x4_0_1_2_3_4
      (broadcastInDim S1x32x1x32x1 ![1, 3] bcast_S32x32_S1x32x1x32x1_1_3 eye))
    (broadcastInDim S8x32x4x32x4 ![0, 1, 2, 3, 4] bcast_S8x1x4x1x4_S8x32x4x32x4_0_1_2_3_4
      (broadcastInDim S8x1x4x1x4 ![0, 2, 4] bcast_S8x4x4_S8x1x4x1x4_0_2_4 (extractStridedSlice S8x4x4 ![0, 0, 0] w slices_S8x128x128_S8x4x4_0_0_0))))
    shapeCasts_S8x32x4x32x4_S8x128x128

def both (w : FVec Ideal S8x128x128 .f32) : FVec Ideal S2x8x128x128 .f32 :=
  concatenate S2x8x128x128 0 [⟨S1x8x128x128, broadcastInDim S1x8x128x128 ![1, 2, 3] bcast_S8x128x128_S1x8x128x128_1_2_3 w⟩,
    ⟨S1x8x128x128, broadcastInDim S1x8x128x128 ![1, 2, 3] bcast_S8x128x128_S1x8x128x128_1_2_3 (corners w)⟩]
    concatenates_S1x8x128x128_S1x8x128x128_S2x8x128x128_d0

theorem eq_eq : ∀ a b : Fin 32, IntOp.cmpi .eq (BitVec.ofNat 32 a.val) (BitVec.ofNat 32 b.val) = if a = b then 1#1 else 0#1 := by decide +kernel

theorem mask_eq (p : Prop) [Decidable p] :
    (FloatOps.uitofp FTy.f32 (if p then 1#1 else 0#1) : Ideal FTy.f32) = if p then (1 : EReal) else (0 : EReal) := by
  split <;> show (((_ : ℕ) : ℝ) : EReal) = _ <;> simp

theorem eye_apply (a b : Fin 32) : (eye (ix2 a b) : EReal) = if a = b then 1 else 0 := by
  rw [← mask_eq, ← eq_eq]
  pointwise [eye]
  exact congrArg (fun z => FloatOps.uitofp FTy.f32 (IntOp.cmpi .eq z _)) (BitVec.add_zero _)

theorem corners_apply (w : FVec Ideal S8x128x128 .f32) (k : Fin 8) (p s : Fin 128) : (corners w (ix3 k p s) : EReal) =
    eye (ix2 ⟨p.val / 4, by omega⟩ ⟨s.val / 4, by omega⟩) * w (ix3 k ⟨p.val % 4, by omega⟩ ⟨s.val % 4, by omega⟩) := by
  pointwise [corners]

theorem both_zero (w : FVec Ideal S8x128x128 .f32) (k : Fin 8) (p s : Fin 128) : (both w (ix4 0 k p s) : EReal) = w (ix3 k p s) := by
  pointwise [both]

theorem both_one (w : FVec Ideal S8x128x128 .f32) (k : Fin 8) (p s : Fin 128) : (both w (ix4 1 k p s) : EReal) = corners w (ix3 k p s) := by
  pointwise [both]

def aU (r : Fin 8704) (l : Fin 6144) : EReal := (m (c, Proc.tc.devRef main_arg0) : S8704x6144.Idx → EReal) (ix2 r l)
def aV (r : Fin 8704) (l : Fin 6144) : EReal := (m (c, Proc.tc.devRef main_arg1) : S8704x6144.Idx → EReal) (ix2 r l)
def aW (k : Fin 8) (p s : Fin 128) : EReal := (tril (m (c, Proc.tc.devRef main_arg2)) : S8x128x128.Idx → EReal) (ix3 k p s)
def aS (k : Fin 8) (p : Fin 128) : EReal := (m (c, Proc.tc.devRef main_arg3) : S1x8x128.Idx → EReal) (ix3 0 k p)
def aG (l : Fin 6144) : EReal := (m (c, Proc.tc.devRef main_arg4) : S1x6144.Idx → EReal) (ix2 0 l)
def aB (l : Fin 6144) : EReal := (m (c, Proc.tc.devRef main_arg5) : S1x6144.Idx → EReal) (ix2 0 l)

theorem V_w : (V m c main_v19 : S2x8x128x128.Idx → EReal) = both (tril (m (c, Proc.tc.devRef main_arg2))) := by
  unfold V
  simp only [hostOps0, hostOps0_1, hostOps0_2, hostOps0_3, hostOps0_4, List.flatten_cons, List.flatten_nil, List.cons_append, List.nil_append, List.append_nil]
  after_results
  rfl

theorem V_s0 (k : Fin 8) (p : Fin 128) : (V m c main_v30 : S2x128x8.Idx → EReal) (ix3 0 p k) = aS m c k p := by
  refine Eq.trans (congrFun (?h : V m c main_v30 = ?X) _) ?_
  case h =>
    unfold V
    simp only [hostOps0, hostOps0_1, hostOps0_2, hostOps0_3, hostOps0_4, List.flatten_cons, List.flatten_nil, List.cons_append, List.nil_append, List.append_nil]
    after_results
  pointwise [StableHlo.TRef.toBuf, StableHlo.TRef.ofBuf, cast_eq]
  rfl

theorem V_s1 (k : Fin 8) (p : Fin 128) : (V m c main_v30 : S2x128x8.Idx → EReal) (ix3 1 p k) = aS m c k ⟨p.val % 4, by omega⟩ := by
  refine Eq.trans (congrFun (?h : V m c main_v30 = ?X) _) ?_
  case h =>
    unfold V
    simp only [hostOps0, hostOps0_1, hostOps0_2, hostOps0_3, hostOps0_4, List.flatten_cons, List.flatten_nil, List.cons_append, List.nil_append, List.append_nil]
    after_results
  pointwise [StableHlo.TRef.toBuf, StableHlo.TRef.ofBuf, cast_eq]
  rfl

theorem V_g (l : Fin 6144) : (V m c main_v33 : S1x6144.Idx → EReal) (ix2 0 l) = aG m c l := by
  refine Eq.trans (congrFun (?h : V m c main_v33 = ?X) _) ?_
  case h =>
    unfold V
    simp only [hostOps0, hostOps0_1, hostOps0_2, hostOps0_3, hostOps0_4, List.flatten_cons, List.flatten_nil, List.cons_append, List.nil_append, List.append_nil]
    after_results
  pointwise [StableHlo.TRef.toBuf, StableHlo.TRef.ofBuf, cast_eq]
  rfl

theorem V_b (l : Fin 6144) : (V m c main_v34 : S1x6144.Idx → EReal) (ix2 0 l) = aB m c l := by
  refine Eq.trans (congrFun (?h : V m c main_v34 = ?X) _) ?_
  case h =>
    unfold V
    simp only [hostOps0, hostOps0_1, hostOps0_2, hostOps0_3, hostOps0_4, List.flatten_cons, List.flatten_nil, List.cons_append, List.nil_append, List.append_nil]
    after_results
  pointwise [StableHlo.TRef.toBuf, StableHlo.TRef.ofBuf, cast_eq]
  rfl

/-! ## The blocks of point `t` -/

theorem N_eq : cfg0.N = 68 := by decide +kernel

/-- Which of the two matrices point `t` uses: the prompts' or the samples'. -/
def kind (t : ℕ) : ℕ := if 64 ≤ t then 1 else 0

theorem idx : ∀ t : Fin cfg0.N, win0_0.index t = ![t.val, 0] ∧ win0_1.index t = ![t.val, 0] ∧ win0_2.index t = ![kind t.val, 0, 0, 0] ∧
    win0_3.index t = ![kind t.val, 0, 0] ∧ win0_4.index t = ![0, 0] ∧ win0_5.index t = ![0, 0] ∧ win0_6.index t = ![t.val, 0] ∧
    win0_7.index t = ![t.val - 64, 0] :=
  (by decide +kernel : ∀ t : Fin grid0.N, _)

theorem late : ∀ t : Fin cfg0.N, (cfg0.win 7).flush t = true → 64 ≤ t.val :=
  (by decide +kernel : ∀ t : Fin grid0.N, _)

variable (t : Fin cfg0.N)

theorem t_lt : t.val < 68 := N_eq ▸ t.isLt

/-- The row of the whole that point `t` keeps at its row `p`. -/
def rowAt (p : Fin 128) : Fin 8704 := ⟨t.val * 128 + p.val, by have := t_lt t; omega⟩

def kindAt : Fin 2 := ⟨kind t.val, by unfold kind; split <;> omega⟩

theorem blk_u (p : Fin 128) (l : Fin 6144) : (iblk m c 0 t : S128x6144.Idx → EReal) (ix2 p l) =
    (V m c main_arg0 : S8704x6144.Idx → EReal) (ix2 (rowAt t p) l) := by
  blk_ext [iblk, idx t, rowAt]

theorem blk_v (p : Fin 128) (l : Fin 6144) : (iblk m c 1 t : S128x6144.Idx → EReal) (ix2 p l) =
    (V m c main_arg1 : S8704x6144.Idx → EReal) (ix2 (rowAt t p) l) := by
  blk_ext [iblk, idx t, rowAt]

theorem blk_w (k : Fin 8) (p s : Fin 128) : (iblk m c 2 t : S1x8x128x128.Idx → EReal) (ix4 0 k p s) =
    (V m c main_v19 : S2x8x128x128.Idx → EReal) (ix4 (kindAt t) k p s) := by
  blk_ext [iblk, idx t, kindAt]

theorem blk_s (k : Fin 8) (p : Fin 128) : (iblk m c 3 t : S1x128x8.Idx → EReal) (ix3 0 p k) =
    (V m c main_v30 : S2x128x8.Idx → EReal) (ix3 (kindAt t) p k) := by
  blk_ext [iblk, idx t, kindAt]

theorem blk_g (l : Fin 6144) : (iblk m c 4 t : S1x6144.Idx → EReal) (ix2 0 l) = (V m c main_v33 : S1x6144.Idx → EReal) (ix2 0 l) := by
  blk_ext [iblk, idx t]

theorem blk_b (l : Fin 6144) : (iblk m c 5 t : S1x6144.Idx → EReal) (ix2 0 l) = (V m c main_v34 : S1x6144.Idx → EReal) (ix2 0 l) := by
  blk_ext [iblk, idx t]

/-! ## The arrays after the run -/

/-- The gate's second half, normalised. -/
def aN : Fin 8704 → Fin 6144 → EReal := rowNorm (aV m c) (aG m c) (aB m c)

theorem norm_val (p : Fin 128) (l : Fin 6144) :
    blockNorm (iblk m c 1 t) (iblk m c 4 t) (iblk m c 5 t) p l = aN m c (rowAt t p) l := by
  have hg : (fun l => (iblk m c 4 t : S1x6144.Idx → EReal) (ix2 0 l)) = aG m c := funext fun l => (blk_g m c t l).trans (V_g m c l)
  have hb : (fun l => (iblk m c 5 t : S1x6144.Idx → EReal) (ix2 0 l)) = aB m c := funext fun l => (blk_b m c t l).trans (V_b m c l)
  have hv : (fun l => (iblk m c 1 t : S128x6144.Idx → EReal) (ix2 p l)) = aV m c (rowAt t p) :=
    funext fun l => (blk_v m c t p l).trans (congrFun (V_main_arg1 m c) _)
  unfold blockNorm aN rowNorm
  rw [hg, hb]
  exact congrArg (fun z => normRow _ _ z _ _ l) hv

theorem mix_val (p : Fin 128) (l : Fin 6144) :
    (∑ s : Fin 128, (both (tril (m (c, Proc.tc.devRef main_arg2))) (ix4 (kindAt t) (grp l) p s) : EReal) * aN m c (rowAt t s) l) +
      (V m c main_v30 : S2x128x8.Idx → EReal) (ix3 (kindAt t) p (grp l)) = mixed (aW m c) (aS m c) (aN m c) (rowAt t p) l := by
  have ht := t_lt t
  have hp : ∀ h, (⟨(rowAt t p).val % 128, h⟩ : Fin 128) = p := fun h => Fin.ext (by unfold rowAt; dsimp only; omega)
  by_cases h : t.val < 64
  · have hk : kindAt t = 0 := Fin.ext (by unfold kindAt kind; dsimp only; rw [if_neg (by omega)]; rfl)
    unfold mixed
    rw [if_pos (by unfold rowAt; dsimp only; omega), hk, V_s0, hp]
    refine congrArg (· + _) (Finset.sum_congr rfl fun s _ => ?_)
    rw [both_zero]
    exact congrArg (fun r => _ * aN m c r l) (Fin.ext (by unfold rowAt; dsimp only; omega))
  · have hk : kindAt t = 1 := Fin.ext (by unfold kindAt kind; dsimp only; rw [if_pos (by omega)]; rfl)
    have hq : ∀ h, (⟨(rowAt t p).val % 4, h⟩ : Fin 128) = ⟨p.val % 4, by omega⟩ := fun h => Fin.ext (by unfold rowAt; dsimp only; omega)
    unfold mixed
    rw [if_neg (by unfold rowAt; dsimp only; omega), hk, V_s1, hq]
    refine congrArg (· + _) ((sum_run ⟨p.val / 4, by omega⟩ _ fun s hs => ?_).trans (Finset.sum_congr rfl fun k _ => ?_))
    · rw [both_one, corners_apply, eye_apply, if_neg (fun e => hs (congrArg Fin.val e).symm), zero_mul, zero_mul]
    · rw [both_one, corners_apply, eye_apply, if_pos (Fin.ext (by dsimp only; omega)), one_mul]
      refine congrArg₂ (fun (a : Fin 128) (r : Fin 8704) => aW m c (grp l) ⟨p.val % 4, by omega⟩ a * aN m c r l) (Fin.ext ?_) (Fin.ext ?_)
      · dsimp only; omega
      · unfold rowAt; dsimp only; omega

theorem block_val (p : Fin 128) (l : Fin 6144) :
    blockMix (iblk m c 0 t) (iblk m c 1 t) (iblk m c 2 t) (iblk m c 3 t) (iblk m c 4 t) (iblk m c 5 t) p l =
      aU m c (rowAt t p) l * mixed (aW m c) (aS m c) (aN m c) (rowAt t p) l := by
  unfold blockMix
  simp only [norm_val]
  refine congrArg₂ (fun a b : EReal => a * b) ((blk_u m c t p l).trans (congrFun (V_main_arg0 m c) _)) (Eq.trans ?_ (mix_val m c t p l))
  refine congrArg₂ (fun a b : EReal => a + b) (Finset.sum_congr rfl fun s _ => ?_) (blk_s m c t (grp l) p)
  exact congrArg (· * _) ((blk_w m c t (grp l) p s).trans (congrFun (V_w m c) _))

def val (i : S8704x6144.Idx) : EReal := aU m c (i 0) (i 1) * mixed (aW m c) (aS m c) (aN m c) (i 0) (i 1)

/-- The samples' rows of the normalised half. -/
def valN (i : S512x6144.Idx) : EReal := aN m c (sampleRow (i 0)) (i 1)

theorem arr (i : S8704x6144.Idx) : ((dats m 0 c).arrAt 6 cfg0.N : S8704x6144.Idx → EReal) i = val m c i := by
  refine (dats m 0 c).arrAt_forall_of_covers 6 (fun i v => (v : EReal) = val m c i) (by decide +kernel) (fun t hf y => ?_) i
  have h0 : (win0_6.blk t).view.emb y 0 = rowAt t (y 0) := by apply Fin.ext; blk_simp [idx t, rowAt]
  have h1 : (win0_6.blk t).view.emb y 1 = y 1 := by apply Fin.ext; blk_simp [idx t]
  have hy : y = ix2 (y 0) (y 1) := funext fun a => match a with | 0 => rfl | 1 => rfl
  blk_simp
  unfold val
  rw [h0, h1, after0_6]
  exact (congrArg _ hy).trans ((block_apply _ _ _ _ _ _ (y 0) (y 1)).trans (block_val m c t (y 0) (y 1)))

theorem late_row (t : Fin cfg0.N) (ht : 64 ≤ t.val) (p : Fin 128) (q : Fin 512) (hq : q.val = (t.val - 64) * 128 + p.val) :
    sampleRow q = rowAt t p := Fin.ext (by unfold sampleRow rowAt; dsimp only; omega)

theorem arrN (i : S512x6144.Idx) : ((dats m 0 c).arrAt 7 cfg0.N : S512x6144.Idx → EReal) i = valN m c i := by
  refine (dats m 0 c).arrAt_forall_of_covers 7 (fun i v => (v : EReal) = valN m c i) (by decide +kernel) (fun t hf y => ?_) i
  have h0 : ((win0_7.blk t).view.emb y 0).val = (t.val - 64) * 128 + (y 0).val := by blk_simp [idx t]
  have h1 : (win0_7.blk t).view.emb y 1 = y 1 := by apply Fin.ext; blk_simp [idx t]
  have hy : y = ix2 (y 0) (y 1) := funext fun a => match a with | 0 => rfl | 1 => rfl
  blk_simp
  unfold valN
  rw [h1, after0_7]
  refine Eq.trans ?_ (congrArg (fun r => aN m c r (y 1)) (late_row t (late t hf) (y 0) _ h0)).symm
  exact (congrArg _ hy).trans ((blockNorm_apply _ _ _ _ _ _ (y 0) (y 1)).trans (norm_val m c t (y 0) (y 1)))

end Cert.Kernel8Ideal.Tiles
-- ==== Proof.MixRef.lean ====
module

public import proofs.«01_k».proof.Defs
public import proofs.«01_k».proof.Proof.Gen.Reference8Ideal.Run
public import proofs.«01_k».proof.Proof.Mix
public import Idealize.ShloMosaic.Lib.Claim

@[expose] public section

set_option maxRecDepth 65536

noncomputable section

namespace Cert.Reference8Ideal.Tiles

open Cert.Reference8Ideal Cert.Reference8Ideal.Gen Idealize.ShloMosaic Idealize.ShloMosaic.TcCoe Idealize.SL.Sem MatMul TokenMix
open Cert.Kernel8Ideal.Tiles (tril)

/-! ## The reference -/

def means (y : FVec Ideal S8704x6144 .f32) : FVec Ideal S8704x1 .f32 :=
  Host.divf (broadcastInDim S8704x1 ![0] bcast_S8704_S8704x1_0 (Host.reduceAdd y (constant S_ .f32 0x00000000#32) reducesTo_S8704x6144_S8704_d1 h_S_))
    (broadcastInDim S8704x1 ![] bcast_S_S8704x1 (constant S_ .f32 0x45C00000#32))

def centred (y : FVec Ideal S8704x6144 .f32) : FVec Ideal S8704x6144 .f32 :=
  subf y (broadcastInDim S8704x6144 ![0, 1] bcast_S8704x1_S8704x6144_0_1 (means y))

def normed (y : FVec Ideal S8704x6144 .f32) (g b : FVec Ideal S1x6144 .f32) : FVec Ideal S8704x6144 .f32 :=
  addf (mulf (mulf (centred y) (broadcastInDim S8704x6144 ![0, 1] bcast_S8704x1_S8704x6144_0_1 (Host.rsqrt (addf (means (mulf (centred y) (centred y)))
      (broadcastInDim S8704x1 ![] bcast_S_S8704x1 (constant S_ .f32 0x3727C5AC#32))))))
    (broadcastInDim S8704x6144 ![0, 1] bcast_S1x6144_S8704x6144_0_1 (broadcastInDim S1x6144 ![1] bcast_S6144_S1x6144_1 (shapeCast _ g shapeCasts_S1x6144_S6144))))
    (broadcastInDim S8704x6144 ![0, 1] bcast_S1x6144_S8704x6144_0_1 (broadcastInDim S1x6144 ![1] bcast_S6144_S1x6144_1 (shapeCast _ b shapeCasts_S1x6144_S6144)))

theorem means_apply (y : FVec Ideal S8704x6144 .f32) (r : Fin 8704) :
    (means y (ix2 r 0) : EReal) = mean (Ideal.ofBits .f32 0x45C00000#32) (fun l => y (ix2 r l)) := by
  pointwise [means]
  rfl

theorem centred_apply (y : FVec Ideal S8704x6144 .f32) (r : Fin 8704) (l : Fin 6144) :
    (centred y (ix2 r l) : EReal) = y (ix2 r l) - mean (Ideal.ofBits .f32 0x45C00000#32) (fun l => y (ix2 r l)) := by
  rw [← means_apply]
  pointwise [centred]

theorem normed_apply (y : FVec Ideal S8704x6144 .f32) (g b : FVec Ideal S1x6144 .f32) (r : Fin 8704) (l : Fin 6144) :
    (normed y g b (ix2 r l) : EReal) = rowNorm (fun r l => y (ix2 r l)) (fun l => g (ix2 0 l)) (fun l => b (ix2 0 l)) r l := by
  unfold rowNorm normRow
  rw [← centred_apply]
  simp only [← centred_apply]
  refine Eq.trans ?_ (congrArg (fun z : EReal => (centred y (ix2 r l) : EReal) * Ideal.rsqrt (z + _) * g (ix2 0 l) + b (ix2 0 l))
    (means_apply (mulf (centred y) (centred y)) r))
  pointwise [normed]

/-- The prompts' rows, as batches of sequences. -/
def promptRows (n : FVec Ideal S8704x6144 .f32) : FVec Ideal S4x2048x6144 .f32 :=
  shapeCast _ (extractStridedSlice S8192x6144 ![0, 0] n slices_S8704x6144_S8192x6144_0_0) shapeCasts_S8192x6144_S4x2048x6144

/-- Prompts fill their chunks: no token is added. -/
def padded (x : FVec Ideal S4x2048x6144 .f32) : FVec Ideal S4x2048x6144 .f32 :=
  pad S4x2048x6144 ![0, 0, 0] ![0, 0, 0] ![0, 0, 0] x (sitofp .f32 (constantI S_ 32 0#32)) pads_S4x2048x6144_S4x2048x6144_000_000_000 h_S_

/-- The rows by chunks of 128 tokens and groups of lanes. -/
def chunks (x : FVec Ideal S4x2048x6144 .f32) : FVec Ideal S4x16x128x8x768 .f32 :=
  shapeCast _ x shapeCasts_S4x2048x6144_S4x16x128x8x768

def mixChunks (x : FVec Ideal S4x16x128x8x768 .f32) (w : FVec Ideal S8x128x128 .f32) (b : FVec Ideal S1x8x128 .f32) : FVec Ideal S4x16x128x8x768 .f32 :=
  addf (transpose S4x16x128x8x768 [1, 2, 4, 0, 3] (Host.dotGeneral (φ₁ := .f32) (φ₂ := .f32) dot_S4x16x128x8x768_S8x128x128_S8x4x16x768x128_2_2_014_1_3_0 none
      x w) transposes_S8x4x16x768x128_S4x16x128x8x768_1_2_4_0_3)
    (broadcastInDim S4x16x128x8x768 ![0, 1, 2, 3, 4] bcast_S1x1x128x8x1_S4x16x128x8x768_0_1_2_3_4 (broadcastInDim S1x1x128x8x1 ![2, 3] bcast_S128x8_S1x1x128x8x1_2_3
      (transpose S128x8 [1, 0] (shapeCast _ b shapeCasts_S1x8x128_S8x128) transposes_S8x128_S128x8_1_0)))

/-- The prompts' rows, mixed. -/
def prompts (n : FVec Ideal S8704x6144 .f32) (w : FVec Ideal S8x128x128 .f32) (b : FVec Ideal S1x8x128 .f32) : FVec Ideal S8192x6144 .f32 :=
  shapeCast _ (shapeCast _ (mixChunks (chunks (padded (promptRows n))) w b) shapeCasts_S4x16x128x8x768_S4x2048x6144) shapeCasts_S4x2048x6144_S8192x6144

theorem promptRows_apply (n : FVec Ideal S8704x6144 .f32) (a : Fin 4) (t : Fin 2048) (l : Fin 6144) :
    (promptRows n (ix3 a t l) : EReal) = n (ix2 ⟨a.val * 2048 + t.val, by omega⟩ l) := by
  pointwise [promptRows]

theorem padded_apply (x : FVec Ideal S4x2048x6144 .f32) (a : Fin 4) (t : Fin 2048) (l : Fin 6144) :
    (padded x (ix3 a t l) : EReal) = x (ix3 a t l) := by
  pointwise [padded]

theorem chunks_apply (x : FVec Ideal S4x2048x6144 .f32) (a : Fin 4) (c : Fin 16) (s : Fin 128) (k : Fin 8) (d : Fin 768) :
    (chunks x (ix5 a c s k d) : EReal) = x (ix3 a ⟨c.val * 128 + s.val, by omega⟩ (lane k d)) := by
  pointwise [chunks]
  rfl

theorem mixChunks_apply (x : FVec Ideal S4x16x128x8x768 .f32) (w : FVec Ideal S8x128x128 .f32) (b : FVec Ideal S1x8x128 .f32)
    (a : Fin 4) (c : Fin 16) (p : Fin 128) (k : Fin 8) (d : Fin 768) :
    (mixChunks x w b (ix5 a c p k d) : EReal) = (∑ s : Fin 128, x (ix5 a c s k d) * w (ix3 k p s)) + b (ix3 0 k p) := by
  pointwise [mixChunks]

/-- The samples' rows, mixed. -/
def samples (n : FVec Ideal S8704x6144 .f32) (w : FVec Ideal S8x128x128 .f32) (b : FVec Ideal S1x8x128 .f32) : FVec Ideal S512x6144 .f32 :=
  shapeCast _ (extractStridedSlice S128x4x6144 ![0, 0, 0] (shapeCast _ (addf (transpose S128x1x128x8x768 [1, 2, 4, 0, 3] (Host.dotGeneral (φ₁ := .f32) (φ₂ := .f32) dot_S128x1x128x8x768_S8x128x128_S8x128x1x768x128_2_2_014_1_3_0 none
      (shapeCast _ (pad S128x128x6144 ![0, 0, 0] ![0, 124, 0] ![0, 0, 0] (shapeCast _ (extractStridedSlice S512x6144 ![8192, 0] n slices_S8704x6144_S512x6144_8192_0) shapeCasts_S512x6144_S128x4x6144)
        (sitofp .f32 (constantI S_ 32 0#32)) pads_S128x4x6144_S128x128x6144_000_01240_000 h_S_) shapeCasts_S128x128x6144_S128x1x128x8x768) w) transposes_S8x128x1x768x128_S128x1x128x8x768_1_2_4_0_3)
    (broadcastInDim S128x1x128x8x768 ![0, 1, 2, 3, 4] bcast_S1x1x128x8x1_S128x1x128x8x768_0_1_2_3_4 (broadcastInDim S1x1x128x8x1 ![2, 3] bcast_S128x8_S1x1x128x8x1_2_3
      (transpose S128x8 [1, 0] (shapeCast _ b shapeCasts_S1x8x128_S8x128) transposes_S8x128_S128x8_1_0)))) shapeCasts_S128x1x128x8x768_S128x128x6144)
      slices_S128x128x6144_S128x4x6144_0_0_0) shapeCasts_S128x4x6144_S512x6144

def out (u : FVec Ideal S8704x6144 .bf16) (n : FVec Ideal S8704x6144 .f32) (w : FVec Ideal S8x128x128 .f32) (b : FVec Ideal S1x8x128 .f32) :
    FVec Ideal S8704x6144 .bf16 :=
  truncf .bf16 (mulf (extf .f32 u bitsLt_bf16_f32) (concatenate S8704x6144 0 [⟨S8192x6144, prompts n w b⟩, ⟨S512x6144, samples n w b⟩]
    concatenates_S8192x6144_S512x6144_S8704x6144_d0)) bitsLt_bf16_f32

theorem prompts_apply (n : FVec Ideal S8704x6144 .f32) (w : FVec Ideal S8x128x128 .f32) (b : FVec Ideal S1x8x128 .f32) (r : Fin 8192) (l : Fin 6144) :
    (prompts n w b (ix2 r l) : EReal) = (∑ s : Fin 128, w (ix3 (grp l) ⟨r.val % 128, by omega⟩ s) * n (ix2 ⟨r.val / 128 * 128 + s.val, by omega⟩ l)) +
      b (ix3 0 (grp l) ⟨r.val % 128, by omega⟩) := by
  have e : (prompts n w b (ix2 r l) : EReal) = mixChunks (chunks (padded (promptRows n))) w b
      (ix5 ⟨r.val / 2048, by omega⟩ ⟨r.val / 128 % 16, by omega⟩ ⟨r.val % 128, by omega⟩ (grp l) ⟨l.val % 768, by omega⟩) := by
    pointwise [prompts]
    rfl
  rw [e, mixChunks_apply]
  refine congrArg (· + _) (Finset.sum_congr rfl fun s _ => ?_)
  rw [chunks_apply, padded_apply, promptRows_apply, mul_comm]
  refine congrArg₂ (fun (a : Fin 8704) (j : Fin 6144) => w (ix3 (grp l) ⟨r.val % 128, by omega⟩ s) * (n (ix2 a j) : EReal)) (Fin.ext ?_) (Fin.ext ?_)
  · dsimp only; omega
  · unfold lane grp; dsimp only; omega

theorem samples_apply (n : FVec Ideal S8704x6144 .f32) (w : FVec Ideal S8x128x128 .f32) (b : FVec Ideal S1x8x128 .f32) (r : Fin 512) (l : Fin 6144) :
    (samples n w b (ix2 r l) : EReal) = (∑ s : Fin 4, w (ix3 (grp l) ⟨r.val % 4, by omega⟩ ⟨s.val, by omega⟩) * n (ix2 (sampleRow ⟨r.val / 4 * 4 + s.val, by omega⟩) l)) +
      b (ix3 0 (grp l) ⟨r.val % 4, by omega⟩) := by
  have hz : (FloatOps.sitofp FTy.f32 0#32 : Ideal FTy.f32) = (0 : EReal) := by show (((_ : ℤ) : ℝ) : EReal) = _; simp
  pointwise [samples]
  refine congrArg₂ (fun a b : EReal => a + b) (((congrArg₂ (fun a b : EReal => a + b) (Finset.sum_congr rfl fun s _ => ?_)
    (Finset.sum_eq_zero fun s _ => ?_))).trans (add_zero _)) rfl
  · rw [dif_pos (by omega), mul_comm]
    rfl
  · rw [dif_neg (fun h => h.2), hz, zero_mul]

theorem out_apply (u : FVec Ideal S8704x6144 .bf16) (n : FVec Ideal S8704x6144 .f32) (w : FVec Ideal S8x128x128 .f32) (b : FVec Ideal S1x8x128 .f32) (r : Fin 8704) (l : Fin 6144) :
    (out u n w b (ix2 r l) : EReal) = u (ix2 r l) * mixed (fun k p s => w (ix3 k p s)) (fun k p => b (ix3 0 k p)) (fun r l => n (ix2 r l)) r l := by
  pointwise [out]
  refine congrArg (fun z : EReal => (u (ix2 r l) : EReal) * z) ?_
  unfold mixed
  by_cases h : r.val < 8192
  · rw [dif_pos h, if_pos h, prompts_apply]
  · rw [dif_neg h, if_neg h, samples_apply]
    refine congrArg₂ (fun a b : EReal => a + b) (Finset.sum_congr rfl fun s _ => ?_) ?_
    · refine congrArg₂ (fun (p : Fin 128) (a : Fin 8704) => (w (ix3 (grp l) p ⟨s.val, by omega⟩) : EReal) * n (ix2 a l)) (Fin.ext ?_) (Fin.ext ?_)
      · dsimp only; omega
      · unfold sampleRow; dsimp only; omega
    · exact congrArg (fun p : Fin 128 => (b (ix3 0 (grp l) p) : EReal)) (Fin.ext (by dsimp only; omega))

variable (m : (ℓ : Loc nD τ sig) → Buf (Elt Ideal) ℓ) (c : Dev nD)

theorem out_eq : Value.res_out0 m c = out (m ((c.tc : Thread nD τ).loc main_arg0))
    (normed (m ((c.tc : Thread nD τ).loc main_arg1)) (m ((c.tc : Thread nD τ).loc main_arg4)) (m ((c.tc : Thread nD τ).loc main_arg5)))
    (tril (m ((c.tc : Thread nD τ).loc main_arg2))) (m ((c.tc : Thread nD τ).loc main_arg3)) := by
  unfold Value.res_out0 Value.res_main_v62
  rfl

def aU (r : Fin 8704) (l : Fin 6144) : EReal := (m ((c.tc : Thread nD τ).loc main_arg0) : S8704x6144.Idx → EReal) (ix2 r l)
def aV (r : Fin 8704) (l : Fin 6144) : EReal := (m ((c.tc : Thread nD τ).loc main_arg1) : S8704x6144.Idx → EReal) (ix2 r l)
def aW (k : Fin 8) (p s : Fin 128) : EReal := (tril (m ((c.tc : Thread nD τ).loc main_arg2)) : S8x128x128.Idx → EReal) (ix3 k p s)
def aS (k : Fin 8) (p : Fin 128) : EReal := (m ((c.tc : Thread nD τ).loc main_arg3) : S1x8x128.Idx → EReal) (ix3 0 k p)
def aG (l : Fin 6144) : EReal := (m ((c.tc : Thread nD τ).loc main_arg4) : S1x6144.Idx → EReal) (ix2 0 l)
def aB (l : Fin 6144) : EReal := (m ((c.tc : Thread nD τ).loc main_arg5) : S1x6144.Idx → EReal) (ix2 0 l)

theorem norm_val : (fun r l => (normed (m ((c.tc : Thread nD τ).loc main_arg1)) (m ((c.tc : Thread nD τ).loc main_arg4)) (m ((c.tc : Thread nD τ).loc main_arg5))
    (ix2 r l) : EReal)) = rowNorm (aV m c) (aG m c) (aB m c) :=
  funext fun r => funext fun l => normed_apply _ _ _ r l

theorem out_val (r : Fin 8704) (l : Fin 6144) :
    (Value.res_out0 m c (ix2 r l) : EReal) = aU m c r l * mixed (aW m c) (aS m c) (rowNorm (aV m c) (aG m c) (aB m c)) r l := by
  rw [out_eq, ← norm_val]
  exact out_apply _ _ _ _ r l

theorem outN_apply (y : FVec Ideal S8704x6144 .f32) (p : Fin 512) (l : Fin 6144) :
    (extractStridedSlice S512x6144 ![8192, 0] y slices_S8704x6144_S512x6144_8192_0 (ix2 p l) : EReal) = y (ix2 (sampleRow p) l) := by
  pointwise
  rfl

theorem outN_val (p : Fin 512) (l : Fin 6144) :
    (extractStridedSlice S512x6144 ![8192, 0] (normed (m ((c.tc : Thread nD τ).loc main_arg1)) (m ((c.tc : Thread nD τ).loc main_arg4))
      (m ((c.tc : Thread nD τ).loc main_arg5))) slices_S8704x6144_S512x6144_8192_0 (ix2 p l) : EReal) =
      rowNorm (aV m c) (aG m c) (aB m c) (sampleRow p) l :=
  (outN_apply _ p l).trans (congrFun (congrFun (norm_val m c) _) _)

end Cert.Reference8Ideal.Tiles

namespace Cert.Kernel8Ideal.Tiles

open Cert.Kernel8Ideal Idealize.ShloMosaic Idealize.ShloMosaic.TcCoe Idealize.SL.Sem MatMul TokenMix

theorem frame_reference : Cert.quiescent_Reference8Ideal (hReference8Ideal := Cert.Reference8Ideal.Gen.facts) :=
  fun m ρ _ => (θ_run _ _ _).mono (fun r h => ⟨fun c => (h c).2.2, sem_eq_zero_of_no_sems (by decide) r.2⟩)
    (Cert.Reference8Ideal.Value.run m ρ)

theorem preserves : Cert.preserves_Kernel8_Kernel8Ideal := trivial

/-- Both programs leave the gate's product and the samples' rows of its normalised half. -/
theorem algebraic : Cert.algebraic_Kernel8Ideal_Reference8Ideal (hKernel8Ideal := Cert.Kernel8Ideal.Gen.facts)
    (hReference8Ideal := Cert.Reference8Ideal.Gen.facts) := by
  intro m g m' g' _ hin
  refine ⟨val m, valN m, ?_, ?_⟩
  · refine (θ_run _ _ _).mono (fun r h c => ?_) (Cert.Kernel8Ideal.Value.run_blocks m g)
    exact ⟨(h c).1.trans (funext (arr m c)), (h c).2.1.trans (funext (arrN m c)), (h c).2.2⟩
  · refine (θ_run _ _ _).mono (fun r h c => ?_) (Cert.Reference8Ideal.Value.run m' g')
    obtain ⟨e0, e1, e2, e3, e4, e5⟩ := hin c
    have eU : Cert.Reference8Ideal.Tiles.aU m' c = aU m c := funext fun a => funext fun b => congrFun e0 _
    have eV : Cert.Reference8Ideal.Tiles.aV m' c = aV m c := funext fun a => funext fun b => congrFun e1 _
    have eW : Cert.Reference8Ideal.Tiles.aW m' c = aW m c := funext fun a => funext fun b => funext fun d => congrFun (congrArg tril e2) _
    have eS : Cert.Reference8Ideal.Tiles.aS m' c = aS m c := funext fun a => funext fun b => congrFun e3 _
    have eG : Cert.Reference8Ideal.Tiles.aG m' c = aG m c := funext fun a => congrFun e4 _
    have eB : Cert.Reference8Ideal.Tiles.aB m' c = aB m c := funext fun a => congrFun e5 _
    have hi : ∀ i : S8704x6144.Idx, i = ix2 (i 0) (i 1) := fun i => funext fun a => match a with | 0 => rfl | 1 => rfl
    have hj : ∀ i : S512x6144.Idx, i = ix2 (i 0) (i 1) := fun i => funext fun a => match a with | 0 => rfl | 1 => rfl
    refine ⟨(h c).1.trans (funext fun i => ?_), (h c).2.1.trans (funext fun i => ?_), (h c).2.2⟩
    · refine (congrArg _ (hi i)).trans ((Cert.Reference8Ideal.Tiles.out_val m' c (i 0) (i 1)).trans ?_)
      rw [eU, eV, eW, eS, eG, eB]
      rfl
    · refine (congrArg _ (hj i)).trans ((Cert.Reference8Ideal.Tiles.outN_val m' c (i 0) (i 1)).trans ?_)
      rw [eV, eG, eB]
      rfl

end Cert.Kernel8Ideal.Tiles
-- ==== Proof.PromptHeads.lean ====
module

public import proofs.«01_k».proof.Proof.Gen.Kernel9Ideal.Value
public import Idealize.ShloMosaic.Lib.Tactic
public import Idealize.ShloMosaic.Lib.Pipeline.ReadBack
public import Idealize.ShloMosaic.Lib.Pointwise
public import Mathlib.Tactic.IntervalCases

@[expose] public section

set_option maxRecDepth 65536

noncomputable section

namespace Cert.Kernel9Ideal.Heads

open Cert.Kernel9Ideal Cert.Kernel9Ideal.Gen Idealize.ShloMosaic Idealize.ShloMosaic.TcCoe Idealize.SL.Sem

variable {F : FTy → Type} [FloatOps F]

variable (x0 : Vec F S1x256x1024 .f32) (x1 : Vec F S1x256x1024 .f32) (x2 : Vec F S1x256x2048 .f32) (x3 : Vec F S1x256x2048 .f32)
  (x4 : Vec F S1x256x128 .f32) (x5 : Vec F S1x16x256 .f32) (x6 : Vec F S1x8x128x256 .f32) (x7 : Vec F S1x8x1x128 .f32)
  (x8 : Vec F S1x8x1x128 .f32) (x9 : Vec F S8x1x256 .f32)
/-! ## What head `h` reads of the blocks -/

theorem inbK (h : ℕ) (hh : h < 8) : ∀ a, (![0, 0, h * 128] : Fin 3 → ℕ) a + (![1, 256, 128] : Fin 3 → ℕ) a ≤ S1x256x1024.size a := by
  intro a; fin_cases a <;> simp [S1x256x1024]; omega

theorem inbV (h : ℕ) (hh : h < 8) : ∀ a, (![0, 0, h * 256] : Fin 3 → ℕ) a + (![1, 256, 256] : Fin 3 → ℕ) a ≤ S1x256x2048.size a := by
  intro a; fin_cases a <;> simp [S1x256x2048]; omega

theorem inbC (h : ℕ) (hh : h < 8) : ∀ a, (![0, h, 0, 0] : Fin 4 → ℕ) a + (![1, 1, 128, 256] : Fin 4 → ℕ) a ≤ S1x8x128x256.size a := by
  intro a; fin_cases a <;> simp [S1x8x128x256]; omega

theorem inbN (h : ℕ) (hh : h < 8) : ∀ a, (![0, h, 0, 0] : Fin 4 → ℕ) a + (![1, 1, 1, 128] : Fin 4 → ℕ) a ≤ S1x8x1x128.size a := by
  intro a; fin_cases a <;> simp [S1x8x1x128]; omega

theorem inbG (h : ℕ) (hh : h < 8) : ∀ a, (![h, 0, 0] : Fin 3 → ℕ) a + (![1, 1, 256] : Fin 3 → ℕ) a ≤ S8x1x256.size a := by
  intro a; fin_cases a <;> simp [S8x1x256]; omega

theorem sl0 (h : ℕ) (hh : h < 8) : S256x128.Slices ![0, 8 + h] S256x1 := by interval_cases h <;> decide
theorem sl1 (h : ℕ) (hh : h < 8) : S16x256.Slices ![8 + h, 0] S1x256 := by interval_cases h <;> decide
theorem sl2 (h : ℕ) (hh : h < 8) : S256x128.Slices ![0, h] S256x1 := by interval_cases h <;> decide
theorem sl3 (h : ℕ) (hh : h < 8) : S16x256.Slices ![h, 0] S1x256 := by interval_cases h <;> decide
variable (h : ℕ) (hh : h < 8)

/-- The head's queries. -/
def qH : FVec F S256x128 .f32 := k0_pay10 (View.ld x0 (Rect.unit ![0, 0, h * 128] ![1, 256, 128] (inbK h hh)))

/-- The head's keys, scaled. -/
def kH : FVec F S256x128 .f32 := k0_pay12 (k0_pay11 (View.ld x1 (Rect.unit ![0, 0, h * 128] ![1, 256, 128] (inbK h hh))))

/-- The head's values. -/
def vH : FVec F S256x256 .bf16 := k0_pay13 (View.ld x2 (Rect.unit ![0, 0, h * 256] ![1, 256, 256] (inbV h hh)))

/-- The running sums of the head's forget gate, a column. -/
def bCol : FVec F S256x1 .f32 :=
  extractStridedSlice S256x1 ![0, 8 + h]
    (k0_pay8 (View.ld x4 (Rect.unit ![0, 0, 0] ![1, 256, 128] inb_S1x256x128_S1x256x128_0_0_0))) (sl0 h hh)

/-- The running sums of the head's forget gate, a row. -/
def bRow : FVec F S1x256 .f32 :=
  extractStridedSlice S1x256 ![8 + h, 0]
    (k0_pay9 (View.ld x5 (Rect.unit ![0, 0, 0] ![1, 16, 256] inb_S1x16x256_S1x16x256_0_0_0))) (sl1 h hh)

/-- The head's input gate, a column. -/
def iCol : FVec F S256x1 .f32 :=
  extractStridedSlice S256x1 ![0, h]
    (k0_pay6 (View.ld x4 (Rect.unit ![0, 0, 0] ![1, 256, 128] inb_S1x256x128_S1x256x128_0_0_0))) (sl2 h hh)

/-- The head's input gate, a row. -/
def iRow : FVec F S1x256 .f32 :=
  extractStridedSlice S1x256 ![h, 0]
    (k0_pay7 (View.ld x5 (Rect.unit ![0, 0, 0] ![1, 16, 256] inb_S1x16x256_S1x16x256_0_0_0))) (sl3 h hh)

/-- The head's state before the chunk, of the state of all heads: the matrix, the vector and the level. -/
def cH : Vec F S1x1x128x256 .f32 :=
  View.ld (Val := Elt F) (e' := .f32) (S := S1x8x128x256) x6 (Rect.unit ![0, h, 0, 0] ![1, 1, 128, 256] (inbC h hh))
def nH : Vec F S1x1x1x128 .f32 :=
  View.ld (Val := Elt F) (e' := .f32) (S := S1x8x1x128) x7 (Rect.unit ![0, h, 0, 0] ![1, 1, 1, 128] (inbN h hh))
def mH : Vec F S1x1x1x128 .f32 :=
  View.ld (Val := Elt F) (e' := .f32) (S := S1x8x1x128) x8 (Rect.unit ![0, h, 0, 0] ![1, 1, 1, 128] (inbN h hh))

/-! ## What head `h` stores -/

/-- The new level. -/
def outM : FVec F S1x1x1x128 .f32 :=
  k0_pay190 (k0_pay52 (bCol (F := F) x4 h hh) (bRow (F := F) x5 h hh) (iRow (F := F) x5 h hh) (mH (F := F) x8 h hh))

/-- The keys, each weighted by what is left of it at the end of the chunk. -/
def kwH : FVec F S256x128 .f32 :=
  k0_pay186 (kH (F := F) x1 h hh) (k0_pay56 (bCol (F := F) x4 h hh) (bRow (F := F) x5 h hh) (iCol (F := F) x4 h hh) (iRow (F := F) x5 h hh) (mH (F := F) x8 h hh))

/-- The new vector. -/
def outN : FVec F S1x1x1x128 .f32 :=
  k0_pay189 (k0_pay57 (bCol (F := F) x4 h hh) (bRow (F := F) x5 h hh) (iRow (F := F) x5 h hh) (mH (F := F) x8 h hh)) (kwH (F := F) x1 x4 x5 x8 h hh) (nH (F := F) x7 h hh)

/-- The new matrix. -/
def outC : FVec F S1x1x128x256 .f32 :=
  k0_pay188 (k0_pay187 (kH (F := F) x1 h hh) (vH (F := F) x2 h hh)
    (k0_pay56 (bCol (F := F) x4 h hh) (bRow (F := F) x5 h hh) (iCol (F := F) x4 h hh) (iRow (F := F) x5 h hh) (mH (F := F) x8 h hh))
    (k0_pay57 (bCol (F := F) x4 h hh) (bRow (F := F) x5 h hh) (iRow (F := F) x5 h hh) (mH (F := F) x8 h hh)) (cH (F := F) x6 h hh))

/-- What the head reads out of its state and its tokens. -/
def hvalH : FVec F S256x256 .f32 :=
  k0_pay166 (qH (F := F) x0 h hh) (vH (F := F) x2 h hh) (k0_pay35 (qH (F := F) x0 h hh) (kH (F := F) x1 h hh))
    (k0_pay53 k0_pay5 (bCol (F := F) x4 h hh) (bRow (F := F) x5 h hh) (iRow (F := F) x5 h hh) (mH (F := F) x8 h hh))
    (k0_pay54 k0_pay5 (bCol (F := F) x4 h hh) (bRow (F := F) x5 h hh) (iRow (F := F) x5 h hh) (mH (F := F) x8 h hh))
    (k0_pay55 k0_pay5 (bCol (F := F) x4 h hh) (bRow (F := F) x5 h hh) (iRow (F := F) x5 h hh) (mH (F := F) x8 h hh))
    (k0_pay165 (cH (F := F) x6 h hh)) (nH (F := F) x7 h hh)

/-- The read-out after its gate and its norm. -/
def outH : FVec F S1x256x256 .bf16 :=
  k0_pay225 (k0_pay223 (hvalH (F := F) x0 x1 x2 x4 x5 x6 x7 x8 h hh) (View.ld x3 (Rect.unit ![0, 0, h * 256] ![1, 256, 256] (inbV h hh))))
    (k0_pay224 (hvalH (F := F) x0 x1 x2 x4 x5 x6 x7 x8 h hh) (View.ld x3 (Rect.unit ![0, 0, h * 256] ![1, 256, 256] (inbV h hh))))
    (View.ld x9 (Rect.unit ![h, 0, 0] ![1, 1, 256] (inbG h hh)))

/-! ## The stores of one point, last first -/

def pieceM (k : Fin 8) : View.Piece (Elt F) S1x8x1x128 .f32 :=
  ⟨Rect.unit ![0, k.val, 0, 0] ![1, 1, 1, 128] (inbN k.val k.isLt), outM x4 x5 x8 k.val k.isLt⟩
def pieceN (k : Fin 8) : View.Piece (Elt F) S1x8x1x128 .f32 :=
  ⟨Rect.unit ![0, k.val, 0, 0] ![1, 1, 1, 128] (inbN k.val k.isLt), outN x1 x4 x5 x7 x8 k.val k.isLt⟩
def pieceC (k : Fin 8) : View.Piece (Elt F) S1x8x128x256 .f32 :=
  ⟨Rect.unit ![0, k.val, 0, 0] ![1, 1, 128, 256] (inbC k.val k.isLt), outC x1 x2 x4 x5 x6 x8 k.val k.isLt⟩
def pieceH (k : Fin 8) : View.Piece (Elt F) S1x256x2048 .bf16 :=
  ⟨Rect.unit ![0, 0, k.val * 256] ![1, 256, 256] (inbV k.val k.isLt), outH x0 x1 x2 x3 x4 x5 x6 x7 x8 x9 k.val k.isLt⟩

/-- The eight heads, last first. -/
def lastFirst {α : Type*} (p : Fin 8 → α) : List α := [p 7, p 6, p 5, p 4, p 3, p 2, p 1, p 0]

/-- The state before a sequence's first chunk. -/
def startC : Vec F S1x8x128x256 .f32 :=
  k0_pay2 (View.ld x6 (Rect.unit ![0, 0, 0, 0] ![1, 8, 128, 256] inb_S1x8x128x256_S1x8x128x256_0_0_0_0))
def startN : Vec F S1x8x1x128 .f32 :=
  k0_pay3 (View.ld x7 (Rect.unit ![0, 0, 0, 0] ![1, 8, 1, 128] inb_S1x8x1x128_S1x8x1x128_0_0_0_0))
def startM : Vec F S1x8x1x128 .f32 :=
  k0_pay4 (View.ld x8 (Rect.unit ![0, 0, 0, 0] ![1, 8, 1, 128] inb_S1x8x1x128_S1x8x1x128_0_0_0_0))

section Stores

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x128 .f32) (harg6 : arg6.IsWhole) (arg7 : Memref sig .tc .vmem S1x16x256 .f32) (harg7 : arg7.IsWhole) (arg8 : Memref sig .tc .vmem S1x8x128x256 .f32) (harg8 : arg8.IsWhole) (arg9 : Memref sig .tc .vmem S1x8x1x128 .f32) (harg9 : arg9.IsWhole) (arg10 : Memref sig .tc .vmem S1x8x1x128 .f32) (harg10 : arg10.IsWhole) (arg11 : Memref sig .tc .vmem S8x1x256 .f32) (harg11 : arg11.IsWhole) (arg12 : Memref sig .tc .vmem S1x256x2048 .bf16) (harg12 : arg12.IsWhole) (arg13 : Memref sig .tc .vmem S1x8x128x256 .f32) (harg13 : arg13.IsWhole) (arg14 : Memref sig .tc .vmem S1x8x1x128 .f32) (harg14 : arg14.IsWhole) (arg15 : Memref sig .tc .vmem S1x8x1x128 .f32) (harg15 : arg15.IsWhole) (hc0 : cond0_0 i) (hc1 : ¬cond0_0 i)
  (y6 : Vec F S1x8x128x256 .f32) (y7 : Vec F S1x8x1x128 .f32) (y8 : Vec F S1x8x1x128 .f32)

theorem firstM : out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceM x4 x5 (startM x8)) ++ [⟨Rect.unit ![0, 0, 0, 0] ![1, 8, 1, 128] inb_S1x8x1x128_S1x8x1x128_0_0_0_0, startM x8⟩]) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

theorem firstN : out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceN x1 x4 x5 (startN x7) (startM x8)) ++ [⟨Rect.unit ![0, 0, 0, 0] ![1, 8, 1, 128] inb_S1x8x1x128_S1x8x1x128_0_0_0_0, startN x7⟩]) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

theorem firstC : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceC x1 x2 x4 x5 (startC x6) (startM x8)) ++ [⟨Rect.unit ![0, 0, 0, 0] ![1, 8, 128, 256] inb_S1x8x128x256_S1x8x128x256_0_0_0_0, startC x6⟩]) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

theorem firstH : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
    View.canon (lastFirst (pieceH x0 x1 x2 x3 x4 x5 (startC x6) (startN x7) (startM x8) x9) ++ []) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread,
    ↓View.readCov_skip, ↓View.readCov_fill]
  rfl

theorem laterM : out0_B_13 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8 =
    View.canon (lastFirst (pieceM x4 x5 y8) ++ []) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  rfl

theorem laterN : out0_B_12 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8 =
    View.canon (lastFirst (pieceN x1 x4 x5 y7 y8) ++ []) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  rfl

theorem laterC : out0_B_11 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8 =
    View.canon (lastFirst (pieceC x1 x2 x4 x5 y6 y8) ++ []) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  rfl

theorem laterH : out0_B_10 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8 =
    View.canon (lastFirst (pieceH x0 x1 x2 x3 x4 x5 y6 y7 y8 x9) ++ []) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 x4 x5 x6 x7 x8 x9 y6 y7 y8)]
  unfold kernelRun0_B
  dsimp only
  sl_unfold_words
  simp (disch := first | rfl | decide) only [View.readAt_eq_ld, harg2.read_unread, harg3.read_unread, harg4.read_unread, harg5.read_unread, harg6.read_unread, harg7.read_unread, harg8.read_unread, harg9.read_unread, harg10.read_unread, harg11.read_unread, harg13.read_unread, harg14.read_unread, harg15.read_unread]
  rfl

end Stores

end Cert.Kernel9Ideal.Heads
-- ==== Proof.Masks.lean ====
/-  Comparisons of small counts as signed words. -/
module

public import proofs.«01_k».proof.Proof.Chunk
public import Idealize.ShloMosaic.Lib.WordCmp

@[expose] public section

namespace Chunk

open Idealize.ShloMosaic Idealize.ShloMosaic.WordCmp

theorem sge_nat (a x : ℕ) (ha : a < 2 ^ 31) (hx : x < 2 ^ 31) :
    IntOp.cmpi .sge (BitVec.ofNat 32 a) (BitVec.ofNat 32 x) = if x ≤ a then 1#1 else 0#1 := by
  rw [cmpi_sge_ofNat ha hx]
  by_cases h : x ≤ a
  · rw [if_pos h, decide_eq_true h]; rfl
  · rw [if_neg h, decide_eq_false h]; rfl

theorem sle_nat (a x : ℕ) (ha : a < 2 ^ 31) (hx : x < 2 ^ 31) :
    IntOp.cmpi .sle (BitVec.ofNat 32 a) (BitVec.ofNat 32 x) = if a ≤ x then 1#1 else 0#1 := by
  rw [cmpi_sle_ofNat ha hx]
  by_cases h : a ≤ x
  · rw [if_pos h, decide_eq_true h]; rfl
  · rw [if_neg h, decide_eq_false h]; rfl

end Chunk
-- ==== Proof.PromptBlock.lean ====
module

public import proofs.«01_k».proof.Proof.PromptHeads
public import proofs.«01_k».proof.Proof.Masks

@[expose] public section

set_option maxRecDepth 65536

noncomputable section

namespace Cert.Kernel9Ideal.Heads

open Cert.Kernel9Ideal Cert.Kernel9Ideal.Gen Idealize.ShloMosaic Idealize.ShloMosaic.TcCoe Idealize.SL.Sem Chunk

theorem sge_eq (a x : Fin 256) : BitVec.setWidth 32 (IntOp.cmpi .sge (BitVec.ofNat 32 a.val) (BitVec.ofNat 32 x.val)) =
    if x ≤ a then 1#32 else 0#32 := by
  rw [sge_nat _ _ (by have := a.isLt; omega) (by have := x.isLt; omega)]
  show BitVec.setWidth 32 (if x ≤ a then 1#1 else 0#1) = _
  split <;> rfl

theorem sle_eq (a x : Fin 256) : BitVec.setWidth 32 (IntOp.cmpi .sle (BitVec.ofNat 32 x.val) (BitVec.ofNat 32 a.val)) =
    if x ≤ a then 1#32 else 0#32 := by
  rw [sle_nat _ _ (by have := x.isLt; omega) (by have := a.isLt; omega)]
  show BitVec.setWidth 32 (if x ≤ a then 1#1 else 0#1) = _
  split <;> rfl

theorem cmp_eq (a x : Fin 256) : IntOp.cmpi .sge (BitVec.ofNat 32 a.val) (BitVec.ofNat 32 x.val) =
    if x ≤ a then 1#1 else 0#1 := sge_nat _ _ (by have := a.isLt; omega) (by have := x.isLt; omega)

theorem mask_eq (p : Prop) [Decidable p] :
    (FloatOps.sitofp FTy.f32 (if p then 1#32 else 0#32) : Ideal FTy.f32) = if p then (1 : EReal) else (0 : EReal) := by
  split <;> show (((_ : ℤ) : ℝ) : EReal) = _ <;> simp

variable (x0 : Vec Ideal S1x256x1024 .f32) (x1 : Vec Ideal S1x256x1024 .f32) (x2 : Vec Ideal S1x256x2048 .f32) (x3 : Vec Ideal S1x256x2048 .f32)
  (x4 : Vec Ideal S1x256x128 .f32) (x5 : Vec Ideal S1x16x256 .f32) (x6 : Vec Ideal S1x8x128x256 .f32) (x7 : Vec Ideal S1x8x1x128 .f32)
  (x8 : Vec Ideal S1x8x1x128 .f32) (x9 : Vec Ideal S8x1x256 .f32)
  (h : ℕ) (hh : h < 8)

def fB (t : Fin 256) : EReal := lsig (x4 (ix3 0 t ⟨8 + h, by omega⟩))
def iB (t : Fin 256) : EReal := x4 (ix3 0 t ⟨h, by omega⟩)

theorem bCol_apply (t : Fin 256) : (bCol x4 h hh (ix2 t 0) : EReal) = cum (fB x4 h hh) t := by
  unfold bCol
  pointwise [k0_pay8, k0_pay6, k0_pay5]
  unfold cum fB lsig
  refine Finset.sum_congr rfl fun s _ => ?_
  rw [sge_eq, mask_eq, ite_mul, one_mul, zero_mul]
  rfl

/-- The second copy of the gates is the first one's first sixteen lanes, transposed. -/
def Transposed : Prop := ∀ (l : Fin 16) (t : Fin 256), x5 (ix3 0 l t) = x4 (ix3 0 t (l.castLE (by decide)))

variable (hx : Transposed x4 x5)
include hx

theorem bRow_apply (t : Fin 256) : (bRow x5 h hh (ix2 0 t) : EReal) = cum (fB x4 h hh) t := by
  unfold bRow
  pointwise [k0_pay9, k0_pay7, k0_pay5]
  unfold cum fB lsig
  refine Finset.sum_congr rfl fun s _ => ?_
  rw [sle_eq, mask_eq, mul_ite, mul_one, mul_zero]
  simp only [hx _ _]
  rfl

omit hx in
theorem iCol_apply (t : Fin 256) : (iCol x4 h hh (ix2 t 0) : EReal) = iB x4 h hh t := by
  unfold iCol
  pointwise [k0_pay6]
  rfl

theorem iRow_apply (t : Fin 256) : (iRow x5 h hh (ix2 0 t) : EReal) = iB x4 h hh t := by
  unfold iRow
  pointwise [k0_pay7]
  exact hx ⟨h, by omega⟩ t

def mB : EReal := x8 (ix4 0 ⟨h, hh⟩ 0 0)
def nB (d : Fin 128) : EReal := x7 (ix4 0 ⟨h, hh⟩ 0 d)
def cB (d : Fin 128) (j : Fin 256) : EReal := x6 (ix4 0 ⟨h, hh⟩ d j)
def qB (t : Fin 256) (d : Fin 128) : EReal := x0 (ix3 0 t ⟨h * 128 + d.val, by omega⟩)
def kB (t : Fin 256) (d : Fin 128) : EReal := x1 (ix3 0 t ⟨h * 128 + d.val, by omega⟩) * Ideal.ofBits .f32 0x3DB504F3#32
def vB (t : Fin 256) (j : Fin 256) : EReal := x2 (ix3 0 t ⟨h * 256 + j.val, by omega⟩)
def oB (t : Fin 256) (j : Fin 256) : EReal := x3 (ix3 0 t ⟨h * 256 + j.val, by omega⟩)
def gB (j : Fin 256) : EReal := x9 (ix3 ⟨h, hh⟩ 0 j)

omit hx in
theorem mH_apply : (mH x8 h hh (ix4 0 0 0 0) : EReal) = mB x8 h hh := by
  unfold mH
  pointwise
  rfl

omit hx in
theorem carry_log (t : Fin 256) : (k0_pay49 (bCol (F := Ideal) x4 h hh) (mH (F := Ideal) x8 h hh) (ix2 t 0) : EReal) =
    cum (fB x4 h hh) t + mB x8 h hh := by
  pointwise [k0_pay49, k0_pay47]
  rw [mH_apply, bCol_apply]

theorem gap_apply (t s : Fin 256) : (k0_pay48 k0_pay5 (bCol (F := Ideal) x4 h hh) (bRow (F := Ideal) x5 h hh) (iRow (F := Ideal) x5 h hh) (ix2 t s) : EReal) =
    gap (fB x4 h hh) (iB x4 h hh) t s := by
  pointwise [k0_pay48, k0_pay5]
  rw [iRow_apply x4 x5 h hh hx, bRow_apply x4 x5 h hh hx, bCol_apply, cmp_eq, bits_bot]
  unfold gap Scalar.select
  split <;> rfl

theorem level_apply (t : Fin 256) : (k0_pay50 k0_pay5 (bCol (F := Ideal) x4 h hh) (bRow (F := Ideal) x5 h hh) (iRow (F := Ideal) x5 h hh) (mH (F := Ideal) x8 h hh) (ix2 t 0) : EReal) =
    level (fB x4 h hh) (iB x4 h hh) (mB x8 h hh) t := by
  pointwise [k0_pay50]
  simp only [gap_apply x4 x5 h hh hx]
  rw [carry_log, bits_bot]
  rfl

omit hx in
theorem end_apply : (k0_pay51 (bCol (F := Ideal) x4 h hh) (ix2 0 0) : EReal) = cum (fB x4 h hh) 255 := by
  pointwise [k0_pay51]
  exact bCol_apply ..

theorem levelNew_apply : (k0_pay52 (bCol (F := Ideal) x4 h hh) (bRow (F := Ideal) x5 h hh) (iRow (F := Ideal) x5 h hh) (mH (F := Ideal) x8 h hh) (ix2 0 0) : EReal) =
    levelNew (fB x4 h hh) (iB x4 h hh) (mB x8 h hh) 255 := by
  pointwise [k0_pay52,k0_pay51,k0_pay47]
  rw [bits_bot, mH_apply]
  simp only [iRow_apply x4 x5 h hh hx, bRow_apply x4 x5 h hh hx]
  rw [bCol_apply]
  rfl

theorem outM_apply (j : Fin 128) : (outM x4 x5 x8 h hh (ix4 0 0 0 j) : EReal) = levelNew (fB x4 h hh) (iB x4 h hh) (mB x8 h hh) 255 := by
  unfold outM
  pointwise [k0_pay190]
  exact levelNew_apply x4 x5 x8 h hh hx

theorem weight_apply (s : Fin 256) : (k0_pay56 (bCol (F := Ideal) x4 h hh) (bRow (F := Ideal) x5 h hh) (iCol (F := Ideal) x4 h hh) (iRow (F := Ideal) x5 h hh) (mH (F := Ideal) x8 h hh) (ix2 s 0) : EReal) =
    weight (fB x4 h hh) (iB x4 h hh) (mB x8 h hh) 255 s := by
  pointwise [k0_pay56]
  rw [levelNew_apply x4 x5 x8 h hh hx, end_apply, bCol_apply, iCol_apply]
  rfl

theorem decay_apply : (k0_pay57 (bCol (F := Ideal) x4 h hh) (bRow (F := Ideal) x5 h hh) (iRow (F := Ideal) x5 h hh) (mH (F := Ideal) x8 h hh) (ix2 0 0) : EReal) =
    decay (fB x4 h hh) (iB x4 h hh) (mB x8 h hh) 255 := by
  pointwise [k0_pay57, k0_pay47]
  rw [levelNew_apply x4 x5 x8 h hh hx, end_apply, mH_apply]
  rfl

omit hx in
theorem kH_apply (t : Fin 256) (d : Fin 128) : (kH x1 h hh (ix2 t d) : EReal) = kB x1 h hh t d := by
  unfold kH
  pointwise [k0_pay11, k0_pay12]
  rfl

omit hx in
theorem qH_apply (t : Fin 256) (d : Fin 128) : (qH x0 h hh (ix2 t d) : EReal) = qB x0 h hh t d := by
  unfold qH
  pointwise [k0_pay10]
  rfl

omit hx in
theorem vH_apply (t : Fin 256) (d : Fin 256) : (vH x2 h hh (ix2 t d) : EReal) = vB x2 h hh t d := by
  unfold vH
  pointwise [k0_pay13]
  rfl

omit hx in
theorem nH_apply (d : Fin 128) : (nH x7 h hh (ix4 0 0 0 d) : EReal) = nB x7 h hh d := by
  unfold nH
  pointwise
  rfl

omit hx in
theorem cH_apply (d : Fin 128) (j : Fin 256) : (cH x6 h hh (ix4 0 0 d j) : EReal) = cB x6 h hh d j := by
  unfold cH
  pointwise
  rfl

theorem outN_apply (d : Fin 128) : (outN x1 x4 x5 x7 x8 h hh (ix4 0 0 0 d) : EReal) =
    vecNew (fB x4 h hh) (iB x4 h hh) (mB x8 h hh) 255 (kB x1 h hh) (nB x7 h hh) d := by
  unfold outN kwH
  pointwise [k0_pay189, k0_pay186]
  rw [decay_apply x4 x5 x8 h hh hx, nH_apply]
  simp only [weight_apply x4 x5 x8 h hh hx, kH_apply]
  rfl

theorem outC_apply (d : Fin 128) (j : Fin 256) : (outC x1 x2 x4 x5 x6 x8 h hh (ix4 0 0 d j) : EReal) =
    matNew (fB x4 h hh) (iB x4 h hh) (mB x8 h hh) 255 (kB x1 h hh) (vB x2 h hh) (cB x6 h hh) d j := by
  unfold outC
  pointwise [k0_pay188, k0_pay187, k0_pay186]
  rw [decay_apply x4 x5 x8 h hh hx, cH_apply]
  simp only [weight_apply x4 x5 x8 h hh hx, kH_apply, vH_apply]
  rfl

theorem hvalH_apply (t : Fin 256) (j : Fin 256) : (hvalH x0 x1 x2 x4 x5 x6 x7 x8 h hh (ix2 t j) : EReal) =
    read (fB x4 h hh) (iB x4 h hh) (mB x8 h hh) (qB x0 h hh) (kB x1 h hh) (vB x2 h hh) (cB x6 h hh) (nB x7 h hh) t j := by
  unfold hvalH
  pointwise [k0_pay166, k0_pay165, k0_pay53, k0_pay54, k0_pay55, k0_pay35]
  simp only [level_apply x4 x5 x8 h hh hx, gap_apply x4 x5 h hh hx, carry_log, nH_apply, cH_apply, qH_apply, vH_apply, kH_apply]
  rfl

theorem outH_apply (t : Fin 256) (j : Fin 256) : (outH x0 x1 x2 x3 x4 x5 x6 x7 x8 x9 h hh (ix3 0 t j) : EReal) =
    normed (gated (read (fB x4 h hh) (iB x4 h hh) (mB x8 h hh) (qB x0 h hh) (kB x1 h hh) (vB x2 h hh) (cB x6 h hh) (nB x7 h hh) t) (oB x3 h hh t))
      (gB x9 h hh) j := by
  unfold outH
  pointwise [k0_pay223, k0_pay224, k0_pay225]
  simp only [hvalH_apply x0 x1 x2 x4 x5 x6 x7 x8 h hh hx]
  rfl

end Cert.Kernel9Ideal.Heads
-- ==== Proof.PromptStore.lean ====
module

public import proofs.«01_k».proof.Proof.PromptBlock

@[expose] public section

set_option maxRecDepth 65536

noncomputable section

namespace Cert.Kernel9Ideal.Heads

open Cert.Kernel9Ideal Cert.Kernel9Ideal.Gen Idealize.ShloMosaic Idealize.ShloMosaic.TcCoe Idealize.SL.Sem Chunk

theorem mem_lastFirst {α : Type*} {p : Fin 8 → α} {x : α} (hx : x ∈ lastFirst p) : ∃ k, x = p k := by
  simp only [lastFirst, List.mem_cons, List.not_mem_nil, or_false] at hx
  rcases hx with h | h | h | h | h | h | h | h <;> exact ⟨_, h⟩

theorem lastFirst_mem {α : Type*} (p : Fin 8 → α) : ∀ k, p k ∈ lastFirst p := by
  intro k
  match k with
  | 0 => simp [lastFirst]
  | 1 => simp [lastFirst]
  | 2 => simp [lastFirst]
  | 3 => simp [lastFirst]
  | 4 => simp [lastFirst]
  | 5 => simp [lastFirst]
  | 6 => simp [lastFirst]
  | 7 => simp [lastFirst]

/-- A buffer into which eight heads' pieces go, one at each head's place, holds `G` if each piece does. -/
theorem canon_lastFirst {S : Shape} {e : EltTy} (G : S.Idx → Elt Ideal e) (p : Fin 8 → View.Piece (Elt Ideal) S e)
    (L : List (View.Piece (Elt Ideal) S e)) (hp : ∀ k, ∀ x, (p k).2 x = G ((p k).1.emb x)) (y : S.Idx) (k : Fin 8)
    (hy : y ∈ (p k).1.set) : View.canon (lastFirst p ++ L) y = G y :=
  View.canon_append_of_pieces G L _ (fun q hq => by obtain ⟨k, rfl⟩ := mem_lastFirst hq; exact hp k) y
    ⟨_, lastFirst_mem p k, hy⟩

variable (x0 : Vec Ideal S1x256x1024 .f32) (x1 : Vec Ideal S1x256x1024 .f32) (x2 : Vec Ideal S1x256x2048 .f32) (x3 : Vec Ideal S1x256x2048 .f32)
  (x4 : Vec Ideal S1x256x128 .f32) (x5 : Vec Ideal S1x16x256 .f32) (x6 : Vec Ideal S1x8x128x256 .f32) (x7 : Vec Ideal S1x8x1x128 .f32)
  (x8 : Vec Ideal S1x8x1x128 .f32) (x9 : Vec Ideal S8x1x256 .f32)

/-- The head of a lane of the read-outs, and the lane within the head. -/
def hd (l : Fin 2048) : Fin 8 := ⟨l.val / 256, by omega⟩
def ln (l : Fin 2048) : Fin 256 := ⟨l.val % 256, by omega⟩

def blockM (k : Fin 8) : EReal := levelNew (fB x4 k.val k.isLt) (iB x4 k.val k.isLt) (mB x8 k.val k.isLt) 255
def blockN (k : Fin 8) (d : Fin 128) : EReal :=
  vecNew (fB x4 k.val k.isLt) (iB x4 k.val k.isLt) (mB x8 k.val k.isLt) 255 (kB x1 k.val k.isLt) (nB x7 k.val k.isLt) d
def blockC (k : Fin 8) (d : Fin 128) (j : Fin 256) : EReal :=
  matNew (fB x4 k.val k.isLt) (iB x4 k.val k.isLt) (mB x8 k.val k.isLt) 255 (kB x1 k.val k.isLt) (vB x2 k.val k.isLt) (cB x6 k.val k.isLt) d j
def blockH (k : Fin 8) (t : Fin 256) (j : Fin 256) : EReal :=
  normed (gated (read (fB x4 k.val k.isLt) (iB x4 k.val k.isLt) (mB x8 k.val k.isLt) (qB x0 k.val k.isLt) (kB x1 k.val k.isLt)
    (vB x2 k.val k.isLt) (cB x6 k.val k.isLt) (nB x7 k.val k.isLt) t) (oB x3 k.val k.isLt t)) (gB x9 k.val k.isLt) j

section

variable (hx : Transposed x4 x5)
include hx

theorem canonM (L : List (View.Piece (Elt Ideal) S1x8x1x128 .f32)) (y : S1x8x1x128.Idx) :
    (View.canon (lastFirst (pieceM x4 x5 x8) ++ L) y : EReal) = blockM x4 x8 (y 1) := by
  refine canon_lastFirst (fun y => (blockM x4 x8 (y 1) : EReal)) (pieceM x4 x5 x8) L (fun k x => ?_) y (y 1) ?_
  · have h1 : (pieceM x4 x5 x8 k).1.emb x 1 = k :=
      Fin.ext (show k.val + 1 * (x 1).val = k.val by have := (x 1).isLt; change _ < 1 at this; omega)
    have hxx : x = ix4 0 0 0 (x 3) := by
      funext a
      match a with
      | 0 => exact Subsingleton.elim (α := Fin 1) _ _
      | 1 => exact Subsingleton.elim (α := Fin 1) _ _
      | 2 => exact Subsingleton.elim (α := Fin 1) _ _
      | 3 => rfl
    rw [h1]
    refine Eq.trans (congrArg _ hxx) ?_
    exact outM_apply x4 x5 x8 k.val k.isLt hx (x 3)
  · refine (Rect.mem_set_unit (s := S1x8x1x128) (off := ![0, (y 1).val, 0, 0]) (size := ![1, 1, 1, 128]) (inb := inbN _ (y 1).isLt)).mpr fun a => ?_
    have := (y a).isLt
    match a with
    | 0 => exact ⟨Nat.zero_le _, by simpa using this⟩
    | 1 => exact ⟨le_rfl, Nat.lt_succ_self _⟩
    | 2 => exact ⟨Nat.zero_le _, by simpa using this⟩
    | 3 => exact ⟨Nat.zero_le _, by simpa using this⟩

theorem canonN (L : List (View.Piece (Elt Ideal) S1x8x1x128 .f32)) (y : S1x8x1x128.Idx) :
    (View.canon (lastFirst (pieceN x1 x4 x5 x7 x8) ++ L) y : EReal) = blockN x1 x4 x7 x8 (y 1) (y 3) := by
  refine canon_lastFirst (fun y => (blockN x1 x4 x7 x8 (y 1) (y 3) : EReal)) (pieceN x1 x4 x5 x7 x8) L (fun k x => ?_) y (y 1) ?_
  · have h1 : (pieceN x1 x4 x5 x7 x8 k).1.emb x 1 = k :=
      Fin.ext (show k.val + 1 * (x 1).val = k.val by have := (x 1).isLt; change _ < 1 at this; omega)
    have h3 : (pieceN x1 x4 x5 x7 x8 k).1.emb x 3 = x 3 := Fin.ext (show 0 + 1 * (x 3).val = (x 3).val by omega)
    have hxx : x = ix4 0 0 0 (x 3) := by
      funext a
      match a with
      | 0 => exact Subsingleton.elim (α := Fin 1) _ _
      | 1 => exact Subsingleton.elim (α := Fin 1) _ _
      | 2 => exact Subsingleton.elim (α := Fin 1) _ _
      | 3 => rfl
    rw [h1, h3]
    refine Eq.trans (congrArg _ hxx) ?_
    exact outN_apply x1 x4 x5 x7 x8 k.val k.isLt hx (x 3)
  · refine (Rect.mem_set_unit (s := S1x8x1x128) (off := ![0, (y 1).val, 0, 0]) (size := ![1, 1, 1, 128]) (inb := inbN _ (y 1).isLt)).mpr fun a => ?_
    have := (y a).isLt
    match a with
    | 0 => exact ⟨Nat.zero_le _, by simpa using this⟩
    | 1 => exact ⟨le_rfl, Nat.lt_succ_self _⟩
    | 2 => exact ⟨Nat.zero_le _, by simpa using this⟩
    | 3 => exact ⟨Nat.zero_le _, by simpa using this⟩

theorem canonC (L : List (View.Piece (Elt Ideal) S1x8x128x256 .f32)) (y : S1x8x128x256.Idx) :
    (View.canon (lastFirst (pieceC x1 x2 x4 x5 x6 x8) ++ L) y : EReal) = blockC x1 x2 x4 x6 x8 (y 1) (y 2) (y 3) := by
  refine canon_lastFirst (fun y => (blockC x1 x2 x4 x6 x8 (y 1) (y 2) (y 3) : EReal)) (pieceC x1 x2 x4 x5 x6 x8) L (fun k x => ?_) y (y 1) ?_
  · have h1 : (pieceC x1 x2 x4 x5 x6 x8 k).1.emb x 1 = k :=
      Fin.ext (show k.val + 1 * (x 1).val = k.val by have := (x 1).isLt; change _ < 1 at this; omega)
    have h2 : (pieceC x1 x2 x4 x5 x6 x8 k).1.emb x 2 = x 2 := Fin.ext (show 0 + 1 * (x 2).val = (x 2).val by omega)
    have h3 : (pieceC x1 x2 x4 x5 x6 x8 k).1.emb x 3 = x 3 := Fin.ext (show 0 + 1 * (x 3).val = (x 3).val by omega)
    have hxx : x = ix4 0 0 (x 2) (x 3) := by
      funext a
      match a with
      | 0 => exact Subsingleton.elim (α := Fin 1) _ _
      | 1 => exact Subsingleton.elim (α := Fin 1) _ _
      | 2 => rfl
      | 3 => rfl
    rw [h1, h2, h3]
    refine Eq.trans (congrArg _ hxx) ?_
    exact outC_apply x1 x2 x4 x5 x6 x8 k.val k.isLt hx (x 2) (x 3)
  · refine (Rect.mem_set_unit (s := S1x8x128x256) (off := ![0, (y 1).val, 0, 0]) (size := ![1, 1, 128, 256]) (inb := inbC _ (y 1).isLt)).mpr fun a => ?_
    have := (y a).isLt
    match a with
    | 0 => exact ⟨Nat.zero_le _, by simpa using this⟩
    | 1 => exact ⟨le_rfl, Nat.lt_succ_self _⟩
    | 2 => exact ⟨Nat.zero_le _, by simpa using this⟩
    | 3 => exact ⟨Nat.zero_le _, by simpa using this⟩

theorem canonH (y : S1x256x2048.Idx) :
    (View.canon (lastFirst (pieceH x0 x1 x2 x3 x4 x5 x6 x7 x8 x9) ++ []) y : EReal) =
      blockH x0 x1 x2 x3 x4 x6 x7 x8 x9 (hd (y 2)) (y 1) (ln (y 2)) := by
  refine canon_lastFirst (fun y => (blockH x0 x1 x2 x3 x4 x6 x7 x8 x9 (hd (y 2)) (y 1) (ln (y 2)) : EReal))
    (pieceH x0 x1 x2 x3 x4 x5 x6 x7 x8 x9) [] (fun k x => ?_) y (hd (y 2)) ?_
  · have hv : ((pieceH x0 x1 x2 x3 x4 x5 x6 x7 x8 x9 k).1.emb x 2).val = k.val * 256 + (x 2).val :=
      show k.val * 256 + 1 * (x 2).val = _ by omega
    have hl : (x 2).val < 256 := (x 2).isLt
    have h2 : hd ((pieceH x0 x1 x2 x3 x4 x5 x6 x7 x8 x9 k).1.emb x 2) = k := Fin.ext (by unfold hd; dsimp only; rw [hv]; omega)
    have h3 : ln ((pieceH x0 x1 x2 x3 x4 x5 x6 x7 x8 x9 k).1.emb x 2) = x 2 := Fin.ext (by unfold ln; dsimp only; rw [hv]; omega)
    have h1 : (pieceH x0 x1 x2 x3 x4 x5 x6 x7 x8 x9 k).1.emb x 1 = x 1 := Fin.ext (show 0 + 1 * (x 1).val = (x 1).val by omega)
    have hxx : x = ix3 0 (x 1) (x 2) := by
      funext a
      match a with
      | 0 => exact Subsingleton.elim (α := Fin 1) _ _
      | 1 => rfl
      | 2 => rfl
    rw [h1, h2, h3]
    refine Eq.trans (congrArg _ hxx) ?_
    exact outH_apply x0 x1 x2 x3 x4 x5 x6 x7 x8 x9 k.val k.isLt hx (x 1) (x 2)
  · refine (Rect.mem_set_unit (s := S1x256x2048) (off := ![0, 0, (hd (y 2)).val * 256]) (size := ![1, 256, 256])
      (inb := inbV _ (hd (y 2)).isLt)).mpr fun a => ?_
    have := (y a).isLt
    match a with
    | 0 => exact ⟨Nat.zero_le _, by simpa using this⟩
    | 1 => exact ⟨Nat.zero_le _, by simpa using this⟩
    | 2 =>
      show (y 2).val / 256 * 256 ≤ (y 2).val ∧ (y 2).val < (y 2).val / 256 * 256 + 256
      omega

end

end Cert.Kernel9Ideal.Heads
-- ==== Proof.Compose.lean ====
/-  One head of one sequence with finite tokens, read in chunks: whatever the chunks' lengths, the state after a token and
    what the token reads out are the same. `P T` is the sum of the forget gate's logarithms over the first `T` tokens,
    `A T` the largest of 0 and of each of these tokens' input gate less the sum up to it; the level is their sum. -/
module

public import proofs.«01_k».proof.Proof.Chunk

@[expose] public section

noncomputable section

namespace Chunk

open Idealize.ShloMosaic

theorem coe_sum {ι : Type*} (s : Finset ι) (x : ι → ℝ) : ((∑ a ∈ s, x a : ℝ) : EReal) = ∑ a ∈ s, (x a : EReal) := by
  classical
  induction s using Finset.induction_on with
  | empty => simp
  | insert a s ha ih => rw [Finset.sum_insert ha, Finset.sum_insert ha, EReal.coe_add, ih]

theorem sum_upto {L : ℕ} (t : Fin L) (x : ℕ → ℝ) :
    ∑ s : Fin L, (if s ≤ t then x s.val else 0) = ∑ s ∈ Finset.range (t.val + 1), x s := by
  have h : ∀ s : Fin L, (if s ≤ t then x s.val else 0) = (fun n => if n ≤ t.val then x n else 0) s.val := fun s => rfl
  rw [Finset.sum_congr rfl fun s _ => h s, Fin.sum_univ_eq_sum_range (fun n => if n ≤ t.val then x n else 0) L,
    ← Finset.sum_filter]
  refine Finset.sum_congr (Finset.ext fun n => ?_) fun _ _ => rfl
  have := t.isLt
  simp only [Finset.mem_filter, Finset.mem_range]
  omega

section

variable (f i : ℕ → ℝ)

/-- The sum of the forget gate's logarithms over the first `T` tokens. -/
def P (T : ℕ) : ℝ := ∑ s ∈ Finset.range T, f s

/-- A token's input gate less the sum up to it. -/
def G (s : ℕ) : ℝ := i s - P f (s + 1)

/-- The largest of 0 and of the first `T` tokens' `G`. -/
def A : ℕ → ℝ
  | 0 => 0
  | T + 1 => max (A T) (G f i T)

theorem A_attained (T : ℕ) : ∀ n, A f i (T + n) = A f i T ∨ ∃ s < n, A f i (T + n) = G f i (T + s)
  | 0 => Or.inl rfl
  | n + 1 => by
    rcases max_choice (A f i (T + n)) (G f i (T + n)) with h | h
    · have h' : A f i (T + (n + 1)) = A f i (T + n) := h
      rcases A_attained T n with e | ⟨s, hs, e⟩
      · exact Or.inl (h'.trans e)
      · exact Or.inr ⟨s, by omega, h'.trans e⟩
    · exact Or.inr ⟨n, by omega, h⟩

theorem A_le (T : ℕ) : ∀ n, A f i T ≤ A f i (T + n)
  | 0 => le_rfl
  | n + 1 => (A_le T n).trans (le_max_left _ _)

theorem G_le (T : ℕ) : ∀ n s, s < n → G f i (T + s) ≤ A f i (T + n)
  | n + 1, s, hs => by
    rcases Nat.lt_succ_iff_lt_or_eq.mp hs with h | rfl
    · exact (G_le T n s h).trans (le_max_left _ _)
    · exact le_max_right _ _

/-- The level from the level before the chunk and the chunk's first `n` tokens. -/
theorem max_level {L : ℕ} (T n : ℕ) (hn : n ≤ L) (p : ℝ) (g : Fin L → EReal)
    (hg : ∀ s : Fin L, g s = if s.val < n then ((p + G f i (T + s.val) : ℝ) : EReal) else ⊥) :
    max ((p + A f i T : ℝ) : EReal) (Finset.univ.fold max ⊥ g) = ((p + A f i (T + n) : ℝ) : EReal) := by
  have hf : Finset.univ.fold max ⊥ g = Finset.univ.sup g := rfl
  rw [hf]
  apply le_antisymm
  · refine max_le (EReal.coe_le_coe_iff.mpr (by linarith [A_le f i T n])) (Finset.sup_le fun s _ => ?_)
    rw [hg]
    split
    · rename_i h
      exact EReal.coe_le_coe_iff.mpr (by linarith [G_le f i T n s.val h])
    · exact bot_le
  · rcases A_attained f i T n with e | ⟨s, hs, e⟩
    · rw [e]; exact le_max_left _ _
    · rw [e]
      refine le_max_of_le_right ?_
      have h := hg ⟨s, by omega⟩
      rw [if_pos hs] at h
      rw [← h]
      exact Finset.le_sup (f := g) (Finset.mem_univ _)

variable {L : ℕ} (T : ℕ)

/-- The chunk's gates. -/
def fC (s : Fin L) : EReal := (f (T + s.val) : EReal)
def iC (s : Fin L) : EReal := (i (T + s.val) : EReal)

/-- The level after `T` tokens. -/
def stM : EReal := ((P f T + A f i T : ℝ) : EReal)

theorem cum_fC (t : Fin L) : cum (fC f T) t = ((P f (T + (t.val + 1)) - P f T : ℝ) : EReal) := by
  have h : ∀ s : Fin L, (if s ≤ t then fC f T s else 0) = ((if s ≤ t then f (T + s.val) else 0 : ℝ) : EReal) := fun s => by
    split <;> rfl
  unfold cum
  rw [Finset.sum_congr rfl fun s _ => h s, ← coe_sum, sum_upto t fun s => f (T + s)]
  unfold P
  have e := Finset.sum_range_add f T (t.val + 1)
  exact congrArg _ (by linarith)

theorem gap_fC (t s : Fin L) : gap (fC f T) (iC i T) t s =
    if s.val < t.val + 1 then ((P f (T + (t.val + 1)) + G f i (T + s.val) : ℝ) : EReal) else ⊥ := by
  unfold gap
  by_cases h : s ≤ t
  · rw [if_pos h, if_pos (Nat.lt_succ_of_le h), cum_fC, cum_fC]
    unfold iC G
    norm_cast
    rw [Nat.add_assoc]
    ring
  · rw [if_neg h, if_neg (fun h' => h (Nat.le_of_lt_succ h'))]

theorem level_fC (t : Fin L) : level (fC f T) (iC i T) (stM f i T) t =
    ((P f (T + (t.val + 1)) + A f i (T + (t.val + 1)) : ℝ) : EReal) := by
  unfold level
  have h : cum (fC f T) t + stM f i T = ((P f (T + (t.val + 1)) + A f i T : ℝ) : EReal) := by
    rw [cum_fC]; unfold stM; norm_cast; ring
  rw [h]
  exact max_level f i T (t.val + 1) t.isLt _ _ (gap_fC f i T t)

theorem left_fC (e : Fin L) (s : Fin L) : left (fC f T) (iC i T) e s = ((P f (T + (e.val + 1)) + G f i (T + s.val) : ℝ) : EReal) := by
  unfold left
  rw [cum_fC, cum_fC]
  unfold iC G
  norm_cast
  rw [Nat.add_assoc]
  ring

theorem levelNew_fC (e : Fin L) (he : e.val + 1 = L) : levelNew (fC f T) (iC i T) (stM f i T) e = stM f i (T + L) := by
  unfold levelNew
  have h : cum (fC f T) e + stM f i T = ((P f (T + L) + A f i T : ℝ) : EReal) := by
    rw [cum_fC, he]; unfold stM; norm_cast; ring
  rw [h]
  refine max_level f i T L le_rfl _ _ fun s => ?_
  rw [left_fC, if_pos s.isLt, he]

theorem weight_fC (e : Fin L) (he : e.val + 1 = L) (s : Fin L) :
    weight (fC f T) (iC i T) (stM f i T) e s = ((Real.exp (G f i (T + s.val) - A f i (T + L)) : ℝ) : EReal) := by
  unfold weight
  rw [levelNew_fC f i T e he, left_fC, he]
  unfold stM
  rw [← EReal.coe_sub]
  show ((Real.exp _ : ℝ) : EReal) = _
  congr 2
  ring

theorem decay_fC (e : Fin L) (he : e.val + 1 = L) :
    decay (fC f T) (iC i T) (stM f i T) e = ((Real.exp (A f i T - A f i (T + L)) : ℝ) : EReal) := by
  unfold decay
  rw [levelNew_fC f i T e he, cum_fC, he]
  unfold stM
  rw [← EReal.coe_add, ← EReal.coe_sub]
  show ((Real.exp _ : ℝ) : EReal) = _
  congr 2
  ring

theorem carry_fC (t : Fin L) :
    carry (fC f T) (iC i T) (stM f i T) t = ((Real.exp (A f i T - A f i (T + (t.val + 1))) : ℝ) : EReal) := by
  unfold carry
  rw [level_fC, cum_fC]
  unfold stM
  rw [← EReal.coe_add, ← EReal.coe_sub]
  show ((Real.exp _ : ℝ) : EReal) = _
  congr 2
  ring

/-- A sum over the tokens before the chunk and one over the chunk's first `n`, as one sum. -/
theorem sum_split (n : ℕ) (x : ℕ → ℝ) :
    Real.exp (A f i T - A f i (T + n)) * ∑ s ∈ Finset.range T, x s * Real.exp (G f i s - A f i T) +
      ∑ s ∈ Finset.range n, x (T + s) * Real.exp (G f i (T + s) - A f i (T + n)) =
      ∑ s ∈ Finset.range (T + n), x s * Real.exp (G f i s - A f i (T + n)) := by
  rw [Finset.sum_range_add, Finset.mul_sum]
  congr 1
  refine Finset.sum_congr rfl fun s _ => ?_
  rw [mul_left_comm, ← Real.exp_add]
  congr 2
  ring

variable {D E : ℕ} (q k : ℕ → Fin D → ℝ) (v : ℕ → Fin E → ℝ)

/-- The vector and the matrix after `T` tokens. -/
def stN (d : Fin D) : EReal := ((∑ s ∈ Finset.range T, k s d * Real.exp (G f i s - A f i T) : ℝ) : EReal)
def stC (d : Fin D) (j : Fin E) : EReal := ((∑ s ∈ Finset.range T, k s d * v s j * Real.exp (G f i s - A f i T) : ℝ) : EReal)

/-- The chunk's queries, keys or values. -/
def rC {W : ℕ} (r : ℕ → Fin W → ℝ) (s : Fin L) (d : Fin W) : EReal := (r (T + s.val) d : EReal)

theorem vecNew_fC (e : Fin L) (he : e.val + 1 = L) (d : Fin D) :
    vecNew (fC f T) (iC i T) (stM f i T) e (rC T k) (stN f i T k) d = stN f i (T + L) k d := by
  unfold vecNew
  rw [decay_fC f i T e he]
  simp only [weight_fC f i T e he]
  unfold rC stN
  rw [← sum_split f i T L fun s => k s d, ← Fin.sum_univ_eq_sum_range (fun s => k (T + s) d * Real.exp (G f i (T + s) - A f i (T + L))) L,
    EReal.coe_add, EReal.coe_mul, coe_sum Finset.univ]
  simp only [EReal.coe_mul]

theorem matNew_fC (e : Fin L) (he : e.val + 1 = L) (d : Fin D) (j : Fin E) :
    matNew (fC f T) (iC i T) (stM f i T) e (rC T k) (rC T v) (stC f i T k v) d j = stC f i (T + L) k v d j := by
  unfold matNew
  rw [decay_fC f i T e he]
  simp only [weight_fC f i T e he]
  unfold rC stC
  rw [← sum_split f i T L fun s => k s d * v s j,
    ← Fin.sum_univ_eq_sum_range (fun s => k (T + s) d * v (T + s) j * Real.exp (G f i (T + s) - A f i (T + L))) L,
    EReal.coe_add, EReal.coe_mul, coe_sum Finset.univ]
  simp only [EReal.coe_mul]
  congr 1
  exact Finset.sum_congr rfl fun s _ => mul_right_comm _ _ _

/-- What token `t` reads out, over all tokens up to it. -/
def numAt (t : ℕ) (j : Fin E) : ℝ :=
  ∑ s ∈ Finset.range (t + 1), (∑ d, q t d * k s d) * v s j * Real.exp (G f i s - A f i (t + 1))
def denAt (t : ℕ) : ℝ := ∑ s ∈ Finset.range (t + 1), (∑ d, q t d * k s d) * Real.exp (G f i s - A f i (t + 1))
def readAt (t : ℕ) (j : Fin E) : EReal :=
  Ideal.div (numAt f i q k v t j : EReal) (max (max (denAt f i q k t : EReal) (-(denAt f i q k t : EReal)))
    (Ideal.exp (0 - ((P f (t + 1) + A f i (t + 1) : ℝ) : EReal))))

theorem score_fC (t s : Fin L) : score (fC f T) (iC i T) (stM f i T) (rC T q) (rC T k) t s =
    ((if s ≤ t then (∑ d, q (T + t.val) d * k (T + s.val) d) * Real.exp (G f i (T + s.val) - A f i (T + (t.val + 1))) else 0 : ℝ) : EReal) := by
  unfold score
  rw [gap_fC, level_fC]
  have hq : ∑ d, rC T q t d * rC T k s d = ((∑ d, q (T + t.val) d * k (T + s.val) d : ℝ) : EReal) := by
    rw [coe_sum]
    simp only [EReal.coe_mul]
    rfl
  rw [hq]
  by_cases h : s ≤ t
  · rw [if_pos h, if_pos (Nat.lt_succ_of_le h), EReal.coe_mul, ← EReal.coe_sub]
    congr 1
    show ((Real.exp _ : ℝ) : EReal) = _
    congr 2
    ring
  · rw [if_neg h, if_neg (fun h' => h (Nat.le_of_lt_succ h')), EReal.bot_sub]
    exact mul_zero _

theorem query_state (y : ℕ → ℝ) (t : ℕ) (F : ℕ → ℝ) (n : ℕ) :
    ∑ d, q t d * ∑ s ∈ Finset.range n, k s d * y s * F s = ∑ s ∈ Finset.range n, (∑ d, q t d * k s d) * y s * F s := by
  simp only [Finset.mul_sum, Finset.sum_mul]
  rw [Finset.sum_comm]
  refine Finset.sum_congr rfl fun s _ => Finset.sum_congr rfl fun d _ => ?_
  ring

theorem num_fC (t : Fin L) (j : Fin E) :
    num (fC f T) (iC i T) (stM f i T) (rC T q) (rC T k) (rC T v) (stC f i T k v) t j = (numAt f i q k v (T + t.val) j : EReal) := by
  unfold num
  simp only [score_fC, carry_fC]
  have h1 : ∑ d, rC T q t d * stC f i T k v d j =
      ((∑ s ∈ Finset.range T, (∑ d, q (T + t.val) d * k s d) * v s j * Real.exp (G f i s - A f i T) : ℝ) : EReal) := by
    rw [← query_state q k (fun s => v s j) (T + t.val) (fun s => Real.exp (G f i s - A f i T)) T, coe_sum]
    simp only [EReal.coe_mul]
    rfl
  have h2 : ∀ s : Fin L, ((if s ≤ t then (∑ d, q (T + t.val) d * k (T + s.val) d) * Real.exp (G f i (T + s.val) - A f i (T + (t.val + 1))) else 0 : ℝ) : EReal) * rC T v s j =
      ((if s ≤ t then (fun s => (∑ d, q (T + t.val) d * k (T + s) d) * v (T + s) j * Real.exp (G f i (T + s) - A f i (T + (t.val + 1)))) s.val else 0 : ℝ) : EReal) := fun s => by
    unfold rC
    rw [← EReal.coe_mul]
    congr 1
    split
    · exact mul_right_comm _ _ _
    · exact zero_mul _
  rw [h1, Finset.sum_congr rfl fun s _ => h2 s, ← coe_sum,
    sum_upto t fun s => (∑ d, q (T + t.val) d * k (T + s) d) * v (T + s) j * Real.exp (G f i (T + s) - A f i (T + (t.val + 1))),
    ← EReal.coe_mul, ← EReal.coe_add, add_comm]
  unfold numAt
  rw [Nat.add_assoc]
  exact congrArg _ (sum_split f i T (t.val + 1) fun s => (∑ d, q (T + t.val) d * k s d) * v s j)

theorem den_fC (t : Fin L) :
    den (fC f T) (iC i T) (stM f i T) (rC T q) (rC T k) (stN f i T k) t = (denAt f i q k (T + t.val) : EReal) := by
  unfold den
  simp only [score_fC, carry_fC]
  have h1 : ∑ d, rC T q t d * stN f i T k d =
      ((∑ s ∈ Finset.range T, (∑ d, q (T + t.val) d * k s d) * Real.exp (G f i s - A f i T) : ℝ) : EReal) := by
    have h := query_state q k (fun _ => 1) (T + t.val) (fun s => Real.exp (G f i s - A f i T)) T
    simp only [mul_one] at h
    rw [← h, coe_sum]
    simp only [EReal.coe_mul]
    rfl
  rw [h1, ← coe_sum, sum_upto t fun s => (∑ d, q (T + t.val) d * k (T + s) d) * Real.exp (G f i (T + s) - A f i (T + (t.val + 1))),
    ← EReal.coe_mul, ← EReal.coe_add, add_comm]
  unfold denAt
  rw [Nat.add_assoc]
  exact congrArg _ (sum_split f i T (t.val + 1) fun s => ∑ d, q (T + t.val) d * k s d)

theorem read_fC (t : Fin L) (j : Fin E) :
    read (fC f T) (iC i T) (stM f i T) (rC T q) (rC T k) (rC T v) (stC f i T k v) (stN f i T k) t j = readAt f i q k v (T + t.val) j := by
  unfold read readAt
  rw [num_fC, den_fC, level_fC]
  rfl

/-! ## The state before the first token -/

theorem stM_zero : stM f i 0 = 0 := by
  unfold stM P A
  simp

theorem stN_zero : stN f i 0 k = fun _ => 0 := by
  funext d
  unfold stN
  simp

theorem stC_zero : stC f i 0 k v = fun _ _ => 0 := by
  funext d j
  unfold stC
  simp

end

/-- The logarithm of the logistic function of a real number is a real number. -/
theorem lsig_coe (x : ℝ) : ∃ r : ℝ, lsig x = r := by
  have h1 : max (x : EReal) (-(x : EReal)) = ((max x (-x) : ℝ) : EReal) := by
    rw [← EReal.coe_neg]; exact (EReal.coe_strictMono.monotone.map_max).symm
  have h2 : min (x : EReal) 0 = ((min x 0 : ℝ) : EReal) := (EReal.coe_strictMono.monotone.map_min).symm
  have h3 : Ideal.exp (0 - ((max x (-x) : ℝ) : EReal)) = ((Real.exp (-(max x (-x))) : ℝ) : EReal) := by
    rw [zero_sub, ← EReal.coe_neg]; rfl
  have h4 : Ideal.log1p ((Real.exp (-(max x (-x))) : ℝ) : EReal) = ((Real.log (1 + Real.exp (-(max x (-x)))) : ℝ) : EReal) := by
    have e : (1 : EReal) + ((Real.exp (-(max x (-x))) : ℝ) : EReal) = ((1 + Real.exp (-(max x (-x))) : ℝ) : EReal) := by
      push_cast; rfl
    rw [Ideal.log1p, e]
    show (if 1 + Real.exp (-(max x (-x))) ≤ 0 then (⊥ : EReal) else (Real.log (1 + Real.exp (-(max x (-x)))) : EReal)) = _
    rw [if_neg (by have := Real.exp_pos (-(max x (-x))); linarith)]
  refine ⟨min x 0 - Real.log (1 + Real.exp (-(max x (-x)))), ?_⟩
  unfold lsig
  rw [h1, h2, h3, h4, EReal.coe_sub]

end Chunk
-- ==== Proof.PromptLayer.lean ====
/-  What the recurrent layer leaves of its prompt batch, in terms of the arrays it is given: the projections, the gates and
    the norm's gain. Each sequence starts from a state of zeros. Where the projections and the gates are real numbers, the
    result does not depend on how a sequence is cut into chunks. -/
module

public import proofs.«01_k».proof.Proof.Compose
public import proofs.«01_k».proof.Proof.Masks

@[expose] public section

noncomputable section

namespace Prompt

open Idealize.ShloMosaic Chunk

/-- The sequence of a row of the projections and its token within it, the head of a lane and the lane within the head. -/
def sq (r : Fin 8192) : Fin 4 := ⟨r.val / 2048, by omega⟩
def tk (r : Fin 8192) : Fin 2048 := ⟨r.val % 2048, by omega⟩
def hd (l : Fin 2048) : Fin 8 := ⟨l.val / 256, by omega⟩
def ln (l : Fin 2048) : Fin 256 := ⟨l.val % 256, by omega⟩

/-- Token `t` of sequence `b` among the rows of the projections. -/
def row (b : Fin 4) (t : Fin 2048) : Fin 8704 := ⟨b.val * 2048 + t.val, by omega⟩

variable (p : Fin 8704 → Fin 6144 → EReal) (g : Fin 8704 → Fin 128 → EReal) (w : Fin 8 → Fin 256 → EReal) (b : Fin 4) (h : Fin 8)

def fS (t : Fin 2048) : EReal := lsig (g (row b t) ⟨8 + h.val, by omega⟩)
def iS (t : Fin 2048) : EReal := g (row b t) ⟨h.val, by omega⟩
def qS (t : Fin 2048) (d : Fin 128) : EReal := p (row b t) ⟨h.val * 128 + d.val, by omega⟩
def kS (t : Fin 2048) (d : Fin 128) : EReal := p (row b t) ⟨1024 + (h.val * 128 + d.val), by omega⟩ * Ideal.ofBits .f32 0x3DB504F3#32
def vS (t : Fin 2048) (j : Fin 256) : EReal := p (row b t) ⟨2048 + (h.val * 256 + j.val), by omega⟩
def oS (t : Fin 2048) (j : Fin 256) : EReal := p (row b t) ⟨4096 + (h.val * 256 + j.val), by omega⟩

/-- The level, vector and matrix after the sequence. -/
def newM : EReal := levelNew (fS g b h) (iS g b h) 0 2047
def newN (d : Fin 128) : EReal := vecNew (fS g b h) (iS g b h) 0 2047 (kS p b h) (fun _ => 0) d
def newC (d : Fin 128) (j : Fin 256) : EReal := matNew (fS g b h) (iS g b h) 0 2047 (kS p b h) (vS p b h) (fun _ _ => 0) d j

/-- The read-out, gated and normed. -/
def out (t : Fin 2048) (j : Fin 256) : EReal :=
  normed (gated (read (fS g b h) (iS g b h) 0 (qS p b h) (kS p b h) (vS p b h) (fun _ _ => 0) (fun _ => 0) t) (oS p b h t)) (w h) j

/-! ## Real projections and gates -/

/-- The entries of the batch's queries, keys, values and gates are real numbers. -/
def Real : Prop := (∀ (r : Fin 8704) (l : Fin 6144), r.val < 8192 → l.val < 4096 → ∃ x : ℝ, p r l = x) ∧
  ∀ (r : Fin 8704) (l : Fin 128), r.val < 8192 → l.val < 16 → ∃ x : ℝ, g r l = x

/-- A sequence's entries as a sequence of real numbers. -/
def gates (x : Fin 2048 → EReal) (t : ℕ) : ℝ := if h : t < 2048 then (x ⟨t, h⟩).toReal else 0
def rows {W : ℕ} (x : Fin 2048 → Fin W → EReal) (t : ℕ) (d : Fin W) : ℝ := if h : t < 2048 then (x ⟨t, h⟩ d).toReal else 0

theorem gates_coe (x : Fin 2048 → EReal) (hx : ∀ t, ∃ r : ℝ, x t = r) (t : Fin 2048) : x t = (gates x t.val : EReal) := by
  obtain ⟨r, hr⟩ := hx t
  unfold gates
  rw [dif_pos t.isLt, hr, EReal.toReal_coe]

theorem rows_coe {W : ℕ} (x : Fin 2048 → Fin W → EReal) (hx : ∀ t d, ∃ r : ℝ, x t d = r) (t : Fin 2048) (d : Fin W) :
    x t d = (rows x t.val d : EReal) := by
  obtain ⟨r, hr⟩ := hx t d
  unfold rows
  rw [dif_pos t.isLt, hr, EReal.toReal_coe]

theorem scale_real : ∃ r : ℝ, Ideal.ofBits .f32 0x3DB504F3#32 = r := by
  unfold Ideal.ofBits Ideal.ieee
  simp
  exact ⟨_, (EReal.coe_mul _ _).symm⟩

variable (hr : Real p g)
include hr

theorem fS_real (t : Fin 2048) : ∃ r : ℝ, fS g b h t = r := by
  obtain ⟨x, hx⟩ := hr.2 (row b t) ⟨8 + h.val, by omega⟩ (by unfold row; dsimp only; omega) (by dsimp only; omega)
  unfold fS
  rw [hx]
  exact lsig_coe x

theorem iS_real (t : Fin 2048) : ∃ r : ℝ, iS g b h t = r :=
  hr.2 (row b t) ⟨h.val, by omega⟩ (by unfold row; dsimp only; omega) (by dsimp only; omega)

theorem qS_real (t : Fin 2048) (d : Fin 128) : ∃ r : ℝ, qS p b h t d = r :=
  hr.1 (row b t) ⟨h.val * 128 + d.val, by omega⟩ (by unfold row; dsimp only; omega) (by dsimp only; omega)

theorem kS_real (t : Fin 2048) (d : Fin 128) : ∃ r : ℝ, kS p b h t d = r := by
  obtain ⟨x, hx⟩ := hr.1 (row b t) ⟨1024 + (h.val * 128 + d.val), by omega⟩ (by unfold row; dsimp only; omega) (by dsimp only; omega)
  obtain ⟨y, hy⟩ := scale_real
  unfold kS
  rw [hx, hy]
  exact ⟨x * y, (EReal.coe_mul x y).symm⟩

theorem vS_real (t : Fin 2048) (j : Fin 256) : ∃ r : ℝ, vS p b h t j = r :=
  hr.1 (row b t) ⟨2048 + (h.val * 256 + j.val), by omega⟩ (by unfold row; dsimp only; omega) (by dsimp only; omega)

/-! ## The whole sequence as one chunk -/

omit hr in
theorem whole (x : Fin 2048 → EReal) (hx : ∀ t, ∃ r : ℝ, x t = r) : x = fC (gates x) 0 :=
  funext fun t => (gates_coe x hx t).trans (congrArg (fun n => (gates x n : EReal)) (Nat.zero_add _).symm)

omit hr in
theorem whole_inp (x : Fin 2048 → EReal) (hx : ∀ t, ∃ r : ℝ, x t = r) : x = iC (gates x) 0 := whole x hx

omit hr in
theorem whole_rows {W : ℕ} (x : Fin 2048 → Fin W → EReal) (hx : ∀ t d, ∃ r : ℝ, x t d = r) : x = rC 0 (rows x) :=
  funext fun t => funext fun d => (rows_coe x hx t d).trans (congrArg (fun n => (rows x n d : EReal)) (Nat.zero_add _).symm)

theorem newM_eq : newM g b h = stM (gates (fS g b h)) (gates (iS g b h)) 2048 := by
  have e := levelNew_fC (L := 2048) (gates (fS g b h)) (gates (iS g b h)) 0 2047 rfl
  rw [← whole (fS g b h) (fS_real p g b h hr), ← whole_inp (iS g b h) (iS_real p g b h hr), stM_zero, Nat.zero_add] at e
  exact e

theorem newN_eq : newN p g b h = stN (gates (fS g b h)) (gates (iS g b h)) 2048 (rows (kS p b h)) := by
  funext d
  have e := vecNew_fC (L := 2048) (gates (fS g b h)) (gates (iS g b h)) 0 (rows (kS p b h)) 2047 rfl d
  rw [← whole (fS g b h) (fS_real p g b h hr), ← whole_inp (iS g b h) (iS_real p g b h hr),
    ← whole_rows (kS p b h) (kS_real p g b h hr), stM_zero, stN_zero, Nat.zero_add] at e
  exact e

theorem newC_eq : newC p g b h = stC (gates (fS g b h)) (gates (iS g b h)) 2048 (rows (kS p b h)) (rows (vS p b h)) := by
  funext d j
  have e := matNew_fC (L := 2048) (gates (fS g b h)) (gates (iS g b h)) 0 (rows (kS p b h)) (rows (vS p b h)) 2047 rfl d j
  rw [← whole (fS g b h) (fS_real p g b h hr), ← whole_inp (iS g b h) (iS_real p g b h hr),
    ← whole_rows (kS p b h) (kS_real p g b h hr), ← whole_rows (vS p b h) (vS_real p g b h hr), stM_zero, stC_zero, Nat.zero_add] at e
  exact e

theorem read_eq (t : Fin 2048) (j : Fin 256) :
    Chunk.read (fS g b h) (iS g b h) 0 (qS p b h) (kS p b h) (vS p b h) (fun _ _ => 0) (fun _ => 0) t j =
      readAt (gates (fS g b h)) (gates (iS g b h)) (rows (qS p b h)) (rows (kS p b h)) (rows (vS p b h)) t.val j := by
  have e := read_fC (L := 2048) (gates (fS g b h)) (gates (iS g b h)) 0 (rows (qS p b h)) (rows (kS p b h)) (rows (vS p b h)) t j
  rw [← whole (fS g b h) (fS_real p g b h hr), ← whole_inp (iS g b h) (iS_real p g b h hr), ← whole_rows (qS p b h) (qS_real p g b h hr),
    ← whole_rows (kS p b h) (kS_real p g b h hr), ← whole_rows (vS p b h) (vS_real p g b h hr), stM_zero, stC_zero, stN_zero, Nat.zero_add] at e
  exact e

/-! ## A chunk of 256 tokens of the sequence -/

omit hr in
/-- Token `s` of chunk `c`. -/
def tok (c : Fin 8) (s : Fin 256) : Fin 2048 := ⟨256 * c.val + s.val, by omega⟩

omit hr in
theorem part (x : Fin 2048 → EReal) (hx : ∀ t, ∃ r : ℝ, x t = r) (c : Fin 8) : (fun s => x (tok c s)) = fC (gates x) (256 * c.val) :=
  funext fun s => gates_coe x hx (tok c s)

omit hr in
theorem part_rows {W : ℕ} (x : Fin 2048 → Fin W → EReal) (hx : ∀ t d, ∃ r : ℝ, x t d = r) (c : Fin 8) :
    (fun s => x (tok c s)) = rC (256 * c.val) (rows x) :=
  funext fun s => funext fun d => rows_coe x hx (tok c s) d

end Prompt
-- ==== Proof.PromptArrays.lean ====
module

public import proofs.«01_k».proof.Proof.PromptStore
public import proofs.«01_k».proof.Proof.PromptLayer
public import Idealize.ShloMosaic.Lib.Claim
public import Idealize.ShloMosaic.Lib.Pipeline.ValueKit

@[expose] public section

set_option maxRecDepth 65536

noncomputable section

namespace Cert.Kernel9Ideal.Heads

open Cert.Kernel9Ideal Cert.Kernel9Ideal.Gen Idealize.ShloMosaic Idealize.ShloMosaic.TcCoe Idealize.SL.Sem Chunk
open Prompt (row tok fS iS qS kS vS oS gates rows Real)

variable (m : (ℓ : Loc nD τ sig) → Buf (Elt Ideal) ℓ) (c : Dev nD)

/-! ## The arguments -/

def aP (r : Fin 8704) (l : Fin 6144) : EReal := (m (c, Proc.tc.devRef main_arg0) : S8704x6144.Idx → EReal) (ix2 r l)
def aG (r : Fin 8704) (l : Fin 128) : EReal := (m (c, Proc.tc.devRef main_arg1) : S8704x128.Idx → EReal) (ix2 r l)
def aW (h : Fin 8) (j : Fin 256) : EReal := (m (c, Proc.tc.devRef main_arg2) : S1x8x256.Idx → EReal) (ix3 0 h j)

/-! ## The arrays the grid reads -/

theorem V_proj (r : Fin 8704) (l : Fin 6144) : (V m c main_v1 : S1x8704x6144.Idx → EReal) (ix3 0 r l) = aP m c r l := by
  refine Eq.trans (congrFun (?h : V m c main_v1 = ?X) _) ?_
  case h =>
    unfold V
    simp only [hostOps0, List.flatten_cons, List.flatten_nil, List.append_nil, List.cons_append, List.nil_append]
    after_results
  pointwise [StableHlo.TRef.toBuf, StableHlo.TRef.ofBuf, cast_eq]
  rfl

theorem V_gate (r : Fin 8704) (l : Fin 128) : (V m c main_v2 : S1x8704x128.Idx → EReal) (ix3 0 r l) = aG m c r l := by
  refine Eq.trans (congrFun (?h : V m c main_v2 = ?X) _) ?_
  case h =>
    unfold V
    simp only [hostOps0, List.flatten_cons, List.flatten_nil, List.append_nil, List.cons_append, List.nil_append]
    after_results
  pointwise [StableHlo.TRef.toBuf, StableHlo.TRef.ofBuf, cast_eq]
  rfl

theorem V_gateT (l : Fin 16) (r : Fin 8704) : (V m c main_v7 : S1x16x8704.Idx → EReal) (ix3 0 l r) = aG m c r (l.castLE (by decide)) := by
  refine Eq.trans (congrFun (?h : V m c main_v7 = ?X) _) ?_
  case h =>
    unfold V
    simp only [hostOps0, List.flatten_cons, List.flatten_nil, List.append_nil, List.cons_append, List.nil_append]
    after_results
  pointwise [StableHlo.TRef.toBuf, StableHlo.TRef.ofBuf, cast_eq]
  rfl

theorem V_mat (b : Fin 4) (h : Fin 8) (d : Fin 128) (j : Fin 256) : (V m c main_v0 : S4x8x128x256.Idx → EReal) (ix4 b h d j) = (0 : EReal) := by
  refine Eq.trans (congrFun (?h : V m c main_v0 = ?X) _) ?_
  case h =>
    unfold V
    simp only [hostOps0, List.flatten_cons, List.flatten_nil, List.append_nil, List.cons_append, List.nil_append]
    after_results
  pointwise [StableHlo.TRef.toBuf, StableHlo.TRef.ofBuf, cast_eq]

theorem V_vec (b : Fin 4) (h : Fin 8) (d : Fin 128) : (V m c main_v8 : S4x8x1x128.Idx → EReal) (ix4 b h 0 d) = (0 : EReal) := by
  refine Eq.trans (congrFun (?h : V m c main_v8 = ?X) _) ?_
  case h =>
    unfold V
    simp only [hostOps0, List.flatten_cons, List.flatten_nil, List.append_nil, List.cons_append, List.nil_append]
    after_results
  pointwise [StableHlo.TRef.toBuf, StableHlo.TRef.ofBuf, cast_eq]

theorem V_level (b : Fin 4) (h : Fin 8) (d : Fin 128) : (V m c main_v10 : S4x8x1x128.Idx → EReal) (ix4 b h 0 d) = (0 : EReal) := by
  refine Eq.trans (congrFun (?h : V m c main_v10 = ?X) _) ?_
  case h =>
    unfold V
    simp only [hostOps0, List.flatten_cons, List.flatten_nil, List.append_nil, List.cons_append, List.nil_append]
    after_results
  pointwise [StableHlo.TRef.toBuf, StableHlo.TRef.ofBuf, cast_eq]

theorem V_gain (h : Fin 8) (j : Fin 256) : (V m c main_v11 : S8x1x256.Idx → EReal) (ix3 h 0 j) = aW m c h j := by
  refine Eq.trans (congrFun (?h : V m c main_v11 = ?X) _) ?_
  case h =>
    unfold V
    simp only [hostOps0, List.flatten_cons, List.flatten_nil, List.append_nil, List.cons_append, List.nil_append]
    after_results
  pointwise [StableHlo.TRef.toBuf, StableHlo.TRef.ofBuf, cast_eq]
  rfl

/-! ## The blocks of point `t` -/

theorem N_eq : cfg0.N = 32 := by decide +kernel

theorem lt_N (t : Fin cfg0.N) : t.val < 32 := N_eq ▸ t.isLt

/-- The sequence of point `t`, its chunk, and the rows of the chunk's tokens. -/
def bt (t : Fin cfg0.N) : Fin 4 := ⟨t.val / 8, by have := lt_N t; omega⟩
def ch (t : Fin cfg0.N) : Fin 8 := ⟨t.val % 8, by omega⟩
def tokRow (t : Fin cfg0.N) (s : Fin 256) : Fin 8704 := ⟨t.val * 256 + s.val, by have := lt_N t; omega⟩

theorem tokRow_eq (t : Fin cfg0.N) (s : Fin 256) : tokRow t s = row (bt t) (tok (ch t) s) := by
  apply Fin.ext
  unfold tokRow row tok bt ch
  dsimp only
  omega

theorem idx : ∀ t : Fin cfg0.N, win0_0.index t = ![0, t.val, 0] ∧ win0_1.index t = ![0, t.val, 1] ∧ win0_2.index t = ![0, t.val, 1] ∧
    win0_3.index t = ![0, t.val, 2] ∧ win0_4.index t = ![0, t.val, 0] ∧ win0_5.index t = ![0, 0, t.val] ∧
    win0_6.index t = ![t.val / 8, 0, 0, 0] ∧ win0_7.index t = ![t.val / 8, 0, 0, 0] ∧ win0_8.index t = ![t.val / 8, 0, 0, 0] ∧
    win0_9.index t = ![0, 0, 0] ∧ win0_10.index t = ![0, t.val, 0] ∧ win0_11.index t = ![t.val / 8, 0, 0, 0] ∧
    win0_12.index t = ![t.val / 8, 0, 0, 0] ∧ win0_13.index t = ![t.val / 8, 0, 0, 0] :=
  (by decide +kernel : ∀ t : Fin grid0.N, _)

variable (t : Fin cfg0.N)

theorem blk_q (s : Fin 256) (l : Fin 1024) : (iblk m c 0 t : S1x256x1024.Idx → EReal) (ix3 0 s l) =
    (V m c main_v1 : S1x8704x6144.Idx → EReal) (ix3 0 (tokRow t s) ⟨l.val, by omega⟩) := by
  blk_ext [iblk, idx t, bt, tokRow]

theorem blk_k (s : Fin 256) (l : Fin 1024) : (iblk m c 1 t : S1x256x1024.Idx → EReal) (ix3 0 s l) =
    (V m c main_v1 : S1x8704x6144.Idx → EReal) (ix3 0 (tokRow t s) ⟨1024 + l.val, by omega⟩) := by
  blk_ext [iblk, idx t, bt, tokRow]

theorem blk_v (s : Fin 256) (l : Fin 2048) : (iblk m c 2 t : S1x256x2048.Idx → EReal) (ix3 0 s l) =
    (V m c main_v1 : S1x8704x6144.Idx → EReal) (ix3 0 (tokRow t s) ⟨2048 + l.val, by omega⟩) := by
  blk_ext [iblk, idx t, bt, tokRow]

theorem blk_o (s : Fin 256) (l : Fin 2048) : (iblk m c 3 t : S1x256x2048.Idx → EReal) (ix3 0 s l) =
    (V m c main_v1 : S1x8704x6144.Idx → EReal) (ix3 0 (tokRow t s) ⟨4096 + l.val, by omega⟩) := by
  blk_ext [iblk, idx t, bt, tokRow]

theorem blk_g (s : Fin 256) (l : Fin 128) : (iblk m c 4 t : S1x256x128.Idx → EReal) (ix3 0 s l) =
    (V m c main_v2 : S1x8704x128.Idx → EReal) (ix3 0 (tokRow t s) l) := by
  blk_ext [iblk, idx t, bt, tokRow]

theorem blk_gT (l : Fin 16) (s : Fin 256) : (iblk m c 5 t : S1x16x256.Idx → EReal) (ix3 0 l s) =
    (V m c main_v7 : S1x16x8704.Idx → EReal) (ix3 0 l (tokRow t s)) := by
  blk_ext [iblk, idx t, bt, tokRow]

theorem blk_C (h : Fin 8) (d : Fin 128) (j : Fin 256) : (iblk m c 6 t : S1x8x128x256.Idx → EReal) (ix4 0 h d j) =
    (V m c main_v0 : S4x8x128x256.Idx → EReal) (ix4 (bt t) h d j) := by
  blk_ext [iblk, idx t, bt, tokRow]

theorem blk_n (h : Fin 8) (d : Fin 128) : (iblk m c 7 t : S1x8x1x128.Idx → EReal) (ix4 0 h 0 d) =
    (V m c main_v8 : S4x8x1x128.Idx → EReal) (ix4 (bt t) h 0 d) := by
  blk_ext [iblk, idx t, bt, tokRow]

theorem blk_m (h : Fin 8) (d : Fin 128) : (iblk m c 8 t : S1x8x1x128.Idx → EReal) (ix4 0 h 0 d) =
    (V m c main_v10 : S4x8x1x128.Idx → EReal) (ix4 (bt t) h 0 d) := by
  blk_ext [iblk, idx t, bt, tokRow]

theorem blk_w (h : Fin 8) (j : Fin 256) : (iblk m c 9 t : S8x1x256.Idx → EReal) (ix3 h 0 j) =
    (V m c main_v11 : S8x1x256.Idx → EReal) (ix3 h 0 j) := by
  blk_ext [iblk, idx t, bt, tokRow]

theorem blk_transposed : Transposed (iblk m c 4 t) (iblk m c 5 t) := fun l s => by
  refine (blk_gT m c t l s).trans ((V_gateT m c l _).trans ?_)
  exact ((blk_g m c t s _).trans (V_gate m c _ _)).symm

/-! ## The blocks in terms of the arguments -/

section

variable (h : Fin 8)

theorem mB_start : mB (startM (F := Ideal) (iblk m c 8 t)) h.val h.isLt = 0 := by
  unfold mB startM
  pointwise [k0_pay4]
  exact (blk_m m c t h 0).trans (V_level m c (bt t) h 0)

theorem nB_start : nB (startN (F := Ideal) (iblk m c 7 t)) h.val h.isLt = fun _ => 0 := by
  funext d
  unfold nB startN
  pointwise [k0_pay3]
  exact (blk_n m c t h d).trans (V_vec m c (bt t) h d)

theorem cB_start : cB (startC (F := Ideal) (iblk m c 6 t)) h.val h.isLt = fun _ _ => 0 := by
  funext d j
  unfold cB startC
  pointwise [k0_pay2]
  exact (blk_C m c t h d j).trans (V_mat m c (bt t) h d j)

theorem gB_eq : gB (iblk m c 9 t) h.val h.isLt = aW m c h := by
  funext j
  unfold gB
  rw [blk_w, V_gain]

theorem oB_eq (s : Fin 256) : oB (iblk m c 3 t) h.val h.isLt s = oS (aP m c) (bt t) h (tok (ch t) s) := by
  funext j
  unfold oB oS
  rw [blk_o, V_proj, tokRow_eq]

variable (hr : Real (aP m c) (aG m c))
include hr

theorem fB_eq : fB (iblk m c 4 t) h.val h.isLt = fC (gates (fS (aG m c) (bt t) h)) (256 * (ch t).val) := by
  refine Eq.trans (funext fun s => ?_) (Prompt.part (fS (aG m c) (bt t) h) (Prompt.fS_real _ _ _ _ hr) (ch t))
  unfold fB fS
  rw [blk_g, V_gate, tokRow_eq]

theorem iB_eq : iB (iblk m c 4 t) h.val h.isLt = iC (gates (iS (aG m c) (bt t) h)) (256 * (ch t).val) := by
  refine Eq.trans (funext fun s => ?_) (Prompt.part (iS (aG m c) (bt t) h) (Prompt.iS_real _ _ _ _ hr) (ch t))
  unfold iB iS
  rw [blk_g, V_gate, tokRow_eq]

theorem qB_eq : qB (iblk m c 0 t) h.val h.isLt = rC (256 * (ch t).val) (rows (qS (aP m c) (bt t) h)) := by
  refine Eq.trans (funext fun s => funext fun d => ?_) (Prompt.part_rows (qS (aP m c) (bt t) h) (Prompt.qS_real _ _ _ _ hr) (ch t))
  unfold qB qS
  rw [blk_q, V_proj, tokRow_eq]

theorem kB_eq : kB (iblk m c 1 t) h.val h.isLt = rC (256 * (ch t).val) (rows (kS (aP m c) (bt t) h)) := by
  refine Eq.trans (funext fun s => funext fun d => ?_) (Prompt.part_rows (kS (aP m c) (bt t) h) (Prompt.kS_real _ _ _ _ hr) (ch t))
  unfold kB kS
  rw [blk_k, V_proj, tokRow_eq]

theorem vB_eq : vB (iblk m c 2 t) h.val h.isLt = rC (256 * (ch t).val) (rows (vS (aP m c) (bt t) h)) := by
  refine Eq.trans (funext fun s => funext fun d => ?_) (Prompt.part_rows (vS (aP m c) (bt t) h) (Prompt.vS_real _ _ _ _ hr) (ch t))
  unfold vB vS
  rw [blk_v, V_proj, tokRow_eq]

end

end Cert.Kernel9Ideal.Heads
-- ==== Proof.PromptResult.lean ====
module

public import proofs.«01_k».proof.Proof.PromptArrays

@[expose] public section

set_option maxRecDepth 65536

noncomputable section

namespace Cert.Kernel9Ideal.Heads

open Cert.Kernel9Ideal Cert.Kernel9Ideal.Gen Idealize.ShloMosaic Idealize.ShloMosaic.TcCoe Idealize.SL.Sem Chunk
open Prompt (row tok fS iS qS kS vS oS gates rows Real newM newN newC out newM_eq newN_eq newC_eq read_eq)

variable (m : (ℓ : Loc nD τ sig) → Buf (Elt Ideal) ℓ) (c : Dev nD)

/-! ## The state after `T` tokens of sequence `b`, for each head -/

def sM (b : Fin 4) (h : Fin 8) (T : ℕ) : EReal := stM (gates (fS (aG m c) b h)) (gates (iS (aG m c) b h)) T
def sN (b : Fin 4) (h : Fin 8) (T : ℕ) : Fin 128 → EReal :=
  stN (gates (fS (aG m c) b h)) (gates (iS (aG m c) b h)) T (rows (kS (aP m c) b h))
def sC (b : Fin 4) (h : Fin 8) (T : ℕ) : Fin 128 → Fin 256 → EReal :=
  stC (gates (fS (aG m c) b h)) (gates (iS (aG m c) b h)) T (rows (kS (aP m c) b h)) (rows (vS (aP m c) b h))

/-- The blocks `x6`, `x7`, `x8` hold the state after `T` tokens of sequence `b`. -/
structure Holds (x6 : Vec Ideal S1x8x128x256 .f32) (x7 : Vec Ideal S1x8x1x128 .f32) (x8 : Vec Ideal S1x8x1x128 .f32) (b : Fin 4) (T : ℕ) :
    Prop where
  level : ∀ h : Fin 8, mB x8 h.val h.isLt = sM m c b h T
  vec : ∀ h : Fin 8, nB x7 h.val h.isLt = sN m c b h T
  mat : ∀ h : Fin 8, cB x6 h.val h.isLt = sC m c b h T

/-- The same of every entry: a level fills a row of its block. -/
structure Fills (x6 : Vec Ideal S1x8x128x256 .f32) (x7 : Vec Ideal S1x8x1x128 .f32) (x8 : Vec Ideal S1x8x1x128 .f32) (b : Fin 4) (T : ℕ) :
    Prop where
  level : ∀ y : S1x8x1x128.Idx, (x8 y : EReal) = sM m c b (y 1) T
  vec : ∀ y : S1x8x1x128.Idx, (x7 y : EReal) = sN m c b (y 1) T (y 3)
  mat : ∀ y : S1x8x128x256.Idx, (x6 y : EReal) = sC m c b (y 1) T (y 2) (y 3)

theorem Fills.holds {x6 : Vec Ideal S1x8x128x256 .f32} {x7 : Vec Ideal S1x8x1x128 .f32} {x8 : Vec Ideal S1x8x1x128 .f32} {b : Fin 4} {T : ℕ}
    (hs : Fills m c x6 x7 x8 b T) : Holds m c x6 x7 x8 b T :=
  ⟨fun h => hs.level _, fun h => funext fun d => hs.vec _, fun h => funext fun d => funext fun j => hs.mat _⟩

variable (t : Fin cfg0.N)

theorem holds_start : Holds m c (startC (F := Ideal) (iblk m c 6 t)) (startN (F := Ideal) (iblk m c 7 t)) (startM (F := Ideal) (iblk m c 8 t)) (bt t) 0 :=
  ⟨fun h => (mB_start m c t h).trans (stM_zero _ _).symm, fun h => (nB_start m c t h).trans (stN_zero _ _ _).symm,
    fun h => (cB_start m c t h).trans (stC_zero _ _ _ _).symm⟩

variable (hr : Real (aP m c) (aG m c))
include hr

section

variable (x6 : Vec Ideal S1x8x128x256 .f32) (x7 : Vec Ideal S1x8x1x128 .f32) (x8 : Vec Ideal S1x8x1x128 .f32)
  (hs : Holds m c x6 x7 x8 (bt t) (256 * (ch t).val)) (h : Fin 8)
include hs

theorem blockM_eq : blockM (iblk m c 4 t) x8 h = sM m c (bt t) h (256 * (ch t).val + 256) := by
  unfold blockM
  rw [fB_eq m c t h hr, iB_eq m c t h hr, hs.level]
  exact levelNew_fC (L := 256) _ _ _ 255 rfl

theorem blockN_eq (d : Fin 128) : blockN (iblk m c 1 t) (iblk m c 4 t) x7 x8 h d = sN m c (bt t) h (256 * (ch t).val + 256) d := by
  unfold blockN
  rw [fB_eq m c t h hr, iB_eq m c t h hr, kB_eq m c t h hr, hs.level, hs.vec]
  exact vecNew_fC (L := 256) _ _ _ _ 255 rfl d

theorem blockC_eq (d : Fin 128) (j : Fin 256) :
    blockC (iblk m c 1 t) (iblk m c 2 t) (iblk m c 4 t) x6 x8 h d j = sC m c (bt t) h (256 * (ch t).val + 256) d j := by
  unfold blockC
  rw [fB_eq m c t h hr, iB_eq m c t h hr, kB_eq m c t h hr, vB_eq m c t h hr, hs.level, hs.mat]
  exact matNew_fC (L := 256) _ _ _ _ _ 255 rfl d j

theorem blockH_eq (s : Fin 256) (j : Fin 256) :
    blockH (iblk m c 0 t) (iblk m c 1 t) (iblk m c 2 t) (iblk m c 3 t) (iblk m c 4 t) x6 x7 x8 (iblk m c 9 t) h s j =
      out (aP m c) (aG m c) (aW m c) (bt t) h (tok (ch t) s) j := by
  unfold blockH out
  rw [fB_eq m c t h hr, iB_eq m c t h hr, qB_eq m c t h hr, kB_eq m c t h hr, vB_eq m c t h hr, hs.level, hs.vec, hs.mat, gB_eq, oB_eq]
  refine congrArg (fun x => normed (gated x _) _ j) (funext fun j => ?_)
  exact (read_fC (L := 256) _ _ _ _ _ _ s j).trans (read_eq _ _ _ _ hr (tok (ch t) s) j).symm

end

/-! ## The state after each point -/

theorem fills_after : ∀ (n : ℕ) (hn : n < cfg0.N), Fills m c (outsAt0 m c n hn).2.1 (outsAt0 m c n hn).2.2.1 (outsAt0 m c n hn).2.2.2
    (bt ⟨n, hn⟩) (256 * (ch ⟨n, hn⟩).val + 256) := by
  intro n
  induction n with
  | zero =>
    intro hn
    have e := outsAt0_A m c ⟨0, hn⟩ rfl
    have hs := holds_start m c ⟨0, hn⟩
    rw [show (outsAt0 m c 0 hn) = _ from e]
    dsimp only
    refine ⟨fun y => ?_, fun y => ?_, fun y => ?_⟩
    · rw [firstM, canonM (hx := blk_transposed m c ⟨0, hn⟩)]; exact blockM_eq m c _ hr _ _ _ hs (y 1)
    · rw [firstN, canonN (hx := blk_transposed m c ⟨0, hn⟩)]; exact blockN_eq m c _ hr _ _ _ hs (y 1) (y 3)
    · rw [firstC, canonC (hx := blk_transposed m c ⟨0, hn⟩)]; exact blockC_eq m c _ hr _ _ _ hs (y 1) (y 2) (y 3)
  | succ n ih =>
    intro hn
    by_cases h0 : (n + 1) % 8 = 0
    · have e := outsAt0_A m c ⟨n + 1, hn⟩ h0
      have hs := holds_start m c ⟨n + 1, hn⟩
      have hz : 0 = 256 * (ch ⟨n + 1, hn⟩).val := by unfold ch; dsimp only; omega
      rw [hz] at hs
      rw [show (outsAt0 m c (n + 1) hn) = _ from e]
      dsimp only
      refine ⟨fun y => ?_, fun y => ?_, fun y => ?_⟩
      · rw [firstM, canonM (hx := blk_transposed m c ⟨n + 1, hn⟩)]; exact blockM_eq m c _ hr _ _ _ hs (y 1)
      · rw [firstN, canonN (hx := blk_transposed m c ⟨n + 1, hn⟩)]; exact blockN_eq m c _ hr _ _ _ hs (y 1) (y 3)
      · rw [firstC, canonC (hx := blk_transposed m c ⟨n + 1, hn⟩)]; exact blockC_eq m c _ hr _ _ _ hs (y 1) (y 2) (y 3)
    · have e := outsAt0_B m c ⟨n + 1, hn⟩ h0
      have hs := (ih (Nat.lt_of_succ_lt hn)).holds
      have hb : bt ⟨n, Nat.lt_of_succ_lt hn⟩ = bt ⟨n + 1, hn⟩ := by apply Fin.ext; unfold bt; dsimp only; omega
      have hz : 256 * (ch ⟨n, Nat.lt_of_succ_lt hn⟩).val + 256 = 256 * (ch ⟨n + 1, hn⟩).val := by unfold ch; dsimp only; omega
      rw [hz, hb] at hs
      rw [show (outsAt0 m c (n + 1) hn) = _ from e]
      dsimp only
      refine ⟨fun y => ?_, fun y => ?_, fun y => ?_⟩
      · rw [laterM, canonM (hx := blk_transposed m c ⟨n + 1, hn⟩)]; exact blockM_eq m c _ hr _ _ _ hs (y 1)
      · rw [laterN, canonN (hx := blk_transposed m c ⟨n + 1, hn⟩)]; exact blockN_eq m c _ hr _ _ _ hs (y 1) (y 3)
      · rw [laterC, canonC (hx := blk_transposed m c ⟨n + 1, hn⟩)]; exact blockC_eq m c _ hr _ _ _ hs (y 1) (y 2) (y 3)

/-- What point `t` reads out. -/
theorem reads (y : S1x256x2048.Idx) : ((outsAt0 m c t.val t.isLt).1 y : EReal) =
    out (aP m c) (aG m c) (aW m c) (bt t) (hd (y 2)) (tok (ch t) (y 1)) (ln (y 2)) := by
  by_cases h0 : t.val % 8 = 0
  · have hs := holds_start m c t
    have hz : 0 = 256 * (ch t).val := by unfold ch; dsimp only; omega
    rw [hz] at hs
    rw [outsAt0_A m c t h0]
    dsimp only
    rw [firstH, canonH (hx := blk_transposed m c t)]
    exact blockH_eq m c t hr _ _ _ hs (hd (y 2)) (y 1) (ln (y 2))
  · have hl : t.val - 1 < cfg0.N := Nat.lt_of_le_of_lt (Nat.sub_le _ _) t.isLt
    have hs := (fills_after m c hr (t.val - 1) hl).holds
    have hb : bt ⟨t.val - 1, hl⟩ = bt t := by apply Fin.ext; unfold bt; dsimp only; omega
    have hz : 256 * (ch ⟨t.val - 1, hl⟩).val + 256 = 256 * (ch t).val := by unfold ch; dsimp only; omega
    rw [hz, hb] at hs
    rw [outsAt0_B m c t h0]
    dsimp only
    rw [laterH, canonH (hx := blk_transposed m c t)]
    exact blockH_eq m c t hr _ _ _ hs (hd (y 2)) (y 1) (ln (y 2))

/-! ## The arrays after the run -/

/-- The state is written back after a sequence's last chunk. -/
theorem fills_last (hf : t.val % 8 = 7) : Fills m c (outsAt0 m c t.val t.isLt).2.1 (outsAt0 m c t.val t.isLt).2.2.1
    (outsAt0 m c t.val t.isLt).2.2.2 (bt t) 2048 := by
  have h := fills_after m c hr t.val t.isLt
  have e : 256 * (ch t).val + 256 = 2048 := by unfold ch; dsimp only; omega
  rwa [show (⟨t.val, t.isLt⟩ : Fin cfg0.N) = t from rfl, e] at h

theorem arr_out (i : S1x8192x2048.Idx) : ((dats m 0 c).arrAt 10 cfg0.N : S1x8192x2048.Idx → EReal) i =
    out (aP m c) (aG m c) (aW m c) (Prompt.sq (i 1)) (Prompt.hd (i 2)) (Prompt.tk (i 1)) (Prompt.ln (i 2)) := by
  refine (dats m 0 c).arrAt_forall_of_covers 10 (fun i v => (v : EReal) =
    out (aP m c) (aG m c) (aW m c) (Prompt.sq (i 1)) (Prompt.hd (i 2)) (Prompt.tk (i 1)) (Prompt.ln (i 2))) (by decide +kernel) (fun t hf y => ?_) i
  have hv : ((win0_10.blk t).view.emb y 1).val = t.val * 256 + (y 1).val := by blk_simp [idx t]
  have hy : (y 1).val < 256 := (y 1).isLt
  have h1 : Prompt.sq ((win0_10.blk t).view.emb y 1) = bt t := by
    apply Fin.ext; unfold Prompt.sq bt; dsimp only; rw [hv]; omega
  have h1' : Prompt.tk ((win0_10.blk t).view.emb y 1) = tok (ch t) (y 1) := by
    apply Fin.ext; unfold Prompt.tk tok ch; dsimp only; rw [hv]; omega
  have h2 : (win0_10.blk t).view.emb y 2 = y 2 := by apply Fin.ext; blk_simp [idx t]
  blk_simp
  rw [h1, h1', h2, after0_10]
  exact reads m c t hr y

theorem arr_mat (i : S4x8x128x256.Idx) : ((dats m 0 c).arrAt 11 cfg0.N : S4x8x128x256.Idx → EReal) i =
    newC (aP m c) (aG m c) (i 0) (i 1) (i 2) (i 3) := by
  refine (dats m 0 c).arrAt_forall_of_covers 11 (fun i v => (v : EReal) = newC (aP m c) (aG m c) (i 0) (i 1) (i 2) (i 3)) (by decide +kernel) (fun t hf y => ?_) i
  have hl : t.val % 8 = 7 := (by decide +kernel : ∀ t : Fin grid0.N, win0_11.flush t → t.val % 8 = 7) t hf
  have h0 : (win0_11.blk t).view.emb y 0 = bt t := by
    have h := (y 0).isLt; change _ < 1 at h
    apply Fin.ext; blk_simp [idx t, bt]
  have h1 : (win0_11.blk t).view.emb y 1 = y 1 := by apply Fin.ext; blk_simp [idx t]
  have h2 : (win0_11.blk t).view.emb y 2 = y 2 := by apply Fin.ext; blk_simp [idx t]
  have h3 : (win0_11.blk t).view.emb y 3 = y 3 := by apply Fin.ext; blk_simp [idx t]
  blk_simp
  rw [h0, h1, h2, h3, after0_11]
  exact ((fills_last m c t hr hl).mat y).trans (congrFun (congrFun (newC_eq _ _ _ _ hr) _) _).symm

theorem arr_vec (i : S4x8x1x128.Idx) : ((dats m 0 c).arrAt 12 cfg0.N : S4x8x1x128.Idx → EReal) i =
    newN (aP m c) (aG m c) (i 0) (i 1) (i 3) := by
  refine (dats m 0 c).arrAt_forall_of_covers 12 (fun i v => (v : EReal) = newN (aP m c) (aG m c) (i 0) (i 1) (i 3)) (by decide +kernel) (fun t hf y => ?_) i
  have hl : t.val % 8 = 7 := (by decide +kernel : ∀ t : Fin grid0.N, win0_12.flush t → t.val % 8 = 7) t hf
  have h0 : (win0_12.blk t).view.emb y 0 = bt t := by
    have h := (y 0).isLt; change _ < 1 at h
    apply Fin.ext; blk_simp [idx t, bt]
  have h1 : (win0_12.blk t).view.emb y 1 = y 1 := by apply Fin.ext; blk_simp [idx t]
  have h3 : (win0_12.blk t).view.emb y 3 = y 3 := by apply Fin.ext; blk_simp [idx t]
  blk_simp
  rw [h0, h1, h3, after0_12]
  exact ((fills_last m c t hr hl).vec y).trans (congrFun (newN_eq _ _ _ _ hr) _).symm

theorem arr_level (i : S4x8x1x128.Idx) : ((dats m 0 c).arrAt 13 cfg0.N : S4x8x1x128.Idx → EReal) i =
    newM (aG m c) (i 0) (i 1) := by
  refine (dats m 0 c).arrAt_forall_of_covers 13 (fun i v => (v : EReal) = newM (aG m c) (i 0) (i 1)) (by decide +kernel) (fun t hf y => ?_) i
  have hl : t.val % 8 = 7 := (by decide +kernel : ∀ t : Fin grid0.N, win0_13.flush t → t.val % 8 = 7) t hf
  have h0 : (win0_13.blk t).view.emb y 0 = bt t := by
    have h := (y 0).isLt; change _ < 1 at h
    apply Fin.ext; blk_simp [idx t, bt]
  have h1 : (win0_13.blk t).view.emb y 1 = y 1 := by apply Fin.ext; blk_simp [idx t]
  blk_simp
  rw [h0, h1, after0_13]
  exact ((fills_last m c t hr hl).level y).trans (newM_eq (aP m c) _ _ _ hr).symm

end Cert.Kernel9Ideal.Heads
-- ==== Proof.PromptFinite.lean ====
module

public import proofs.«01_k».proof.Defs
public import proofs.«01_k».proof.Proof.Gen.Pre_finite
public import proofs.«01_k».proof.Proof.PromptResult

@[expose] public section

set_option maxRecDepth 65536

noncomputable section

namespace Cert.Kernel9Ideal.Heads

open Cert.Kernel9Ideal Cert.Kernel9Ideal.Gen Idealize.ShloMosaic Idealize.ShloMosaic.TcCoe Idealize.SL.Sem Chunk

/-! ## What the precondition says -/

theorem ofBits_inf : Ideal.ofBits .f32 0x7F800000#32 = ⊤ := by
  unfold Ideal.ofBits Ideal.ieee
  simp

/-- An extended real whose absolute value is below infinity is a real number. -/
theorem real_of_abs_lt (x : EReal) (h : max x (-x) < ⊤) : ∃ r : ℝ, x = r := by
  induction x using EReal.rec with
  | bot => simp at h
  | coe r => exact ⟨r, rfl⟩
  | top => simp at h

theorem real_of_mask (x : EReal) (h : Ideal.cmp .olt (max x (-x)) (Ideal.ofBits .f32 0x7F800000#32) = 1#1) : ∃ r : ℝ, x = r := by
  rw [ofBits_inf] at h
  refine real_of_abs_lt x ?_
  by_contra hn
  revert h
  unfold Ideal.cmp
  simp [hn]

variable (m : (ℓ : Loc nD τ sig) → Buf (Elt Ideal) ℓ)

theorem real_of_pre (h : Cert.Pre_Kernel9Ideal_finite (hPre_finite := Cert.Pre_finite.Gen.facts) m) (c : Dev nD) :
    Prompt.Real (aP m c) (aG m c) := by
  refine ⟨fun r l hr hl => ?_, fun r l hr hl => ?_⟩
  · have e := congrFun (h c).1 (ix2 ⟨r.val, hr⟩ ⟨l.val, hl⟩)
    refine real_of_mask _ (Eq.trans ?_ e)
    unfold Cert.Pre_finite.fn
    dsimp only
    pointwise
    rfl
  · have e := congrFun (h c).2 (ix2 ⟨r.val, hr⟩ ⟨l.val, hl⟩)
    refine real_of_mask _ (Eq.trans ?_ e)
    unfold Cert.Pre_finite.fn
    dsimp only
    pointwise
    rfl

end Cert.Kernel9Ideal.Heads
-- ==== Proof.PromptSum.lean ====
/-  The reference's running sum over a sequence's tokens and its maxima along a last axis, at an index. -/
module

public import proofs.«01_k».proof.Proof.Gen.Reference9Ideal.Run
public import proofs.«01_k».proof.Proof.PromptLayer
public import Idealize.ShloMosaic.Lib.Pointwise

@[expose] public section

set_option maxRecDepth 65536

noncomputable section

namespace Cert.Reference9Ideal.Whole

open Cert.Reference9Ideal Cert.Reference9Ideal.Gen Cert.Reference9Ideal.Value Idealize.ShloMosaic Idealize.ShloMosaic.TcCoe Idealize.SL.Sem Chunk Prompt

/-- The shape of a window along the last axis. -/
abbrev window : Shape := ⟨3, ![1, 1, 2048]⟩

theorem window_numel : window.numel = 2048 := by decide

/-- The positions of a window along the last axis. -/
theorem window_pos (n : Fin window.numel) : window.rowMajor.symm n = fun a => match a with
    | 0 => (0 : Fin 1) | 1 => (0 : Fin 1) | 2 => (⟨n.val, window_numel ▸ n.isLt⟩ : Fin 2048) := by
  refine (Equiv.symm_apply_eq _).mpr (Fin.ext ?_)
  refine Eq.trans ?_ (Shape.rowMajor_val_three (d := ![1, 1, 2048]) _).symm
  show n.val = _
  simp

theorem window_val (n : Fin window.numel) : (window.rowMajor.symm n 0).val = 0 ∧ (window.rowMajor.symm n 1).val = 0 ∧
    (window.rowMajor.symm n 2).val = n.val := by
  rw [window_pos n]
  exact ⟨rfl, rfl, rfl⟩

/-- A position of a window: an element of the operand, or padding. -/
theorem window_elt (x : S4x8x2048.Idx → EReal) (b : Fin 4) (h : Fin 8) (t : Fin 2048) (n : ℕ) (hn : n < 2048) (p : Fin 3 → ℕ)
    (hp : p = ![b.val, h.val, t.val + n])
    (inst : Decidable (∀ a : Fin 3, (![0, 0, 2047] : Fin 3 → ℕ) a ≤ p a ∧ p a - (![0, 0, 2047] : Fin 3 → ℕ) a < S4x8x2048.size a)) :
    (@dite EReal (∀ a : Fin 3, (![0, 0, 2047] : Fin 3 → ℕ) a ≤ p a ∧ p a - (![0, 0, 2047] : Fin 3 → ℕ) a < S4x8x2048.size a) inst
      (fun hin => x (fun a => ⟨p a - (![0, 0, 2047] : Fin 3 → ℕ) a, (hin a).2⟩)) fun _ => 0) =
      if 2047 ≤ t.val + n then x (ix3 b h ⟨(t.val + n - 2047) % 2048, Nat.mod_lt _ (by decide)⟩) else 0 := by
  subst hp
  by_cases hc : 2047 ≤ t.val + n
  · have ht := t.isLt
    rw [dif_pos, if_pos hc]
    · refine congrArg x (funext fun a => Fin.ext ?_)
      match a with
      | 0 => rfl
      | 1 => rfl
      | 2 => show t.val + n - 2047 = (t.val + n - 2047) % 2048; omega
    · intro a
      match a with
      | 0 => exact ⟨Nat.zero_le _, b.isLt⟩
      | 1 => exact ⟨Nat.zero_le _, h.isLt⟩
      | 2 => exact ⟨hc, show t.val + n - 2047 < 2048 by omega⟩
  · rw [dif_neg fun hin => hc (hin 2).1, if_neg hc]

theorem foldl_sum {N : ℕ} (F : Fin N → EReal) : (List.finRange N).foldl (fun r n => r + F n) 0 = ∑ n, F n := by
  rw [Fin.sum_univ_def, List.sum_eq_foldl, List.foldl_map]

/-- A sum over windows, at an index: the sum over the window's positions. -/
theorem windowAdd_sum {s t : Shape} (win strides lo hi : Fin s.rank → ℕ) (h : s.ReduceWindows win strides lo hi t) (x : s.Idx → EReal) (j : t.Idx) :
    Ideal.hostReduceWindowAdd win strides lo hi h x 0 j = ∑ n : Fin (⟨s.rank, win⟩ : Shape).numel,
      if hin : ∀ a, lo a ≤ (j (a.cast h.1.symm)).val * strides a + ((⟨s.rank, win⟩ : Shape).rowMajor.symm n a).val ∧
        (j (a.cast h.1.symm)).val * strides a + ((⟨s.rank, win⟩ : Shape).rowMajor.symm n a).val - lo a < s.size a then
        x (fun a => ⟨(j (a.cast h.1.symm)).val * strides a + ((⟨s.rank, win⟩ : Shape).rowMajor.symm n a).val - lo a, (hin a).2⟩) else 0 := by
  unfold Ideal.hostReduceWindowAdd Host.reduceWindow
  dsimp only
  refine (foldl_sum _).trans (Finset.sum_congr rfl fun n _ => ?_)
  congr

theorem windowAdd_range {s t : Shape} (win strides lo hi : Fin s.rank → ℕ) (h : s.ReduceWindows win strides lo hi t) (x : s.Idx → EReal) (j : t.Idx)
    (N : ℕ) (hN : (⟨s.rank, win⟩ : Shape).numel = N) (G : ℕ → EReal)
    (hG : ∀ n : Fin (⟨s.rank, win⟩ : Shape).numel, (if hin : ∀ a, lo a ≤ (j (a.cast h.1.symm)).val * strides a + ((⟨s.rank, win⟩ : Shape).rowMajor.symm n a).val ∧
        (j (a.cast h.1.symm)).val * strides a + ((⟨s.rank, win⟩ : Shape).rowMajor.symm n a).val - lo a < s.size a then
        x (fun a => ⟨(j (a.cast h.1.symm)).val * strides a + ((⟨s.rank, win⟩ : Shape).rowMajor.symm n a).val - lo a, (hin a).2⟩) else 0) = G n.val) :
    Ideal.hostReduceWindowAdd win strides lo hi h x 0 j = ∑ n : Fin N, G n.val := by
  subst hN
  rw [windowAdd_sum]
  exact Finset.sum_congr rfl fun n _ => hG n

/-- A window of padding and elements that ends at `t` sums to the running sum at `t`. -/
theorem window_sum (y : Fin 2048 → EReal) (t : Fin 2048) :
    ∑ n : Fin 2048, (if 2047 ≤ t.val + n.val then y ⟨(t.val + n.val - 2047) % 2048, Nat.mod_lt _ (by decide)⟩ else 0) = cum y t := by
  unfold cum
  rw [← Finset.sum_filter, ← Finset.sum_filter]
  refine Finset.sum_nbij' (fun n => (⟨(t.val + n.val - 2047) % 2048, Nat.mod_lt _ (by decide)⟩ : Fin 2048))
    (fun s => (⟨(s.val + 2047 - t.val) % 2048, Nat.mod_lt _ (by decide)⟩ : Fin 2048)) ?_ ?_ ?_ ?_ ?_
  · intro n hn
    simp only [Finset.mem_filter, Finset.mem_univ, true_and, Fin.le_def] at hn ⊢
    omega
  · intro s hs
    simp only [Finset.mem_filter, Finset.mem_univ, true_and, Fin.le_def] at hs ⊢
    omega
  · intro n hn
    simp only [Finset.mem_filter, Finset.mem_univ, true_and] at hn
    apply Fin.ext
    dsimp only
    omega
  · intro s hs
    simp only [Finset.mem_filter, Finset.mem_univ, true_and, Fin.le_def] at hs
    apply Fin.ext
    dsimp only
    omega
  · intro n _
    rfl

theorem cumsum_apply (x : FVec Ideal S4x8x2048 .f32) (init : FVec Ideal S_ .f32) (h0 : ∀ i, init i = (0 : EReal)) (b : Fin 4) (h : Fin 8) (t : Fin 2048) :
    (Host.reduceWindowAdd ![1, 1, 2048] ![1, 1, 1] ![0, 0, 2047] ![0, 0, 0] x init
      reduceWindows_S4x8x2048_S4x8x2048_w1s1p0_0_w1s1p0_0_w2048s1p2047_0 h_S_ (ix3 b h t) : EReal) = cum (fun s => x (ix3 b h s)) t := by
  unfold Host.reduceWindowAdd
  rw [Ideal.hostReduceWindowAdd_def, h0]
  refine (windowAdd_range (s := S4x8x2048) _ _ _ _ _ x _ 2048 window_numel (fun n => if 2047 ≤ t.val + n then
    (x (ix3 b h ⟨(t.val + n - 2047) % 2048, Nat.mod_lt _ (by decide)⟩) : EReal) else 0) fun n => ?_).trans
    (window_sum (fun s => (x (ix3 b h s) : EReal)) t)
  refine @window_elt x b h t n.val (lt_of_lt_of_eq n.isLt window_numel) _ ?_ _
  funext a
  obtain ⟨e0, e1, e2⟩ := window_val n
  match a with
  | 0 => exact (congrArg (b.val * 1 + ·) e0).trans (Nat.mul_one _)
  | 1 => exact (congrArg (h.val * 1 + ·) e1).trans (Nat.mul_one _)
  | 2 => exact (congrArg (t.val * 1 + ·) e2).trans (congrArg (· + n.val) (Nat.mul_one t.val))

theorem max4_apply (x : FVec Ideal S4x8x2048x2048 .f32) (e : EReal) (b : Fin 4) (h : Fin 8) (t : Fin 2048)
    [inst : DecidablePred fun i => reducesTo_S4x8x2048x2048_S4x8x2048_d3.drop i = ix3 b h t] :
    Finset.fold max e (x : S4x8x2048x2048.Idx → EReal) (Finset.univ.filter fun i => reducesTo_S4x8x2048x2048_S4x8x2048_d3.drop i = ix3 b h t) =
      Finset.univ.fold max e fun s => (x (ix4 b h t s) : EReal) := by
  have hr : S4x8x2048x2048.Reduces [3] S4x8x2048 := by decide
  refine (Eq.trans (congrArg (Finset.fold max e x) (Finset.filter_congr fun i _ => by rw [Shape.ReducesTo.drop_eq_drop _ hr])) (hr.fold_filter_drop_single max e x (ix3 b h t))).trans ?_
  refine congrArg (fun f => Finset.univ.fold max e f) (funext fun s => congrArg x ?_)
  funext a
  match a with
  | 0 => rfl
  | 1 => rfl
  | 2 => rfl
  | 3 => rfl

theorem max3_apply (x : FVec Ideal S4x8x2048 .f32) (e : EReal) (b : Fin 4) (h : Fin 8)
    [inst : DecidablePred fun i => reducesTo_S4x8x2048_S4x8_d2.drop i = ix2 b h] :
    Finset.fold max e (x : S4x8x2048.Idx → EReal) (Finset.univ.filter fun i => reducesTo_S4x8x2048_S4x8_d2.drop i = ix2 b h) =
      Finset.univ.fold max e fun s => (x (ix3 b h s) : EReal) := by
  have hr : S4x8x2048.Reduces [2] S4x8 := by decide
  refine (Eq.trans (congrArg (Finset.fold max e x) (Finset.filter_congr fun i _ => by rw [Shape.ReducesTo.drop_eq_drop _ hr])) (hr.fold_filter_drop_single max e x (ix2 b h))).trans ?_
  refine congrArg (fun f => Finset.univ.fold max e f) (funext fun s => congrArg x ?_)
  funext a
  match a with
  | 0 => rfl
  | 1 => rfl
  | 2 => rfl

end Cert.Reference9Ideal.Whole
-- ==== Proof.PromptRef.lean ====
module

public import proofs.«01_k».proof.Proof.PromptSum

@[expose] public section

set_option maxRecDepth 65536

noncomputable section

namespace Cert.Reference9Ideal.Whole

open Cert.Reference9Ideal Cert.Reference9Ideal.Gen Cert.Reference9Ideal.Value Idealize.ShloMosaic Idealize.ShloMosaic.TcCoe Idealize.SL.Sem Chunk Prompt

variable (V0 : Valuation τ sig (Elt Ideal))

/-! ## The arguments -/

def aP (r : Fin 8704) (l : Fin 6144) : EReal := (V0 (Proc.tc.devRef main_arg0) : S8704x6144.Idx → EReal) (ix2 r l)
def aG (r : Fin 8704) (l : Fin 128) : EReal := (V0 (Proc.tc.devRef main_arg1) : S8704x128.Idx → EReal) (ix2 r l)
def aW (h : Fin 8) (j : Fin 256) : EReal := (V0 (Proc.tc.devRef main_arg2) : S1x8x256.Idx → EReal) (ix3 0 h j)

variable (b : Fin 4) (h : Fin 8) (t s : Fin 2048) (d : Fin 128) (j : Fin 256)

theorem gate_apply (l : Fin 128) : (res_main_v12 V0 : S4x2048x128.Idx → EReal) (ix3 b t l) = aG V0 (row b t) l := by
  unfold res_main_v12
  pointwise
  rfl

theorem sum_apply : (res_main_v26 V0 : S4x8x2048.Idx → EReal) (ix3 b h t) = cum (fS (aG V0) b h) t := by
  unfold res_main_v26
  refine (cumsum_apply _ _ (fun i => ?_) b h t).trans ?_
  · pointwise
  · refine congrArg (fun f => cum f t) (funext fun s => ?_)
    unfold res_main_call0_call0_v3 res_main_call0_v0 res_main_call0_call0_cst
    pointwise
    rw [gate_apply]
    rw [if_neg (not_not_intro rfl)]
    exact lsig_eq _

theorem inp_apply : (res_main_v22 V0 : S4x8x2048.Idx → EReal) (ix3 b h t) = iS (aG V0) b h t := by
  unfold res_main_v22
  pointwise
  exact gate_apply ..

theorem level0_apply : (res_main_v18 V0 : S4x8.Idx → EReal) (ix2 b h) = (0 : EReal) := by
  unfold res_main_v18
  pointwise

theorem gap_apply : (res_main_v35 V0 : S4x8x2048x2048.Idx → EReal) (ix4 b h t s) = gap (fS (aG V0) b h) (iS (aG V0) b h) t s := by
  unfold res_main_v35
  pointwise
  rw [sum_apply, sum_apply, inp_apply]
  have hm : IntOp.cmpi CmpIPredicate.sge (IntOp.addi (BitVec.ofNat 32 t.val) 0#32) (BitVec.ofNat 32 s.val) = if s ≤ t then 1#1 else 0#1 := by
    rw [show IntOp.addi (BitVec.ofNat 32 t.val) 0#32 = BitVec.ofNat 32 t.val from BitVec.add_zero _]
    exact sge_nat _ _ (by have := t.isLt; omega) (by have := s.isLt; omega)
  rw [hm]
  simp only [id]
  pointwise
  rw [bits_bot]
  unfold gap
  by_cases hs : s ≤ t
  · simp [hs, Scalar.select]
  · simp [hs, Scalar.select]

theorem reduce_apply (x : FVec Ideal S4x8x2048x2048 .f32) :
    (Host.reduce FloatOps.maximumf x (constant S_ .f32 0xFF800000#32) reducesTo_S4x8x2048x2048_S4x8x2048_d3 h_S_ : FVec Ideal S4x8x2048 .f32) (ix3 b h t) =
      Finset.univ.fold max ⊥ fun s => (x (ix4 b h t s) : EReal) := by
  pointwise
  rw [bits_bot]

theorem inter_apply : (res_main_v38 V0 : S4x8x2048.Idx → EReal) (ix3 b h t) = cum (fS (aG V0) b h) t + 0 := by
  unfold res_main_v38
  pointwise
  rw [sum_apply, level0_apply]
  exact add_zero (cum (fS (aG V0) b h) t : EReal)

theorem level_apply : (res_main_v40 V0 : S4x8x2048.Idx → EReal) (ix3 b h t) = level (fS (aG V0) b h) (iS (aG V0) b h) 0 t := by
  have e := reduce_apply b h t (res_main_v35 V0)
  simp only [gap_apply] at e
  unfold res_main_v40
  exact congrArg₂ (max : EReal → EReal → EReal) (inter_apply V0 b h t) e

theorem carry_apply : (res_main_v48 V0 : S4x8x2048.Idx → EReal) (ix3 b h t) = carry (fS (aG V0) b h) (iS (aG V0) b h) 0 t := by
  unfold res_main_v48
  pointwise
  rw [inter_apply, level_apply]
  rfl

theorem left_apply : (res_main_v71 V0 : S4x8x2048.Idx → EReal) (ix3 b h t) = left (fS (aG V0) b h) (iS (aG V0) b h) 2047 t := by
  unfold res_main_v71 res_main_v67
  pointwise
  refine Eq.trans ?_ (congrArg₂ (fun x y : EReal => x - y + _) (sum_apply V0 b h 2047) (sum_apply V0 b h t))
  rw [inp_apply]

theorem levelNew_apply : (res_main_v74 V0 : S4x8.Idx → EReal) (ix2 b h) = newM (aG V0) b h := by
  unfold res_main_v74 res_main_v67
  pointwise
  rw [level0_apply, bits_bot]
  refine (congrArg (max _) (max3_apply (res_main_v71 V0) ⊥ b h)).trans ?_
  simp only [left_apply]
  exact congrArg (fun x : EReal => max (x + _) _) (sum_apply V0 b h 2047)

theorem weight_apply : (res_main_v78 V0 : S4x8x2048.Idx → EReal) (ix3 b h t) =
    weight (fS (aG V0) b h) (iS (aG V0) b h) 0 2047 t := by
  unfold res_main_v78
  pointwise
  rw [left_apply, levelNew_apply]
  rfl

theorem decay_apply : (res_main_v81 V0 : S4x8.Idx → EReal) (ix2 b h) = decay (fS (aG V0) b h) (iS (aG V0) b h) 0 2047 := by
  unfold res_main_v81 res_main_v67
  pointwise
  rw [level0_apply, levelNew_apply]
  exact congrArg (fun x : EReal => Ideal.exp (x + _ - _)) (sum_apply V0 b h 2047)

theorem q_apply : (res_main_v19 V0 : S4x8x2048x128.Idx → EReal) (ix4 b h t d) = qS (aP V0) b h t d := by
  unfold res_main_v19 res_main_v1
  pointwise
  rfl

theorem k_apply : (res_main_v20 V0 : S4x8x2048x128.Idx → EReal) (ix4 b h t d) = kS (aP V0) b h t d := by
  unfold res_main_v20 res_main_v1
  pointwise
  rfl

theorem v_apply : (res_main_v21 V0 : S4x8x2048x256.Idx → EReal) (ix4 b h t j) = vS (aP V0) b h t j := by
  unfold res_main_v21 res_main_v1
  pointwise
  rfl

theorem matrix_apply : (res_main_v16 V0 : S4x8x128x256.Idx → EReal) (ix4 b h d j) = (0 : EReal) := by
  unfold res_main_v16
  pointwise

theorem vector_apply : (res_main_v17 V0 : S4x8x128.Idx → EReal) (ix3 b h d) = (0 : EReal) := by
  unfold res_main_v17
  pointwise

theorem score_apply : (res_main_v46 V0 : S4x8x2048x2048.Idx → EReal) (ix4 b h t s) =
    score (fS (aG V0) b h) (iS (aG V0) b h) 0 (qS (aP V0) b h) (kS (aP V0) b h) t s := by
  unfold res_main_v46
  pointwise
  simp only [q_apply, k_apply, gap_apply, level_apply]
  rfl

/-! ## The results -/

theorem gated_apply : (res_main_v103 V0 : S4x2048x8x256.Idx → EReal) (ix4 b t h j) =
    gated (read (fS (aG V0) b h) (iS (aG V0) b h) 0 (qS (aP V0) b h) (kS (aP V0) b h) (vS (aP V0) b h) (fun _ _ => 0) (fun _ => 0) t)
      (oS (aP V0) b h t) j := by
  unfold res_main_v103 res_main_v1
  pointwise
  simp only [score_apply, v_apply, carry_apply, q_apply, matrix_apply, vector_apply, level_apply]
  unfold gated Chunk.read num den
  rw [zero_sub]
  rfl

theorem mean_apply : (res_main_v107 V0 : S4x2048x8x1.Idx → EReal) (ix4 b t h 0) =
    mean (fun j => (res_main_v103 V0 : S4x2048x8x256.Idx → EReal) (ix4 b t h j)) := by
  unfold res_main_v107
  pointwise
  rfl

theorem centred_apply : (res_main_v109 V0 : S4x2048x8x256.Idx → EReal) (ix4 b t h j) =
    centred (fun j => (res_main_v103 V0 : S4x2048x8x256.Idx → EReal) (ix4 b t h j)) j := by
  unfold res_main_v109
  pointwise
  exact congrArg (fun x : EReal => (_ : EReal) - x) (mean_apply ..)

theorem mat_at : (addf (mulf (broadcastInDim S4x8x128x256 ![0, 1, 2, 3] bcast_S4x8x1x1_S4x8x128x256_0_1_2_3 (broadcastInDim S4x8x1x1 ![0, 1] bcast_S4x8_S4x8x1x1_0_1 (res_main_v81 V0))) (res_main_v16 V0)) (Host.dotGeneral (φ₁ := .f32) (φ₂ := .f32) dot_S4x8x2048x128_S4x8x2048x256_S4x8x128x256_2_2_3_3_01_01 none (mulf (broadcastInDim S4x8x2048x128 ![0, 1, 2, 3] bcast_S4x8x2048x1_S4x8x2048x128_0_1_2_3 (broadcastInDim S4x8x2048x1 ![0, 1, 2] bcast_S4x8x2048_S4x8x2048x1_0_1_2 (res_main_v78 V0))) (res_main_v20 V0)) (res_main_v21 V0)) : S4x8x128x256.Idx → EReal) (ix4 b h d j) =
    newC (aP V0) (aG V0) b h d j := by
  pointwise
  simp only [decay_apply, matrix_apply, weight_apply, k_apply, v_apply, mul_comm (weight _ _ _ _ _)]
  rfl

theorem mat_eq (i : S4x8x128x256.Idx) : (addf (mulf (broadcastInDim S4x8x128x256 ![0, 1, 2, 3] bcast_S4x8x1x1_S4x8x128x256_0_1_2_3 (broadcastInDim S4x8x1x1 ![0, 1] bcast_S4x8_S4x8x1x1_0_1 (res_main_v81 V0))) (res_main_v16 V0)) (Host.dotGeneral (φ₁ := .f32) (φ₂ := .f32) dot_S4x8x2048x128_S4x8x2048x256_S4x8x128x256_2_2_3_3_01_01 none (mulf (broadcastInDim S4x8x2048x128 ![0, 1, 2, 3] bcast_S4x8x2048x1_S4x8x2048x128_0_1_2_3 (broadcastInDim S4x8x2048x1 ![0, 1, 2] bcast_S4x8x2048_S4x8x2048x1_0_1_2 (res_main_v78 V0))) (res_main_v20 V0)) (res_main_v21 V0)) : S4x8x128x256.Idx → EReal) i =
    newC (aP V0) (aG V0) (i 0) (i 1) (i 2) (i 3) := by
  have hi : i = ix4 (i 0) (i 1) (i 2) (i 3) := funext fun a => match a with | 0 => rfl | 1 => rfl | 2 => rfl | 3 => rfl
  exact (congrArg _ hi).trans (mat_at V0 (i 0) (i 1) (i 2) (i 3))

theorem vec_at : (shapeCast _ (addf (mulf (broadcastInDim S4x8x128 ![0, 1, 2] bcast_S4x8x1_S4x8x128_0_1_2 (broadcastInDim S4x8x1 ![0, 1] bcast_S4x8_S4x8x1_0_1 (res_main_v81 V0))) (res_main_v17 V0)) (Host.dotGeneral (φ₁ := .f32) (φ₂ := .f32) dot_S4x8x2048_S4x8x2048x128_S4x8x128_2_2_n_3_01_01 none (res_main_v78 V0) (res_main_v20 V0))) shapeCasts_S4x8x128_S4x8x1x128 : S4x8x1x128.Idx → EReal) (ix4 b h 0 d) =
    newN (aP V0) (aG V0) b h d := by
  pointwise
  simp only [decay_apply, vector_apply, weight_apply, k_apply, mul_comm (weight _ _ _ _ _)]
  rfl

theorem vec_eq (i : S4x8x1x128.Idx) : (shapeCast _ (addf (mulf (broadcastInDim S4x8x128 ![0, 1, 2] bcast_S4x8x1_S4x8x128_0_1_2 (broadcastInDim S4x8x1 ![0, 1] bcast_S4x8_S4x8x1_0_1 (res_main_v81 V0))) (res_main_v17 V0)) (Host.dotGeneral (φ₁ := .f32) (φ₂ := .f32) dot_S4x8x2048_S4x8x2048x128_S4x8x128_2_2_n_3_01_01 none (res_main_v78 V0) (res_main_v20 V0))) shapeCasts_S4x8x128_S4x8x1x128 : S4x8x1x128.Idx → EReal) i =
    newN (aP V0) (aG V0) (i 0) (i 1) (i 3) := by
  have hi : i = ix4 (i 0) (i 1) 0 (i 3) :=
    funext fun a => match a with | 0 => rfl | 1 => rfl | 2 => Subsingleton.elim (α := Fin 1) _ _ | 3 => rfl
  exact (congrArg _ hi).trans (vec_at V0 (i 0) (i 1) (i 3))

theorem level_at : (broadcastInDim S4x8x1x128 ![0, 1, 2, 3] bcast_S4x8x1x1_S4x8x1x128_0_1_2_3 (broadcastInDim S4x8x1x1 ![0, 1] bcast_S4x8_S4x8x1x1_0_1 (res_main_v74 V0)) : S4x8x1x128.Idx → EReal) (ix4 b h 0 d) =
    newM (aG V0) b h := by
  pointwise
  exact levelNew_apply ..

theorem level_eq (i : S4x8x1x128.Idx) : (broadcastInDim S4x8x1x128 ![0, 1, 2, 3] bcast_S4x8x1x1_S4x8x1x128_0_1_2_3 (broadcastInDim S4x8x1x1 ![0, 1] bcast_S4x8_S4x8x1x1_0_1 (res_main_v74 V0)) : S4x8x1x128.Idx → EReal) i =
    newM (aG V0) (i 0) (i 1) := by
  have hi : i = ix4 (i 0) (i 1) 0 (i 3) :=
    funext fun a => match a with | 0 => rfl | 1 => rfl | 2 => Subsingleton.elim (α := Fin 1) _ _ | 3 => rfl
  exact (congrArg _ hi).trans (level_at V0 (i 0) (i 1) (i 3))

theorem out_at (r : Fin 8192) (l : Fin 2048) : (truncf .bf16 (shapeCast _ (mulf (mulf (subf (res_main_v103 V0) (broadcastInDim S4x2048x8x256 ![0, 1, 2, 3] bcast_S4x2048x8x1_S4x2048x8x256_0_1_2_3 (res_main_v107 V0))) (broadcastInDim S4x2048x8x256 ![0, 1, 2, 3] bcast_S4x2048x8x1_S4x2048x8x256_0_1_2_3 (Host.rsqrt (addf (Host.divf (broadcastInDim S4x2048x8x1 ![0, 1, 2] bcast_S4x2048x8_S4x2048x8x1_0_1_2 (Host.reduceAdd (mulf (res_main_v109 V0) (res_main_v109 V0)) (constant S_ .f32 0x00000000#32) reducesTo_S4x2048x8x256_S4x2048x8_d3 h_S_)) (broadcastInDim S4x2048x8x1 ![] bcast_S_S4x2048x8x1 (constant S_ .f32 0x43800000#32))) (broadcastInDim S4x2048x8x1 ![] bcast_S_S4x2048x8x1 (constant S_ .f32 0x3727C5AC#32)))))) (broadcastInDim S4x2048x8x256 ![0, 1, 2, 3] bcast_S1x1x8x256_S4x2048x8x256_0_1_2_3 (broadcastInDim S1x1x8x256 ![2, 3] bcast_S8x256_S1x1x8x256_2_3 (shapeCast _ (V0 (Proc.devRef .tc main_arg2)) shapeCasts_S1x8x256_S8x256)))) shapeCasts_S4x2048x8x256_S1x8192x2048) bitsLt_bf16_f32 : S1x8192x2048.Idx → EReal) (ix3 0 r l) =
    out (aP V0) (aG V0) (aW V0) (sq r) (hd l) (tk r) (ln l) := by
  pointwise
  have hg : (fun j => (res_main_v103 V0 : S4x2048x8x256.Idx → EReal) (ix4 (sq r) (tk r) (hd l) j)) =
      gated (read (fS (aG V0) (sq r) (hd l)) (iS (aG V0) (sq r) (hd l)) 0
        (qS (aP V0) (sq r) (hd l)) (kS (aP V0) (sq r) (hd l)) (vS (aP V0) (sq r) (hd l))
        (fun _ _ => 0) (fun _ => 0) (tk r)) (oS (aP V0) (sq r) (hd l) (tk r)) :=
    funext fun j => gated_apply V0 (sq r) (hd l) (tk r) j
  have e1 : (⟨r.val / 2048, by omega⟩ : Fin 4) = Prompt.sq r := rfl
  have e2 : (⟨r.val % 2048, by omega⟩ : Fin 2048) = tk r := rfl
  have e3 : (⟨l.val / 256, by omega⟩ : Fin 8) = hd l := rfl
  have e4 : (⟨l.val % 256, by omega⟩ : Fin 256) = ln l := rfl
  simp only [e1, e2, e3, e4, centred_apply, mean_apply, hg, gated_apply]
  rfl

theorem out_eq (i : S1x8192x2048.Idx) : (truncf .bf16 (shapeCast _ (mulf (mulf (subf (res_main_v103 V0) (broadcastInDim S4x2048x8x256 ![0, 1, 2, 3] bcast_S4x2048x8x1_S4x2048x8x256_0_1_2_3 (res_main_v107 V0))) (broadcastInDim S4x2048x8x256 ![0, 1, 2, 3] bcast_S4x2048x8x1_S4x2048x8x256_0_1_2_3 (Host.rsqrt (addf (Host.divf (broadcastInDim S4x2048x8x1 ![0, 1, 2] bcast_S4x2048x8_S4x2048x8x1_0_1_2 (Host.reduceAdd (mulf (res_main_v109 V0) (res_main_v109 V0)) (constant S_ .f32 0x00000000#32) reducesTo_S4x2048x8x256_S4x2048x8_d3 h_S_)) (broadcastInDim S4x2048x8x1 ![] bcast_S_S4x2048x8x1 (constant S_ .f32 0x43800000#32))) (broadcastInDim S4x2048x8x1 ![] bcast_S_S4x2048x8x1 (constant S_ .f32 0x3727C5AC#32)))))) (broadcastInDim S4x2048x8x256 ![0, 1, 2, 3] bcast_S1x1x8x256_S4x2048x8x256_0_1_2_3 (broadcastInDim S1x1x8x256 ![2, 3] bcast_S8x256_S1x1x8x256_2_3 (shapeCast _ (V0 (Proc.devRef .tc main_arg2)) shapeCasts_S1x8x256_S8x256)))) shapeCasts_S4x2048x8x256_S1x8192x2048) bitsLt_bf16_f32 : S1x8192x2048.Idx → EReal) i =
    out (aP V0) (aG V0) (aW V0) (sq (i 1)) (hd (i 2)) (tk (i 1)) (ln (i 2)) := by
  have hi : i = ix3 0 (i 1) (i 2) := funext fun a => match a with | 0 => Subsingleton.elim (α := Fin 1) _ _ | 1 => rfl | 2 => rfl
  exact (congrArg _ hi).trans (out_at V0 (i 1) (i 2))

end Cert.Reference9Ideal.Whole
-- ==== Proof.PromptClaim.lean ====
module

public import proofs.«01_k».proof.Proof.PromptFinite
public import proofs.«01_k».proof.Proof.PromptRef
public import proofs.«01_k».proof.Proof.Gen.Kernel9.Frame
public import proofs.«01_k».proof.Proof.Gen.Kernel9Ideal.Value

@[expose] public section

set_option maxRecDepth 65536

noncomputable section

namespace Cert.Kernel9Ideal.Heads

open Cert.Kernel9Ideal Cert.Kernel9Ideal.Gen Idealize.ShloMosaic Idealize.ShloMosaic.TcCoe Idealize.SL.Sem Chunk
open Prompt (sq tk newM newN newC out)

theorem frame_reference : Cert.quiescent_Reference9Ideal (hReference9Ideal := Cert.Reference9Ideal.Gen.facts) :=
  fun m ρ _ => (θ_run _ _ _).mono (fun r h => ⟨fun c => (h c).2.2.2.2, sem_eq_zero_of_no_sems (by decide) r.2⟩)
    (Cert.Reference9Ideal.Value.run m ρ)

theorem frame_reference_finite : Cert.quiescent_Reference9Ideal_pre_finite (hReference9Ideal := Cert.Reference9Ideal.Gen.facts)
    (hPre_finite := Cert.Pre_finite.Gen.facts) :=
  fun m ρ _ => frame_reference m ρ trivial

theorem preserves : Cert.preserves_Kernel9_Kernel9Ideal := trivial

variable (m : (ℓ : Loc nD τ sig) → Buf (Elt Ideal) ℓ)

/-- The read-outs, and the state after each sequence. -/
def vOut (c : Dev nD) : S1x8192x2048.Idx → EReal := fun i =>
  out (aP m c) (aG m c) (aW m c) (sq (i 1)) (Prompt.hd (i 2)) (tk (i 1)) (Prompt.ln (i 2))
def vMat (c : Dev nD) : S4x8x128x256.Idx → EReal := fun i => newC (aP m c) (aG m c) (i 0) (i 1) (i 2) (i 3)
def vVec (c : Dev nD) : S4x8x1x128.Idx → EReal := fun i => newN (aP m c) (aG m c) (i 0) (i 1) (i 3)
def vLevel (c : Dev nD) : S4x8x1x128.Idx → EReal := fun i => newM (aG m c) (i 0) (i 1)

/-- Cut into chunks of 256 tokens or not at all, the sequences leave the same read-outs and the same states. -/
theorem algebraic : Cert.algebraic_Kernel9Ideal_Reference9Ideal_pre_finite (hKernel9Ideal := Cert.Kernel9Ideal.Gen.facts)
    (hReference9Ideal := Cert.Reference9Ideal.Gen.facts) (hPre_finite := Cert.Pre_finite.Gen.facts) := by
  intro m g m' g' hp hin
  refine ⟨vOut m, vMat m, vVec m, vLevel m, ?_, ?_⟩
  · refine (θ_run _ _ _).mono (fun r h c => ?_) (Cert.Kernel9Ideal.Value.run_blocks m g)
    obtain ⟨h0, h1, h2, h3, ha⟩ := h c
    have hr := real_of_pre m hp c
    exact ⟨h0.trans (funext (arr_out m c hr)), h1.trans (funext (arr_mat m c hr)), h2.trans (funext (arr_vec m c hr)),
      h3.trans (funext (arr_level m c hr)), ha⟩
  · refine (θ_run _ _ _).mono (fun r h c => ?_) (Cert.Reference9Ideal.Value.run m' g')
    obtain ⟨h0, h1, h2, h3, ha⟩ := h c
    obtain ⟨e0, e1, e2⟩ := hin c
    have eP : Cert.Reference9Ideal.Whole.aP (StableHlo.launchContents m' c) = aP m c := funext fun a => funext fun b => congrFun e0 _
    have eG : Cert.Reference9Ideal.Whole.aG (StableHlo.launchContents m' c) = aG m c := funext fun a => funext fun b => congrFun e1 _
    have eW : Cert.Reference9Ideal.Whole.aW (StableHlo.launchContents m' c) = aW m c := funext fun a => funext fun b => congrFun e2 _
    refine ⟨h0.trans (funext fun i => (Cert.Reference9Ideal.Whole.out_eq _ i).trans ?_),
      h1.trans (funext fun i => (Cert.Reference9Ideal.Whole.mat_eq _ i).trans ?_),
      h2.trans (funext fun i => (Cert.Reference9Ideal.Whole.vec_eq _ i).trans ?_),
      h3.trans (funext fun i => (Cert.Reference9Ideal.Whole.level_eq _ i).trans ?_), ha⟩
    · rw [eP, eG, eW]; rfl
    · rw [eP, eG]; rfl
    · rw [eP, eG]; rfl
    · rw [eG]; rfl

end Cert.Kernel9Ideal.Heads
-- ==== Proof.FfnA.lean ====
module

public import proofs.«01_k».proof.Defs
public import proofs.«01_k».proof.Proof.Gen.Kernel10Ideal.Value
public import proofs.«01_k».proof.Proof.Gen.Reference10Ideal.Run
public import proofs.«01_k».proof.Proof.Ffn
public import Idealize.ShloMosaic.Lib.Claim
public import Idealize.ShloMosaic.Lib.Pipeline.ValueKit

@[expose] public section

set_option maxRecDepth 65536

noncomputable section

/-! The kernel that ends the first layer: the residual and the experts' output, which comes transposed, row by row normalised. -/

namespace Cert.Kernel10Ideal.Tiles

open Cert.Kernel10Ideal Cert.Kernel10Ideal.Gen Idealize.ShloMosaic Idealize.ShloMosaic.TcCoe Idealize.SL.Sem MatMul

/-! ## One block -/

section

variable (x0 : Vec Ideal S256x2048 .f32) (x1 : Vec Ideal S2048x256 .f32) (x2 x3 : Vec Ideal S1x2048 .f32) (r : Fin 256) (l : Fin 2048)

def blockPost : EReal :=
  postT (fun r l => x0 (ix2 r l)) (fun l r => x1 (ix2 l r)) (fun l => x2 (ix2 0 l)) (fun l => x3 (ix2 0 l)) r l

theorem pay_apply : (k0_pay1 x0 x1 x2 x3 (ix2 r l) : EReal) = blockPost x0 x1 x2 x3 r l := by
  pointwise [k0_pay1]
  rfl

theorem block_apply : (out0_4 x0 x1 x2 x3 (ix2 r l) : EReal) = blockPost x0 x1 x2 x3 r l := by
  frame_out
  exact pay_apply x0 x1 x2 x3 r l

theorem blockCopy_apply : (out0_5 x0 x1 x2 x3 (ix2 r l) : EReal) = blockPost x0 x1 x2 x3 r l := by
  frame_out
  refine Eq.trans ?_ (pay_apply x0 x1 x2 x3 r l)
  unfold k0_pay2
  pointwise

end

variable (m : (ℓ : Loc nD τ sig) → Buf (Elt Ideal) ℓ) (c : Dev nD)

/-! ## The arguments and the arrays the grid reads -/

def aX (r : Fin 8704) (l : Fin 2048) : EReal := (m (c, Proc.tc.devRef main_arg0) : S8704x2048.Idx → EReal) (ix2 r l)
def aF (l : Fin 2048) (r : Fin 8704) : EReal := (m (c, Proc.tc.devRef main_arg1) : S2048x8704.Idx → EReal) (ix2 l r)
def aG (l : Fin 2048) : EReal := (m (c, Proc.tc.devRef main_arg2) : S2x2048.Idx → EReal) (ix2 0 l)
def aB (l : Fin 2048) : EReal := (m (c, Proc.tc.devRef main_arg3) : S2x2048.Idx → EReal) (ix2 0 l)

theorem V_x (r : Fin 8704) (l : Fin 2048) : (V m c main_arg0 : S8704x2048.Idx → EReal) (ix2 r l) = aX m c r l :=
  congrFun (V_main_arg0 m c) _

theorem V_f (l : Fin 2048) (r : Fin 8704) : (V m c main_arg1 : S2048x8704.Idx → EReal) (ix2 l r) = aF m c l r :=
  congrFun (V_main_arg1 m c) _

theorem V_g (l : Fin 2048) : (V m c main_v4 : S1x2048.Idx → EReal) (ix2 0 l) = aG m c l := by
  refine Eq.trans (congrFun (?h : V m c main_v4 = ?X) _) ?_
  case h =>
    unfold V
    after_results
  pointwise [StableHlo.TRef.toBuf, StableHlo.TRef.ofBuf, cast_eq]
  rfl

theorem V_b (l : Fin 2048) : (V m c main_v5 : S1x2048.Idx → EReal) (ix2 0 l) = aB m c l := by
  refine Eq.trans (congrFun (?h : V m c main_v5 = ?X) _) ?_
  case h =>
    unfold V
    after_results
  pointwise [StableHlo.TRef.toBuf, StableHlo.TRef.ofBuf, cast_eq]
  rfl

/-! ## The blocks of point `t` -/

theorem N_eq : cfg0.N = 34 := by decide +kernel

theorem idx : ∀ t : Fin cfg0.N, win0_0.index t = ![t.val, 0] ∧ win0_1.index t = ![0, t.val] ∧ win0_2.index t = ![0, 0] ∧
    win0_3.index t = ![0, 0] ∧ win0_4.index t = ![t.val, 0] ∧ win0_5.index t = ![t.val, 0] :=
  (by decide +kernel : ∀ t : Fin grid0.N, _)

variable (t : Fin cfg0.N)

theorem t_lt : t.val < 34 := N_eq ▸ t.isLt

/-- The row of the whole that point `t` keeps at its row `r`. -/
def rowAt (r : Fin 256) : Fin 8704 := ⟨t.val * 256 + r.val, by have := t_lt t; omega⟩

theorem blk_x (r : Fin 256) (l : Fin 2048) : (iblk m c 0 t : S256x2048.Idx → EReal) (ix2 r l) =
    (V m c main_arg0 : S8704x2048.Idx → EReal) (ix2 (rowAt t r) l) := by
  blk_ext [iblk, idx t, rowAt]

theorem blk_f (l : Fin 2048) (r : Fin 256) : (iblk m c 1 t : S2048x256.Idx → EReal) (ix2 l r) =
    (V m c main_arg1 : S2048x8704.Idx → EReal) (ix2 l (rowAt t r)) := by
  blk_ext [iblk, idx t, rowAt]

theorem blk_g (l : Fin 2048) : (iblk m c 2 t : S1x2048.Idx → EReal) (ix2 0 l) = (V m c main_v4 : S1x2048.Idx → EReal) (ix2 0 l) := by
  blk_ext [iblk, idx t]

theorem blk_b (l : Fin 2048) : (iblk m c 3 t : S1x2048.Idx → EReal) (ix2 0 l) = (V m c main_v5 : S1x2048.Idx → EReal) (ix2 0 l) := by
  blk_ext [iblk, idx t]

/-! ## The arrays after the run -/

theorem block_val (r : Fin 256) (l : Fin 2048) :
    blockPost (iblk m c 0 t) (iblk m c 1 t) (iblk m c 2 t) (iblk m c 3 t) r l = postT (aX m c) (aF m c) (aG m c) (aB m c) (rowAt t r) l := by
  have hg : (fun l => (iblk m c 2 t : S1x2048.Idx → EReal) (ix2 0 l)) = aG m c := funext fun l => (blk_g m c t l).trans (V_g m c l)
  have hb : (fun l => (iblk m c 3 t : S1x2048.Idx → EReal) (ix2 0 l)) = aB m c := funext fun l => (blk_b m c t l).trans (V_b m c l)
  have hx : (fun k => (iblk m c 0 t : S256x2048.Idx → EReal) (ix2 r k)) = aX m c (rowAt t r) :=
    funext fun k => (blk_x m c t r k).trans (V_x m c _ k)
  have hf : (fun k => (iblk m c 1 t : S2048x256.Idx → EReal) (ix2 k r)) = fun k => aF m c k (rowAt t r) :=
    funext fun k => (blk_f m c t k r).trans (V_f m c k _)
  unfold blockPost postT
  rw [hg, hb]
  refine congrArg (fun z => normRow _ _ z _ _ l) (funext fun k => ?_)
  exact congrArg₂ (fun u v : EReal => Ideal.ofBits .f32 0x3FB504F3#32 * u + v) (congrFun hx k) (congrFun hf k)

def val (i : S8704x2048.Idx) : EReal := postT (aX m c) (aF m c) (aG m c) (aB m c) (i 0) (i 1)

theorem arr (i : S8704x2048.Idx) : ((dats m 0 c).arrAt 4 cfg0.N : S8704x2048.Idx → EReal) i = val m c i := by
  refine (dats m 0 c).arrAt_forall_of_covers 4 (fun i v => (v : EReal) = val m c i) (by decide +kernel) (fun t hf y => ?_) i
  have h0 : (win0_4.blk t).view.emb y 0 = rowAt t (y 0) := by apply Fin.ext; blk_simp [idx t, rowAt]
  have h1 : (win0_4.blk t).view.emb y 1 = y 1 := by apply Fin.ext; blk_simp [idx t]
  have hy : y = ix2 (y 0) (y 1) := funext fun a => match a with | 0 => rfl | 1 => rfl
  blk_simp
  unfold val
  rw [h0, h1, after0_4]
  exact (congrArg _ hy).trans ((block_apply _ _ _ _ (y 0) (y 1)).trans (block_val m c t (y 0) (y 1)))

theorem arrCopy (i : S8704x2048.Idx) : ((dats m 0 c).arrAt 5 cfg0.N : S8704x2048.Idx → EReal) i = val m c i := by
  refine (dats m 0 c).arrAt_forall_of_covers 5 (fun i v => (v : EReal) = val m c i) (by decide +kernel) (fun t hf y => ?_) i
  have h0 : (win0_5.blk t).view.emb y 0 = rowAt t (y 0) := by apply Fin.ext; blk_simp [idx t, rowAt]
  have h1 : (win0_5.blk t).view.emb y 1 = y 1 := by apply Fin.ext; blk_simp [idx t]
  have hy : y = ix2 (y 0) (y 1) := funext fun a => match a with | 0 => rfl | 1 => rfl
  blk_simp
  unfold val
  rw [h0, h1, after0_5]
  exact (congrArg _ hy).trans ((blockCopy_apply _ _ _ _ (y 0) (y 1)).trans (block_val m c t (y 0) (y 1)))

end Cert.Kernel10Ideal.Tiles

namespace Cert.Reference10Ideal.Tiles

open Cert.Reference10Ideal Cert.Reference10Ideal.Gen Idealize.ShloMosaic Idealize.ShloMosaic.TcCoe Idealize.SL.Sem MatMul
open Cert.Reference4Ideal.Tiles (normed normed_apply gain gain_apply)

/-! ## The reference -/

def sums (x : FVec Ideal S8704x2048 .f32) (f : FVec Ideal S2048x8704 .f32) : FVec Ideal S8704x2048 .f32 :=
  addf (mulf (broadcastInDim S8704x2048 ![] bcast_S_S8704x2048 (constant S_ .f32 0x3FB504F3#32)) x)
    (transpose S8704x2048 [1, 0] f transposes_S2048x8704_S8704x2048_1_0)

theorem sums_apply (x : FVec Ideal S8704x2048 .f32) (f : FVec Ideal S2048x8704 .f32) (r : Fin 8704) (l : Fin 2048) :
    (sums x f (ix2 r l) : EReal) = Ideal.ofBits .f32 0x3FB504F3#32 * x (ix2 r l) + f (ix2 l r) := by
  pointwise [sums]

theorem out_apply (x : FVec Ideal S8704x2048 .f32) (f : FVec Ideal S2048x8704 .f32) (g b : FVec Ideal S2x2048 .f32) (r : Fin 8704)
    (l : Fin 2048) : (normed (sums x f) (gain g) (gain b) (ix2 r l) : EReal) =
      postT (fun r l => x (ix2 r l)) (fun l r => f (ix2 l r)) (fun l => g (ix2 0 l)) (fun l => b (ix2 0 l)) r l := by
  rw [normed_apply]
  simp only [sums_apply, gain_apply]
  rfl

variable (m : (ℓ : Loc nD τ sig) → Buf (Elt Ideal) ℓ) (c : Dev nD)

def aX (r : Fin 8704) (l : Fin 2048) : EReal := (m ((c.tc : Thread nD τ).loc main_arg0) : S8704x2048.Idx → EReal) (ix2 r l)
def aF (l : Fin 2048) (r : Fin 8704) : EReal := (m ((c.tc : Thread nD τ).loc main_arg1) : S2048x8704.Idx → EReal) (ix2 l r)
def aG (l : Fin 2048) : EReal := (m ((c.tc : Thread nD τ).loc main_arg2) : S2x2048.Idx → EReal) (ix2 0 l)
def aB (l : Fin 2048) : EReal := (m ((c.tc : Thread nD τ).loc main_arg3) : S2x2048.Idx → EReal) (ix2 0 l)

theorem out_val (r : Fin 8704) (l : Fin 2048) :
    (normed (sums (m ((c.tc : Thread nD τ).loc main_arg0)) (m ((c.tc : Thread nD τ).loc main_arg1))) (gain (m ((c.tc : Thread nD τ).loc main_arg2)))
      (gain (m ((c.tc : Thread nD τ).loc main_arg3))) (ix2 r l) : EReal) = postT (aX m c) (aF m c) (aG m c) (aB m c) r l :=
  out_apply _ _ _ _ r l

end Cert.Reference10Ideal.Tiles

namespace Cert.Kernel10Ideal.Tiles

open Cert.Kernel10Ideal Idealize.ShloMosaic Idealize.ShloMosaic.TcCoe Idealize.SL.Sem MatMul

theorem frame_reference : Cert.quiescent_Reference10Ideal (hReference10Ideal := Cert.Reference10Ideal.Gen.facts) :=
  fun m ρ _ => (θ_run _ _ _).mono (fun r h => ⟨fun c => (h c).2.2, sem_eq_zero_of_no_sems (by decide) r.2⟩)
    (Cert.Reference10Ideal.Value.run m ρ)

theorem preserves : Cert.preserves_Kernel10_Kernel10Ideal := trivial

/-- Both programs leave the normalised rows twice. -/
theorem algebraic : Cert.algebraic_Kernel10Ideal_Reference10Ideal (hKernel10Ideal := Cert.Kernel10Ideal.Gen.facts)
    (hReference10Ideal := Cert.Reference10Ideal.Gen.facts) := by
  intro m g m' g' _ hin
  refine ⟨val m, val m, ?_, ?_⟩
  · refine (θ_run _ _ _).mono (fun r h c => ?_) (Cert.Kernel10Ideal.Value.run_blocks m g)
    exact ⟨(h c).1.trans (funext (arr m c)), (h c).2.1.trans (funext (arrCopy m c)), (h c).2.2⟩
  · refine (θ_run _ _ _).mono (fun r h c => ?_) (Cert.Reference10Ideal.Value.run m' g')
    obtain ⟨e0, e1, e2, e3⟩ := hin c
    have eX : Cert.Reference10Ideal.Tiles.aX m' c = aX m c := funext fun a => funext fun b => congrFun e0 _
    have eF : Cert.Reference10Ideal.Tiles.aF m' c = aF m c := funext fun a => funext fun b => congrFun e1 _
    have eG : Cert.Reference10Ideal.Tiles.aG m' c = aG m c := funext fun a => congrFun e2 _
    have eB : Cert.Reference10Ideal.Tiles.aB m' c = aB m c := funext fun a => congrFun e3 _
    have hi : ∀ i : S8704x2048.Idx, i = ix2 (i 0) (i 1) := fun i => funext fun a => match a with | 0 => rfl | 1 => rfl
    refine ⟨(h c).1.trans (funext fun i => ?_), (h c).2.1.trans (funext fun i => ?_), (h c).2.2⟩
    · refine (congrArg _ (hi i)).trans ((Cert.Reference10Ideal.Tiles.out_val m' c (i 0) (i 1)).trans ?_)
      rw [eX, eF, eG, eB]
      rfl
    · refine (congrArg _ (hi i)).trans ((Cert.Reference10Ideal.Tiles.out_val m' c (i 0) (i 1)).trans ?_)
      rw [eX, eF, eG, eB]
      rfl

end Cert.Kernel10Ideal.Tiles
-- ==== Proof.Gates.lean ====
module

public import proofs.«01_k».proof.Defs
public import proofs.«01_k».proof.Proof.Gen.Kernel11Ideal.Value
public import proofs.«01_k».proof.Proof.Gen.Reference11Ideal.Run
public import proofs.«01_k».proof.Proof.Gen.Pre_finite_rows
public import proofs.«01_k».proof.Proof.Dense
public import Idealize.ShloMosaic.Lib.Claim
public import Idealize.ShloMosaic.Lib.Pipeline.ValueKit

@[expose] public section

set_option maxRecDepth 65536

noncomputable section

/-! The kernel that projects onto the gates: each grid point multiplies 512 rows by 128 columns, of which 16 are the gates and
the rest zeros. It splits rows and weights into a rounded part and the remainder and adds three of the four products. Without
rounding the remainder of a real number is zero, so that one product is left. -/

namespace Cert.Kernel11Ideal.Tiles

open Cert.Kernel11Ideal Cert.Kernel11Ideal.Gen Idealize.ShloMosaic Idealize.ShloMosaic.TcCoe Idealize.SL.Sem MatMul

/-! ## The products of remainders, and the padding's zero -/

theorem zero_pad : (FloatOps.sitofp (F := Ideal) FTy.f32 0#32 : EReal) = 0 := by
  show (((0#32 : BitVec 32).toInt : ℝ) : EReal) = 0
  simp

theorem sub_self_real (x : EReal) (h : ∃ r : ℝ, x = r) : x - x = 0 := by
  obtain ⟨r, rfl⟩ := h
  rw [← EReal.coe_sub, sub_self, EReal.coe_zero]

theorem split_dot {n : Nat} (x w : Fin n → EReal) (hx : ∀ k, ∃ r : ℝ, x k = r) (hw : ∀ k, ∃ r : ℝ, w k = r) :
    dot x w + dot (fun k => x k - x k) w + dot x (fun k => w k - w k) = dot x w := by
  unfold dot
  simp only [sub_self_real _ (hx _), sub_self_real _ (hw _), zero_mul, mul_zero, Finset.sum_const_zero, add_zero]

variable (m : (ℓ : Loc nD τ sig) → Buf (Elt Ideal) ℓ) (c : Dev nD)

/-! ## The arguments and the arrays the grid reads -/

def aX (r : Fin 8704) (k : Fin 2048) : EReal := (m (c, Proc.tc.devRef main_arg0) : S8704x2048.Idx → EReal) (ix2 r k)
def aW (k : Fin 2048) (l : Fin 6160) : EReal := (m (c, Proc.tc.devRef main_arg1) : S1x2048x6160.Idx → EReal) (ix3 0 k l)
def aB (l : Fin 16) : EReal := (m (c, Proc.tc.devRef main_arg2) : S1x16.Idx → EReal) (ix2 0 l)

/-- The column of the weights that gate `l` has. -/
def col (l : Fin 16) : Fin 6160 := ⟨6144 + l.val, by omega⟩

/-- The gates' weights and their bias, with zeros up to 128 columns. -/
def gW (k : Fin 2048) (l : Fin 128) : EReal := if h : l.val < 16 then aW m c k (col ⟨l.val, h⟩) else 0
def gB (l : Fin 128) : EReal := if h : l.val < 16 then aB m c ⟨l.val, h⟩ else 0

theorem V_x (r : Fin 8704) (k : Fin 2048) : (V m c main_arg0 : S8704x2048.Idx → EReal) (ix2 r k) = aX m c r k :=
  congrFun (V_main_arg0 m c) _

theorem V_w (k : Fin 2048) (l : Fin 128) : (V m c main_v2 : S2048x128.Idx → EReal) (ix2 k l) = gW m c k l := by
  refine Eq.trans (congrFun (?h : V m c main_v2 = ?X) _) ?_
  case h =>
    unfold V
    simp only [hostOps0, hostOps0_1, hostOps0_2, hostOps0_3, hostOps0_4, List.flatten_cons, List.flatten_nil, List.append_nil, List.cons_append, List.nil_append]
    after_results
  pointwise [StableHlo.TRef.toBuf, StableHlo.TRef.ofBuf, cast_eq]
  unfold gW
  by_cases h : l.val < 16
  · rw [dif_pos h, dif_pos h]
    rfl
  · rw [dif_neg h, dif_neg h]
    pointwise
    exact zero_pad

theorem V_b (l : Fin 128) : (V m c main_v5 : S1x128.Idx → EReal) (ix2 0 l) = gB m c l := by
  refine Eq.trans (congrFun (?h : V m c main_v5 = ?X) _) ?_
  case h =>
    unfold V
    simp only [hostOps0, hostOps0_1, hostOps0_2, hostOps0_3, hostOps0_4, List.flatten_cons, List.flatten_nil, List.append_nil, List.cons_append, List.nil_append]
    after_results
  pointwise [StableHlo.TRef.toBuf, StableHlo.TRef.ofBuf, cast_eq]
  unfold gB
  by_cases h : l.val < 16
  · rw [dif_pos h, dif_pos h]
    rfl
  · rw [dif_neg h, dif_neg h]
    pointwise
    exact zero_pad

/-! ## What the precondition says -/

/-- The rows and the gates' weights are real numbers. -/
structure Real : Prop where
  row : ∀ r k, ∃ x : ℝ, aX m c r k = x
  weight : ∀ k l, ∃ x : ℝ, aW m c k (col l) = x

theorem ofBits_inf : Ideal.ofBits .f32 0x7F800000#32 = ⊤ := by
  unfold Ideal.ofBits Ideal.ieee
  simp

theorem real_of_mask (x : EReal) (h : Ideal.cmp .olt (max x (-x)) (Ideal.ofBits .f32 0x7F800000#32) = 1#1) : ∃ r : ℝ, x = r := by
  rw [ofBits_inf] at h
  have h' : max x (-x) < ⊤ := by
    by_contra hn
    revert h
    unfold Ideal.cmp
    simp [hn]
  induction x using EReal.rec with
  | bot => simp at h'
  | coe r => exact ⟨r, rfl⟩
  | top => simp at h'

theorem real_of_pre (h : Cert.Pre_Kernel11Ideal_finite_rows (hPre_finite_rows := Cert.Pre_finite_rows.Gen.facts) m) (c : Dev nD) :
    Real m c := by
  refine ⟨fun r k => ?_, fun k l => ?_⟩
  · have e := congrFun (h c).1 (ix2 r k)
    refine real_of_mask _ (Eq.trans ?_ e)
    unfold Cert.Pre_finite_rows.fn
    dsimp only
    pointwise
    rfl
  · have e := congrFun (h c).2 (ix3 0 k l)
    refine real_of_mask _ (Eq.trans ?_ e)
    unfold Cert.Pre_finite_rows.fn
    dsimp only
    pointwise
    rfl

theorem real_gW (h : Real m c) (k : Fin 2048) (l : Fin 128) : ∃ x : ℝ, gW m c k l = x := by
  unfold gW
  split_ifs with hl
  · exact h.weight k _
  · exact ⟨0, rfl⟩

/-! ## The blocks of point `t` -/

theorem N_eq : cfg0.N = 17 := by decide +kernel

theorem idx : ∀ t : Fin cfg0.N, win0_0.index t = ![t.val, 0] ∧ win0_1.index t = ![0, 0] ∧
    win0_2.index t = ![0, 0] ∧ win0_3.index t = ![t.val, 0] :=
  (by decide +kernel : ∀ t : Fin grid0.N, _)

variable (t : Fin cfg0.N)

theorem t_lt : t.val < 17 := N_eq ▸ t.isLt

/-- The row of the whole that point `t` keeps at its row `r`. -/
def rowAt (r : Fin 512) : Fin 8704 := ⟨t.val * 512 + r.val, by have := t_lt t; omega⟩

theorem blk_x (r : Fin 512) (k : Fin 2048) : (iblk m c 0 t : S512x2048.Idx → EReal) (ix2 r k) =
    (V m c main_arg0 : S8704x2048.Idx → EReal) (ix2 (rowAt t r) k) := by
  blk_ext [iblk, idx t, rowAt]

theorem blk_w (k : Fin 2048) (l : Fin 128) : (iblk m c 1 t : S2048x128.Idx → EReal) (ix2 k l) =
    (V m c main_v2 : S2048x128.Idx → EReal) (ix2 k l) := by
  blk_ext [iblk, idx t]

theorem blk_b (l : Fin 128) : (iblk m c 2 t : S1x128.Idx → EReal) (ix2 0 l) = (V m c main_v5 : S1x128.Idx → EReal) (ix2 0 l) := by
  blk_ext [iblk, idx t]

/-! ## The array after the run -/

theorem block_apply (x0 : Vec Ideal S512x2048 .f32) (x1 : Vec Ideal S2048x128 .f32) (x2 : Vec Ideal S1x128 .f32) (r : Fin 512) (l : Fin 128) :
    (out0_3 x0 x1 x2 (ix2 r l) : EReal) = dot (fun k => x0 (ix2 r k)) (fun k => x1 (ix2 k l)) +
      dot (fun k => (x0 (ix2 r k) : EReal) - x0 (ix2 r k)) (fun k => x1 (ix2 k l)) +
      dot (fun k => x0 (ix2 r k)) (fun k => (x1 (ix2 k l) : EReal) - x1 (ix2 k l)) + x2 (ix2 0 l) := by
  frame_out
  pointwise [k0_pay1]
  rfl

theorem block_val (hr : Real m c) (r : Fin 512) (l : Fin 128) :
    (out0_3 (iblk m c 0 t) (iblk m c 1 t) (iblk m c 2 t) (ix2 r l) : EReal) =
      dot (aX m c (rowAt t r)) (fun k => gW m c k l) + gB m c l := by
  have hx : (fun k => (iblk m c 0 t : S512x2048.Idx → EReal) (ix2 r k)) = aX m c (rowAt t r) :=
    funext fun k => (blk_x m c t r k).trans (V_x m c _ k)
  have hw : (fun k => (iblk m c 1 t : S2048x128.Idx → EReal) (ix2 k l)) = fun k => gW m c k l :=
    funext fun k => (blk_w m c t k l).trans (V_w m c k l)
  have hb : (iblk m c 2 t : S1x128.Idx → EReal) (ix2 0 l) = gB m c l := (blk_b m c t l).trans (V_b m c l)
  refine (block_apply _ _ _ r l).trans (congrArg₂ (fun u v : EReal => u + v) ?_ hb)
  refine (split_dot (fun k => (iblk m c 0 t : S512x2048.Idx → EReal) (ix2 r k)) (fun k => (iblk m c 1 t : S2048x128.Idx → EReal) (ix2 k l))
    (fun k => ?_) (fun k => ?_)).trans (congrArg₂ dot hx hw)
  · obtain ⟨x, e⟩ := hr.row (rowAt t r) k
    exact ⟨x, (congrFun hx k).trans e⟩
  · obtain ⟨x, e⟩ := real_gW m c hr k l
    exact ⟨x, (congrFun hw k).trans e⟩

def val (i : S8704x128.Idx) : EReal := dot (aX m c (i 0)) (fun k => gW m c k (i 1)) + gB m c (i 1)

theorem arr (hr : Real m c) (i : S8704x128.Idx) : ((dats m 0 c).arrAt 3 cfg0.N : S8704x128.Idx → EReal) i = val m c i := by
  refine (dats m 0 c).arrAt_forall_of_covers 3 (fun i v => (v : EReal) = val m c i) (by decide +kernel) (fun t hf y => ?_) i
  have h0 : (win0_3.blk t).view.emb y 0 = rowAt t (y 0) := by apply Fin.ext; blk_simp [idx t, rowAt]
  have h1 : (win0_3.blk t).view.emb y 1 = y 1 := by apply Fin.ext; blk_simp [idx t]
  have hy : y = ix2 (y 0) (y 1) := funext fun a => match a with | 0 => rfl | 1 => rfl
  blk_simp
  unfold val
  rw [h0, h1, after0_3]
  exact (congrArg _ hy).trans (block_val m c t hr (y 0) (y 1))

end Cert.Kernel11Ideal.Tiles

namespace Cert.Reference11Ideal.Tiles

open Cert.Reference11Ideal Cert.Reference11Ideal.Gen Idealize.ShloMosaic Idealize.ShloMosaic.TcCoe Idealize.SL.Sem MatMul
open Cert.Kernel11Ideal.Tiles (col)

variable (m : (ℓ : Loc nD τ sig) → Buf (Elt Ideal) ℓ) (c : Dev nD)

def aX (r : Fin 8704) (k : Fin 2048) : EReal := (m ((c.tc : Thread nD τ).loc main_arg0) : S8704x2048.Idx → EReal) (ix2 r k)
def aW (k : Fin 2048) (l : Fin 6160) : EReal := (m ((c.tc : Thread nD τ).loc main_arg1) : S1x2048x6160.Idx → EReal) (ix3 0 k l)
def aB (l : Fin 16) : EReal := (m ((c.tc : Thread nD τ).loc main_arg2) : S1x16.Idx → EReal) (ix2 0 l)

def sums (x : FVec Ideal S8704x2048 .f32) (w : FVec Ideal S1x2048x6160 .f32) (b : FVec Ideal S1x16 .f32) : FVec Ideal S8704x16 .f32 :=
  addf (extractStridedSlice S8704x16 ![0, 6144] (Host.dotGeneral (φ₁ := .f32) (φ₂ := .f32) dot_S8704x2048_S2048x6160_S8704x6160_1_0_0_1_n_n none x
    (shapeCast _ w shapeCasts_S1x2048x6160_S2048x6160)) slices_S8704x6160_S8704x16_0_6144)
    (broadcastInDim S8704x16 ![0, 1] bcast_S1x16_S8704x16_0_1 (broadcastInDim S1x16 ![1] bcast_S16_S1x16_1 (shapeCast _ b shapeCasts_S1x16_S16)))

theorem sums_apply (x : FVec Ideal S8704x2048 .f32) (w : FVec Ideal S1x2048x6160 .f32) (b : FVec Ideal S1x16 .f32) (r : Fin 8704) (l : Fin 16) :
    (sums x w b (ix2 r l) : EReal) = dot (fun k => x (ix2 r k)) (fun k => w (ix3 0 k (col l))) + b (ix2 0 l) := by
  pointwise [sums]
  rfl

def padded (x : FVec Ideal S8704x16 .f32) : FVec Ideal S8704x128 .f32 :=
  pad S8704x128 ![0, 0] ![0, 112] ![0, 0] x (sitofp .f32 (constantI S_ 32 0#32)) pads_S8704x16_S8704x128_000_01120 h_S_

theorem padded_apply (x : FVec Ideal S8704x16 .f32) (r : Fin 8704) (l : Fin 128) :
    (padded x (ix2 r l) : EReal) = if h : l.val < 16 then (x (ix2 r ⟨l.val, h⟩) : EReal) else 0 := by
  pointwise [padded]
  by_cases h : l.val < 16
  · rw [dif_pos h, dif_pos h]
  · rw [dif_neg h, dif_neg h]
    pointwise
    exact Cert.Kernel11Ideal.Tiles.zero_pad

/-- What the reference leaves: the gates, and zeros after them. -/
theorem out_val (r : Fin 8704) (l : Fin 128) :
    (padded (sums (m ((c.tc : Thread nD τ).loc main_arg0)) (m ((c.tc : Thread nD τ).loc main_arg1)) (m ((c.tc : Thread nD τ).loc main_arg2)))
      (ix2 r l) : EReal) = if h : l.val < 16 then dot (aX m c r) (fun k => aW m c k (col ⟨l.val, h⟩)) + aB m c ⟨l.val, h⟩ else 0 := by
  rw [padded_apply]
  split_ifs with h
  · exact sums_apply _ _ _ r ⟨l.val, h⟩
  · rfl

end Cert.Reference11Ideal.Tiles

namespace Cert.Kernel11Ideal.Tiles

open Cert.Kernel11Ideal Idealize.ShloMosaic Idealize.ShloMosaic.TcCoe Idealize.SL.Sem MatMul

theorem frame_reference : Cert.quiescent_Reference11Ideal (hReference11Ideal := Cert.Reference11Ideal.Gen.facts) :=
  fun m ρ _ => (θ_run _ _ _).mono (fun r h => ⟨fun c => (h c).2, sem_eq_zero_of_no_sems (by decide) r.2⟩)
    (Cert.Reference11Ideal.Value.run m ρ)

theorem frame_reference_finite : Cert.quiescent_Reference11Ideal_pre_finite_rows (hReference11Ideal := Cert.Reference11Ideal.Gen.facts)
    (hPre_finite_rows := Cert.Pre_finite_rows.Gen.facts) :=
  fun m ρ _ => frame_reference m ρ trivial

theorem preserves : Cert.preserves_Kernel11_Kernel11Ideal := trivial

/-- Both programs leave the gates before their activation, and zeros after them. -/
theorem algebraic : Cert.algebraic_Kernel11Ideal_Reference11Ideal_pre_finite_rows (hKernel11Ideal := Cert.Kernel11Ideal.Gen.facts)
    (hReference11Ideal := Cert.Reference11Ideal.Gen.facts) (hPre_finite_rows := Cert.Pre_finite_rows.Gen.facts) := by
  intro m g m' g' hp hin
  refine ⟨val m, ?_, ?_⟩
  · refine (θ_run _ _ _).mono (fun r h c => ?_) (Cert.Kernel11Ideal.Value.run_blocks m g)
    exact ⟨(h c).1.trans (funext (arr m c (real_of_pre m hp c))), (h c).2⟩
  · refine (θ_run _ _ _).mono (fun r h c => ?_) (Cert.Reference11Ideal.Value.run m' g')
    obtain ⟨e0, e1, e2⟩ := hin c
    refine ⟨(h c).1.trans (funext fun i => ?_), (h c).2⟩
    have hi : i = ix2 (i 0) (i 1) := funext fun a => match a with | 0 => rfl | 1 => rfl
    refine (congrArg _ hi).trans ((Cert.Reference11Ideal.Tiles.out_val m' c (i 0) (i 1)).trans ?_)
    have eX : Cert.Reference11Ideal.Tiles.aX m' c = aX m c := funext fun a => funext fun b => congrFun e0 _
    have eW : Cert.Reference11Ideal.Tiles.aW m' c = aW m c := funext fun a => funext fun b => congrFun e1 _
    have eB : Cert.Reference11Ideal.Tiles.aB m' c = aB m c := funext fun a => congrFun e2 _
    rw [eX, eW, eB]
    unfold val gW gB
    split_ifs with hl
    · rfl
    · unfold dot
      simp only [mul_zero, Finset.sum_const_zero, add_zero]

end Cert.Kernel11Ideal.Tiles
-- ==== Proof.lean ====
/- The proof of the certificate's claim: the frames as generated, the sample batch's recurrence value by value, and the
   layer's matrix products with what follows each of them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_tokens
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Pre_finite_rows
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite
public import proofs.«01_k».proof.Proof.Result
public import proofs.«01_k».proof.Proof.Ref
public import proofs.«01_k».proof.Proof.GateU
public import proofs.«01_k».proof.Proof.GateV
public import proofs.«01_k».proof.Proof.Proj
public import proofs.«01_k».proof.Proof.OutA
public import proofs.«01_k».proof.Proof.OutB
public import proofs.«01_k».proof.Proof.Ffn
public import proofs.«01_k».proof.Proof.MixRef
public import proofs.«01_k».proof.Proof.PromptClaim
public import proofs.«01_k».proof.Proof.FfnA
public import proofs.«01_k».proof.Proof.Gates
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem Chunk

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_reference : Cert.quiescent_ReferenceIdeal (hReferenceIdeal := Cert.ReferenceIdeal.Gen.facts) :=
  fun m ρ _ => (θ_run _ _ _).mono (fun r h => ⟨fun c => (h c).2.2.2.2, sem_eq_zero_of_no_sems (by decide) r.2⟩)
    (Cert.ReferenceIdeal.Value.run m ρ)

section

open Cert.KernelIdeal.Heads Cert.KernelIdeal

variable (m : (ℓ : Loc nD τ sig) → Buf (Elt Ideal) ℓ) (c : Dev nD)

/-- The arrays both programs leave, the first of them at the batch's own tokens. -/
def vOut (i : S128x8x2048.Idx) : EReal :=
  if h : (i 1).val < 4 then out (aP m c) (aG m c) (aC m c) (aN m c) (aM m c) (aW m c) (i 0) (hd (i 2)) ⟨(i 1).val, h⟩ (ln (i 2)) else 0
def vMat (i : S128x8x128x256.Idx) : EReal := newC (aP m c) (aG m c) (aC m c) (aM m c) (i 0) (i 1) (i 2) (i 3)
def vVec (i : S128x8x1x128.Idx) : EReal := newN (aP m c) (aG m c) (aN m c) (aM m c) (i 0) (i 1) (i 3)
def vLevel (i : S128x8x1x128.Idx) : EReal := newM (aG m c) (aM m c) (i 0) (i 1)

end

theorem token_lt (s : Fin 8) (h : IntOp.cmpi .slt (BitVec.ofNat 32 s.val) 4#32 = 1#1) : s.val < 4 := by
  revert s; decide

theorem algebraic : Cert.algebraic_KernelIdeal_ReferenceIdeal_on_tokens (hKernelIdeal := Cert.KernelIdeal.Gen.facts)
    (hReferenceIdeal := Cert.ReferenceIdeal.Gen.facts) (hOn_tokens := Cert.On_tokens.Gen.facts) := by
  intro m g m' g' _ hin
  refine ⟨vOut m, vMat m, vVec m, vLevel m, ?_, ?_⟩
  · refine (θ_run _ _ _).mono (fun r h c => ?_) (Cert.KernelIdeal.Value.run_blocks m g)
    obtain ⟨h0, h1, h2, h3, ha⟩ := h c
    refine ⟨fun i hi => ?_, fun i _ => ?_, fun i _ => ?_, fun i _ => ?_, ha⟩
    · have hs : (i 1).val < 4 := token_lt (i 1) hi
      rw [h0]
      refine (Cert.KernelIdeal.Heads.arr_out m c i ⟨(i 1).val, hs⟩ rfl).trans ?_
      unfold vOut
      rw [dif_pos hs]
    · rw [h1]; exact Cert.KernelIdeal.Heads.arr_mat m c i
    · rw [h2]; exact Cert.KernelIdeal.Heads.arr_vec m c i
    · rw [h3]; exact Cert.KernelIdeal.Heads.arr_level m c i
  · refine (θ_run _ _ _).mono (fun r h c => ?_) (Cert.ReferenceIdeal.Value.run m' g')
    obtain ⟨h0, h1, h2, h3, ha⟩ := h c
    obtain ⟨e0, e1, e2, e3, e4, e5⟩ := hin c
    have eP : Cert.ReferenceIdeal.Sample.aP (launchContents m' c) = Cert.KernelIdeal.Heads.aP m c :=
      funext fun a => funext fun b => congrFun e0 _
    have eG : Cert.ReferenceIdeal.Sample.aG (launchContents m' c) = Cert.KernelIdeal.Heads.aG m c :=
      funext fun a => funext fun b => congrFun e1 _
    have eC : Cert.ReferenceIdeal.Sample.aC (launchContents m' c) = Cert.KernelIdeal.Heads.aC m c :=
      funext fun a => funext fun b => funext fun d => funext fun j => congrFun e2 _
    have eN : Cert.ReferenceIdeal.Sample.aN (launchContents m' c) = Cert.KernelIdeal.Heads.aN m c :=
      funext fun a => funext fun b => funext fun d => congrFun e3 _
    have eM : Cert.ReferenceIdeal.Sample.aM (launchContents m' c) = Cert.KernelIdeal.Heads.aM m c :=
      funext fun a => funext fun b => congrFun e4 _
    have eW : Cert.ReferenceIdeal.Sample.aW (launchContents m' c) = Cert.KernelIdeal.Heads.aW m c :=
      funext fun a => funext fun b => congrFun e5 _
    refine ⟨fun i hi => ?_, fun i _ => ?_, fun i _ => ?_, fun i _ => ?_, ha⟩
    · have hs : (i 1).val < 4 := token_lt (i 1) hi
      refine (congrFun h0 i).trans ((Cert.ReferenceIdeal.Sample.out_eq (launchContents m' c) i hs).trans ?_)
      rw [eP, eG, eC, eN, eM, eW]
      unfold vOut
      rw [dif_pos hs]
      rfl
    · refine (congrFun h1 i).trans ((Cert.ReferenceIdeal.Sample.mat_eq (launchContents m' c) i).trans ?_)
      rw [eP, eG, eC, eM]
      rfl
    · refine (congrFun h2 i).trans ((Cert.ReferenceIdeal.Sample.vec_eq (launchContents m' c) i).trans ?_)
      rw [eP, eG, eN, eM]
      rfl
    · refine (congrFun h3 i).trans ((Cert.ReferenceIdeal.Sample.level_eq (launchContents m' c) i).trans ?_)
      rw [eG, eM]
      rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel6.Gen.facts, Cert.Kernel6Ideal.Gen.facts, Cert.Reference6Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite.Gen.facts, Cert.Pre_finite_rows.Gen.facts, Cert.On_tokens.Gen.facts,
    frame_kernel, frame_ideal, frame_reference,
    fun m ρ _ => Cert.Kernel2.Gen.frame m ρ, fun m ρ _ => Cert.Kernel2Ideal.Gen.frame m ρ, Cert.Kernel2Ideal.Tiles.frame_reference,
    fun m ρ _ => Cert.Kernel6.Gen.frame m ρ, fun m ρ _ => Cert.Kernel6Ideal.Gen.frame m ρ, Cert.Kernel6Ideal.Tiles.frame_reference,
    fun m ρ _ => Cert.Kernel3.Gen.frame m ρ, fun m ρ _ => Cert.Kernel3Ideal.Gen.frame m ρ, Cert.Kernel3Ideal.Tiles.frame_reference,
    fun m ρ _ => Cert.Kernel4.Gen.frame m ρ, fun m ρ _ => Cert.Kernel4Ideal.Gen.frame m ρ, Cert.Kernel4Ideal.Tiles.frame_reference,
    fun m ρ _ => Cert.Kernel5.Gen.frame m ρ, fun m ρ _ => Cert.Kernel5Ideal.Gen.frame m ρ, Cert.Kernel5Ideal.Tiles.frame_reference,
    fun m ρ _ => Cert.Kernel7.Gen.frame m ρ, fun m ρ _ => Cert.Kernel7Ideal.Gen.frame m ρ, Cert.Kernel7Ideal.Tiles.frame_reference,
    fun m ρ _ => Cert.Kernel8.Gen.frame m ρ, fun m ρ _ => Cert.Kernel8Ideal.Gen.frame m ρ, Cert.Kernel8Ideal.Tiles.frame_reference,
    fun m ρ _ => Cert.Kernel9.Gen.frame m ρ, fun m ρ _ => Cert.Kernel9Ideal.Gen.frame m ρ, fun m ρ _ => Cert.Kernel9Ideal.Gen.frame m ρ,
    Cert.Kernel9Ideal.Heads.frame_reference, Cert.Kernel9Ideal.Heads.frame_reference_finite,
    fun m ρ _ => Cert.Kernel10.Gen.frame m ρ, fun m ρ _ => Cert.Kernel10Ideal.Gen.frame m ρ, Cert.Kernel10Ideal.Tiles.frame_reference,
    fun m ρ _ => Cert.Kernel11.Gen.frame m ρ, fun m ρ _ => Cert.Kernel11Ideal.Gen.frame m ρ, fun m ρ _ => Cert.Kernel11Ideal.Gen.frame m ρ,
    Cert.Kernel11Ideal.Tiles.frame_reference, Cert.Kernel11Ideal.Tiles.frame_reference_finite,
    trivial, algebraic,
    Cert.Kernel2Ideal.Tiles.preserves, Cert.Kernel2Ideal.Tiles.algebraic,
    Cert.Kernel6Ideal.Tiles.preserves, Cert.Kernel6Ideal.Tiles.algebraic,
    Cert.Kernel3Ideal.Tiles.preserves, Cert.Kernel3Ideal.Tiles.algebraic,
    Cert.Kernel4Ideal.Tiles.preserves, Cert.Kernel4Ideal.Tiles.algebraic,
    Cert.Kernel5Ideal.Tiles.preserves, Cert.Kernel5Ideal.Tiles.algebraic,
    Cert.Kernel7Ideal.Tiles.preserves, Cert.Kernel7Ideal.Tiles.algebraic,
    Cert.Kernel8Ideal.Tiles.preserves, Cert.Kernel8Ideal.Tiles.algebraic,
    Cert.Kernel9Ideal.Heads.preserves, Cert.Kernel9Ideal.Heads.algebraic,
    Cert.Kernel10Ideal.Tiles.preserves, Cert.Kernel10Ideal.Tiles.algebraic,
    Cert.Kernel11Ideal.Tiles.preserves, Cert.Kernel11Ideal.Tiles.algebraic⟩

end Cert.Proof

end
